-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v62) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4224x6144 : Shape := ⟨2, ![4224, 6144]⟩
abbrev S8x128 : Shape := ⟨2, ![8, 128]⟩
abbrev S8x4224 : Shape := ⟨2, ![8, 4224]⟩
abbrev S4224x1024 : Shape := ⟨2, ![4224, 1024]⟩
abbrev S_ : Shape := ⟨0, ![]⟩

class Facts : Prop where
  bcast_S_S4224x6144 : S_.BroadcastsInDim S4224x6144 (![] : Fin 0 → Fin S4224x6144.rank)
  bcast_S_S8x128 : S_.BroadcastsInDim S8x128 (![] : Fin 0 → Fin S8x128.rank)
  bcast_S_S8x4224 : S_.BroadcastsInDim S8x4224 (![] : Fin 0 → Fin S8x4224.rank)
  bcast_S_S4224x1024 : S_.BroadcastsInDim S4224x1024 (![] : Fin 0 → Fin S4224x1024.rank)

variable [Facts]

def fn {F : FTy → Type} [FloatOps F] (main_arg0 : FVec F S4224x6144 .bf16) (main_arg1 : FVec F S8x128 .f32) (main_arg2 : FVec F S8x4224 .f32) (main_arg3 : FVec F S4224x1024 .f32) : IVec S4224x6144 1 × IVec S8x128 1 × IVec S8x4224 1 × IVec S4224x1024 1 :=
  let main_v0 : FVec F S4224x6144 .bf16 := Host.absf main_arg0
  let main_cst : FVec F S_ .bf16 := constant S_ .bf16 0x7F80#16
  let main_v1 : FVec F S4224x6144 .bf16 := broadcastInDim S4224x6144 ![] bcast_S_S4224x6144 main_cst
  let main_v2 : IVec S4224x6144 1 := cmpf .olt main_v0 main_v1
  let main_v3 : FVec F S8x128 .f32 := Host.absf main_arg1
  let main_cst_0 : FVec F S_ .f32 := constant S_ .f32 0x7F800000#32
  let main_v4 : FVec F S8x128 .f32 := broadcastInDim S8x128 ![] bcast_S_S8x128 main_cst_0
  let main_v5 : IVec S8x128 1 := cmpf .olt main_v3 main_v4
  let main_v6 : FVec F S8x4224 .f32 := Host.absf main_arg2
  let main_cst_1 : FVec F S_ .f32 := constant S_ .f32 0x7F800000#32
  let main_v7 : FVec F S8x4224 .f32 := broadcastInDim S8x4224 ![] bcast_S_S8x4224 main_cst_1
  let main_v8 : IVec S8x4224 1 := cmpf .olt main_v6 main_v7
  let main_v9 : FVec F S4224x1024 .f32 := Host.absf main_arg3
  let main_cst_2 : FVec F S_ .f32 := constant S_ .f32 0x7F800000#32
  let main_v10 : FVec F S4224x1024 .f32 := broadcastInDim S4224x1024 ![] bcast_S_S4224x1024 main_cst_2
  let main_v11 : IVec S4224x1024 1 := cmpf .olt main_v9 main_v10
  (main_v2, main_v5, main_v8, main_v11)
-- ==== Kernel.lean ====
abbrev S4224x6144 : Shape := ⟨2, ![4224, 6144]⟩
abbrev S8x128 : Shape := ⟨2, ![8, 128]⟩
abbrev S8x4224 : Shape := ⟨2, ![8, 4224]⟩
abbrev S4224x1024 : Shape := ⟨2, ![4224, 1024]⟩
abbrev S4224x8x128 : Shape := ⟨3, ![4224, 8, 128]⟩
abbrev S8x4224x4224 : Shape := ⟨3, ![8, 4224, 4224]⟩
abbrev S_ : Shape := ⟨0, ![]⟩
abbrev S8x4224x1 : Shape := ⟨3, ![8, 4224, 1]⟩
abbrev S8x1x4224 : Shape := ⟨3, ![8, 1, 4224]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S8x128x4224 : Shape := ⟨3, ![8, 128, 4224]⟩
abbrev S8x1x128 : Shape := ⟨3, ![8, 1, 128]⟩
abbrev S8x33x128 : Shape := ⟨3, ![8, 33, 128]⟩
abbrev S384x128 : Shape := ⟨2, ![384, 128]⟩
abbrev S4224x128 : Shape := ⟨2, ![4224, 128]⟩
abbrev S1x1x128 : Shape := ⟨3, ![1, 1, 128]⟩
abbrev S1x384x1 : Shape := ⟨3, ![1, 384, 1]⟩
abbrev S1x33x128 : Shape := ⟨3, ![1, 33, 128]⟩
abbrev S1x128 : Shape := ⟨2, ![1, 128]⟩
abbrev S384 : Shape := ⟨1, ![384]⟩
abbrev S384x1 : Shape := ⟨2, ![384, 1]⟩
abbrev S128 : Shape := ⟨1, ![128]⟩
abbrev S128x128 : Shape := ⟨2, ![128, 128]⟩

abbrev nBuf : Space → Nat
  | .hbm => 71
  | .vmem => 30
  | .smem => 0
  | _ => 0

abbrev bufTy : (tb : Table) → Fin (tcTables nBuf tb) → BufTy
  | .hbm, ⟨0, _⟩ => ⟨S4224x6144, .bf16⟩
  | .hbm, ⟨1, _⟩ => ⟨S8x128, .f32⟩
  | .hbm, ⟨2, _⟩ => ⟨S8x4224, .f32⟩
  | .hbm, ⟨3, _⟩ => ⟨S4224x1024, .f32⟩
  | .hbm, ⟨4, _⟩ => ⟨S4224x1024, .bf16⟩
  | .hbm, ⟨5, _⟩ => ⟨S4224x1024, .f32⟩
  | .hbm, ⟨6, _⟩ => ⟨S4224x8x128, .f32⟩
  | .hbm, ⟨7, _⟩ => ⟨S4224x1024, .bf16⟩
  | .hbm, ⟨8, _⟩ => ⟨S4224x1024, .f32⟩
  | .hbm, ⟨9, _⟩ => ⟨S4224x8x128, .f32⟩
  | .hbm, ⟨10, _⟩ => ⟨S4224x1024, .bf16⟩
  | .hbm, ⟨11, _⟩ => ⟨S4224x1024, .f32⟩
  | .hbm, ⟨12, _⟩ => ⟨S4224x8x128, .f32⟩
  | .hbm, ⟨13, _⟩ => ⟨S8x4224x4224, .f32⟩
  | .hbm, ⟨14, _⟩ => ⟨S_, .f32⟩
  | .hbm, ⟨15, _⟩ => ⟨S8x4224x4224, .f32⟩
  | .hbm, ⟨16, _⟩ => ⟨S8x4224x4224, .f32⟩
  | .hbm, ⟨17, _⟩ => ⟨S8x4224x1, .f32⟩
  | .hbm, ⟨18, _⟩ => ⟨S8x1x4224, .f32⟩
  | .hbm, ⟨19, _⟩ => ⟨S8x4224x4224, .f32⟩
  | .hbm, ⟨20, _⟩ => ⟨S8x4224x4224, .f32⟩
  | .hbm, ⟨21, _⟩ => ⟨S8x4224x4224, .f32⟩
  | .hbm, ⟨22, _⟩ => ⟨S8x4224x4224, .f32⟩
  | .hbm, ⟨23, _⟩ => ⟨S4224, .i32⟩
  | .hbm, ⟨24, _⟩ => ⟨S4224x1, .i32⟩
  | .hbm, ⟨25, _⟩ => ⟨S4224, .i32⟩
  | .hbm, ⟨26, _⟩ => ⟨S1x4224, .i32⟩
  | .hbm, ⟨27, _⟩ => ⟨S4224x4224, .i32⟩
  | .hbm, ⟨28, _⟩ => ⟨S4224x4224, .i32⟩
  | .hbm, ⟨29, _⟩ => ⟨S4224x4224, .i1⟩
  | .hbm, ⟨30, _⟩ => ⟨S_, .f32⟩
  | .hbm, ⟨31, _⟩ => ⟨S_, .f32⟩
  | .hbm, ⟨32, _⟩ => ⟨S8x4224x4224, .i1⟩
  | .hbm, ⟨33, _⟩ => ⟨S8x4224x4224, .f32⟩
  | .hbm, ⟨34, _⟩ => ⟨S8x4224x4224, .f32⟩
  | .hbm, ⟨35, _⟩ => ⟨S_, .f32⟩
  | .hbm, ⟨36, _⟩ => ⟨S8x4224, .f32⟩
  | .hbm, ⟨37, _⟩ => ⟨S_, .f32⟩
  | .hbm, ⟨38, _⟩ => ⟨S8x4224, .f32⟩
  | .hbm, ⟨39, _⟩ => ⟨S8x4224, .f32⟩
  | .hbm, ⟨40, _⟩ => ⟨S8x4224x1, .f32⟩
  | .hbm, ⟨41, _⟩ => ⟨S8x4224x4224, .f32⟩
  | .hbm, ⟨42, _⟩ => ⟨S8x4224x4224, .f32⟩
  | .hbm, ⟨43, _⟩ => ⟨S8x4224x4224, .f32⟩
  | .hbm, ⟨44, _⟩ => ⟨S_, .f32⟩
  | .hbm, ⟨45, _⟩ => ⟨S8x4224, .f32⟩
  | .hbm, ⟨46, _⟩ => ⟨S8x4224x1, .f32⟩
  | .hbm, ⟨47, _⟩ => ⟨S8x4224x4224, .f32⟩
  | .hbm, ⟨48, _⟩ => ⟨S8x4224x4224, .f32⟩
  | .hbm, ⟨49, _⟩ => ⟨S_, .f32⟩
  | .hbm, ⟨50, _⟩ => ⟨S8x4224, .f32⟩
  | .hbm, ⟨51, _⟩ => ⟨S8x4224x1, .f32⟩
  | .hbm, ⟨52, _⟩ => ⟨S8x128x4224, .f32⟩
  | .hbm, ⟨53, _⟩ => ⟨S4224x8x128, .f32⟩
  | .hbm, ⟨54, _⟩ => ⟨S8x4224x4224, .f32⟩
  | .hbm, ⟨55, _⟩ => ⟨S8x4224x4224, .f32⟩
  | .hbm, ⟨56, _⟩ => ⟨S8x4224x4224, .f32⟩
  | .hbm, ⟨57, _⟩ => ⟨S_, .f32⟩
  | .hbm, ⟨58, _⟩ => ⟨S8x4224, .f32⟩
  | .hbm, ⟨59, _⟩ => ⟨S8x4224x1, .f32⟩
  | .hbm, ⟨60, _⟩ => ⟨S8x4224x1, .f32⟩
  | .hbm, ⟨61, _⟩ => ⟨S8x4224x1, .f32⟩
  | .hbm, ⟨62, _⟩ => ⟨S8x1x128, .f32⟩
  | .hbm, ⟨63, _⟩ => ⟨S8x4224x1, .f32⟩
  | .hbm, ⟨64, _⟩ => ⟨S8x33x128, .f32⟩
  | .hbm, ⟨65, _⟩ => ⟨S4224x1024, .f32⟩
  | .hbm, ⟨66, _⟩ => ⟨S4224x1024, .bf16⟩
  | .hbm, ⟨67, _⟩ => ⟨S4224x1024, .bf16⟩
  | .hbm, ⟨68, _⟩ => ⟨S4224x1024, .bf16⟩
  | .hbm, ⟨69, _⟩ => ⟨S8x1x128, .f32⟩
  | .hbm, ⟨70, _⟩ => ⟨S8x33x128, .f32⟩
  | .local _ .vmem, ⟨0, _⟩ => ⟨S384x128, .bf16⟩
  | .local _ .vmem, ⟨1, _⟩ => ⟨S384x128, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S1x1x128, .f32⟩
  | .local _ .vmem, ⟨7, _⟩ => ⟨S1x1x128, .f32⟩
  | .local _ .vmem, ⟨8, _⟩ => ⟨S1x384x1, .f32⟩
  | .local _ .vmem, ⟨9, _⟩ => ⟨S1x384x1, .f32⟩
  | .local _ .vmem, ⟨10, _⟩ => ⟨S1x33x128, .f32⟩
  | .local _ .vmem, ⟨11, _⟩ => ⟨S1x33x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | .local _ .vmem, ⟨15, _⟩ => ⟨S384x128, .f32⟩
  | .local _ .vmem, ⟨16, _⟩ => ⟨S1x384x1, .f32⟩
  | .local _ .vmem, ⟨17, _⟩ => ⟨S1x384x1, .f32⟩
  | .local _ .vmem, ⟨18, _⟩ => ⟨S384x128, .bf16⟩
  | .local _ .vmem, ⟨19, _⟩ => ⟨S384x128, .bf16⟩
  | .local _ .vmem, ⟨20, _⟩ => ⟨S4224x128, .bf16⟩
  | .local _ .vmem, ⟨21, _⟩ => ⟨S4224x128, .bf16⟩
  | .local _ .vmem, ⟨22, _⟩ => ⟨S4224x128, .bf16⟩
  | .local _ .vmem, ⟨23, _⟩ => ⟨S4224x128, .bf16⟩
  | .local _ .vmem, ⟨24, _⟩ => ⟨S1x1x128, .f32⟩
  | .local _ .vmem, ⟨25, _⟩ => ⟨S1x1x128, .f32⟩
  | .local _ .vmem, ⟨26, _⟩ => ⟨S1x33x128, .f32⟩
  | .local _ .vmem, ⟨27, _⟩ => ⟨S1x33x128, .f32⟩
  | .local _ .vmem, ⟨28, _⟩ => ⟨S4224x128, .f32⟩
  | .local _ .vmem, ⟨29, _⟩ => ⟨S4224x128, .f32⟩
  | _, _ => ⟨S4224x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52_0 : Ref sig .tc := ⟨.hbm, 66, rfl⟩
abbrev main_v52_1 : Ref sig .tc := ⟨.hbm, 67, rfl⟩
abbrev main_v52_2 : Ref sig .tc := ⟨.hbm, 68, rfl⟩
abbrev main_v52_3 : Ref sig .tc := ⟨.hbm, 69, rfl⟩
abbrev main_v52_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_36 : BitVec 32 := 1#32
  ⟨c0_i32_34, v83, c1_i32_36⟩
def k0_mult1 (i : grid0.Coords) (k0_t1 : Fin (k0_t1_loop i).trips) : BitVec 32 :=
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let c0_i32_129 : BitVec 32 := 0#32
  let v290 : BitVec 32 := Scalar.addi v289 c0_i32_129
  let c128_i32_130 : BitVec 32 := 128#32
  let v291 : BitVec 32 := Scalar.muli v290 c128_i32_130
  v291
def k0_mult2 (i : grid0.Coords) (k0_t1 : Fin (k0_t1_loop i).trips) : BitVec 32 :=
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let c1_i32_131 : BitVec 32 := 1#32
  let v293 : BitVec 32 := Scalar.addi v289 c1_i32_131
  let c128_i32_132 : BitVec 32 := 128#32
  let v294 : BitVec 32 := Scalar.muli v293 c128_i32_132
  v294
def k0_mult3 (i : grid0.Coords) (k0_t1 : Fin (k0_t1_loop i).trips) : BitVec 32 :=
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let c2_i32_133 : BitVec 32 := 2#32
  let v296 : BitVec 32 := Scalar.addi v289 c2_i32_133
  let c128_i32_134 : BitVec 32 := 128#32
  let v297 : BitVec 32 := Scalar.muli v296 c128_i32_134
  v297
def k0_mult4 (i : grid0.Coords) (k0_t1 : Fin (k0_t1_loop i).trips) : BitVec 32 :=
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let c3_i32_135 : BitVec 32 := 3#32
  let v299 : BitVec 32 := Scalar.addi v289 c3_i32_135
  let c128_i32_136 : BitVec 32 := 128#32
  let v300 : BitVec 32 := Scalar.muli v299 c128_i32_136
  v300
def k0_mult5 (i : grid0.Coords) (k0_t1 : Fin (k0_t1_loop i).trips) : BitVec 32 :=
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let c4_i32 : BitVec 32 := 4#32
  let v302 : BitVec 32 := Scalar.addi v289 c4_i32
  let c128_i32_137 : BitVec 32 := 128#32
  let v303 : BitVec 32 := Scalar.muli v302 c128_i32_137
  v303
def k0_mult6 (i : grid0.Coords) (k0_t1 : Fin (k0_t1_loop i).trips) : BitVec 32 :=
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let c5_i32 : BitVec 32 := 5#32
  let v305 : BitVec 32 := Scalar.addi v289 c5_i32
  let c128_i32_138 : BitVec 32 := 128#32
  let v306 : BitVec 32 := Scalar.muli v305 c128_i32_138
  v306
def k0_off1 (i : grid0.Coords) (k0_t1 : Fin (k0_t1_loop i).trips) (c0_i32_129 : BitVec 32) : Fin 2 → Nat :=
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let v290 : BitVec 32 := Scalar.addi v289 c0_i32_129
  let c128_i32_130 : BitVec 32 := 128#32
  let v291 : BitVec 32 := Scalar.muli v290 c128_i32_130
  let v292 : BitVec 32 := v291
  let v308 : Index := Scalar.indexCast v292
  let c0_139 : Index := 0#32
  ![v308.toNat, 0]
def k0_off2 (i : grid0.Coords) (k0_t1 : Fin (k0_t1_loop i).trips) (c0_i32_142 : BitVec 32) : Fin 3 → Nat :=
  let c0_143 : Index := 0#32
  let c0_i32_34 : BitVec 32 := 0#32
  let c1_i32_36 : BitVec 32 := 1#32
  let arg18 : BitVec 32 := Scf.iv c0_i32_34 c1_i32_36 k0_t1
  let c6_i32 : BitVec 32 := 6#32
  let v289 : BitVec 32 := Scalar.muli arg18 c6_i32
  let v313 : BitVec 32 := Scalar.addi v289 c0_i32_142
  let v314 : Index := Scalar.indexCast v313
  let c0_144 : Index := 0#32
  ![0, v314.toNat, 0]
@[reducible] def k0_t2_loop (i : grid0.Coords) : Scf.Loop 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let v80 : BitVec 32 := Scalar.addi c0_i32_34 v79
  let c1_i32_37 : BitVec 32 := 1#32
  ⟨v83, v80, c1_i32_37⟩
def k0_mult7 (i : grid0.Coords) (k0_t2 : Fin (k0_t2_loop i).trips) : BitVec 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let c0_i32_129 : BitVec 32 := 0#32
  let v290 : BitVec 32 := Scalar.addi v289 c0_i32_129
  let c128_i32_130 : BitVec 32 := 128#32
  let v291 : BitVec 32 := Scalar.muli v290 c128_i32_130
  v291
def k0_mult8 (i : grid0.Coords) (k0_t2 : Fin (k0_t2_loop i).trips) : BitVec 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let c1_i32_131 : BitVec 32 := 1#32
  let v293 : BitVec 32 := Scalar.addi v289 c1_i32_131
  let c128_i32_132 : BitVec 32 := 128#32
  let v294 : BitVec 32 := Scalar.muli v293 c128_i32_132
  v294
def k0_mult9 (i : grid0.Coords) (k0_t2 : Fin (k0_t2_loop i).trips) : BitVec 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let c2_i32_133 : BitVec 32 := 2#32
  let v296 : BitVec 32 := Scalar.addi v289 c2_i32_133
  let c128_i32_134 : BitVec 32 := 128#32
  let v297 : BitVec 32 := Scalar.muli v296 c128_i32_134
  v297
def k0_mult10 (i : grid0.Coords) (k0_t2 : Fin (k0_t2_loop i).trips) : BitVec 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let c3_i32_135 : BitVec 32 := 3#32
  let v299 : BitVec 32 := Scalar.addi v289 c3_i32_135
  let c128_i32_136 : BitVec 32 := 128#32
  let v300 : BitVec 32 := Scalar.muli v299 c128_i32_136
  v300
def k0_mult11 (i : grid0.Coords) (k0_t2 : Fin (k0_t2_loop i).trips) : BitVec 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let c4_i32 : BitVec 32 := 4#32
  let v302 : BitVec 32 := Scalar.addi v289 c4_i32
  let c128_i32_137 : BitVec 32 := 128#32
  let v303 : BitVec 32 := Scalar.muli v302 c128_i32_137
  v303
def k0_mult12 (i : grid0.Coords) (k0_t2 : Fin (k0_t2_loop i).trips) : BitVec 32 :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let c5_i32 : BitVec 32 := 5#32
  let v305 : BitVec 32 := Scalar.addi v289 c5_i32
  let c128_i32_138 : BitVec 32 := 128#32
  let v306 : BitVec 32 := Scalar.muli v305 c128_i32_138
  v306
def k0_off3 (i : grid0.Coords) (k0_t2 : Fin (k0_t2_loop i).trips) (c0_i32_129 : BitVec 32) : Fin 2 → Nat :=
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let v290 : BitVec 32 := Scalar.addi v289 c0_i32_129
  let c128_i32_130 : BitVec 32 := 128#32
  let v291 : BitVec 32 := Scalar.muli v290 c128_i32_130
  let v292 : BitVec 32 := v291
  let v308 : Index := Scalar.indexCast v292
  let c0_139 : Index := 0#32
  ![v308.toNat, 0]
def k0_off4 (i : grid0.Coords) (k0_t2 : Fin (k0_t2_loop i).trips) (c0_i32_142 : BitVec 32) : Fin 3 → Nat :=
  let c0_143 : Index := 0#32
  let c0_i32_34 : BitVec 32 := 0#32
  let arg1 : BitVec 32 := BitVec.ofNat 32 (i 1).val
  let c0_i32_29 : BitVec 32 := 0#32
  let v63 : BitVec 1 := Scalar.cmpi .sgt arg1 c0_i32_29
  let v64 : BitVec 32 := Scalar.extui v63
  let c0_i32_30 : BitVec 32 := 0#32
  let v65 : BitVec 1 := Scalar.cmpi .slt arg1 c0_i32_30
  let v66 : BitVec 32 := Scalar.extui v65
  let v67 : BitVec 32 := Scalar.subi v64 v66
  let c2_i32 : BitVec 32 := 2#32
  let c0_i32_31 : BitVec 32 := 0#32
  let v68 : BitVec 1 := Scalar.cmpi .sgt c2_i32 c0_i32_31
  let v69 : BitVec 32 := Scalar.extui v68
  let c0_i32_32 : BitVec 32 := 0#32
  let v70 : BitVec 1 := Scalar.cmpi .slt c2_i32 c0_i32_32
  let v71 : BitVec 32 := Scalar.extui v70
  let v72 : BitVec 32 := Scalar.subi v69 v71
  let v73 : BitVec 1 := Scalar.cmpi .ne v67 v72
  let v74 : BitVec 32 := Scalar.remsi arg1 c2_i32
  let c0_i32_33 : BitVec 32 := 0#32
  let v75 : BitVec 1 := Scalar.cmpi .ne v74 c0_i32_33
  let v76 : BitVec 1 := Scalar.andi v73 v75
  let v62 : BitVec 32 := Scalar.divsi arg1 c2_i32
  let c1_i32 : BitVec 32 := 1#32
  let v77 : BitVec 32 := Scalar.subi v62 c1_i32
  let v78 : BitVec 32 := Scalar.select v76 v77 v62
  let v79 : BitVec 32 := Scalar.subi v78 c0_i32_34
  let c1_i32_35 : BitVec 32 := 1#32
  let v81 : BitVec 32 := Scalar.divsi v79 c1_i32_35
  let v82 : BitVec 32 := Scalar.muli v81 c1_i32_35
  let v83 : BitVec 32 := Scalar.addi c0_i32_34 v82
  let c1_i32_37 : BitVec 32 := 1#32
  let arg18 : BitVec 32 := Scf.iv v83 c1_i32_37 k0_t2
  let c6_i32 : BitVec 32 := 6#32
  let v289 : BitVec 32 := Scalar.muli arg18 c6_i32
  let v313 : BitVec 32 := Scalar.addi v289 c0_i32_142
  let v314 : Index := Scalar.indexCast v313
  let c0_144 : Index := 0#32
  ![0, v314.toNat, 0]
@[reducible] def k0_t3_loop (i : grid0.Coords) : Scf.Loop 32 :=
  let c0_i32_44 : BitVec 32 := 0#32
  let arg1 : BitVec 32 := BitVec.ofNat 32 (i 1).val
  let c2_i32_38 : BitVec 32 := 2#32
  let c0_i32_39 : BitVec 32 := 0#32
  let v86 : BitVec 1 := Scalar.cmpi .eq c2_i32_38 c0_i32_39
  let c1_i32_40 : BitVec 32 := 1#32
  let v87 : BitVec 32 := Scalar.select v86 c1_i32_40 c2_i32_38
  let v88 : BitVec 32 := Scalar.remsi arg1 v87
  let c0_i32_42 : BitVec 32 := 0#32
  let v90 : BitVec 1 := Scalar.cmpi .slt v88 c0_i32_42
  let c0_i32_43 : BitVec 32 := 0#32
  let v91 : BitVec 1 := Scalar.cmpi .slt v87 c0_i32_43
  let v92 : BitVec 1 := Scalar.xori v90 v91
  let c0_i32_41 : BitVec 32 := 0#32
  let v89 : BitVec 1 := Scalar.cmpi .ne v88 c0_i32_41
  let v93 : BitVec 1 := Scalar.andi v92 v89
  let v94 : BitVec 32 := Scalar.addi v88 v87
  let v95 : BitVec 32 := Scalar.select v93 v94 v88
  let v96 : BitVec 32 := Scalar.subi v95 c0_i32_44
  let c1_i32_45 : BitVec 32 := 1#32
  let v98 : BitVec 32 := Scalar.divsi v96 c1_i32_45
  let v99 : BitVec 32 := Scalar.muli v98 c1_i32_45
  let v100 : BitVec 32 := Scalar.addi c0_i32_44 v99
  let c1_i32_46 : BitVec 32 := 1#32
  ⟨c0_i32_44, v100, c1_i32_46⟩
def k0_mult13 (i : grid0.Coords) : BitVec 32 :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let c0_i32_136 : BitVec 32 := 0#32
  let v307 : BitVec 32 := Scalar.addi v306 c0_i32_136
  let c128_i32_137 : BitVec 32 := 128#32
  let v308 : BitVec 32 := Scalar.muli v307 c128_i32_137
  v308
def k0_mult14 (i : grid0.Coords) : BitVec 32 :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let c1_i32_138 : BitVec 32 := 1#32
  let v310 : BitVec 32 := Scalar.addi v306 c1_i32_138
  let c128_i32_139 : BitVec 32 := 128#32
  let v311 : BitVec 32 := Scalar.muli v310 c128_i32_139
  v311
def k0_mult15 (i : grid0.Coords) : BitVec 32 :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let c2_i32_140 : BitVec 32 := 2#32
  let v313 : BitVec 32 := Scalar.addi v306 c2_i32_140
  let c128_i32_141 : BitVec 32 := 128#32
  let v314 : BitVec 32 := Scalar.muli v313 c128_i32_141
  v314
def k0_off5 (i : grid0.Coords) (c0_i32_136 : BitVec 32) : Fin 2 → Nat :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let v307 : BitVec 32 := Scalar.addi v306 c0_i32_136
  let c128_i32_137 : BitVec 32 := 128#32
  let v308 : BitVec 32 := Scalar.muli v307 c128_i32_137
  let v309 : BitVec 32 := v308
  let v316 : Index := Scalar.indexCast v309
  let c0_142 : Index := 0#32
  ![v316.toNat, 0]
def k0_off6 (i : grid0.Coords) (c0_i32_145 : BitVec 32) : Fin 3 → Nat :=
  let c0_146 : Index := 0#32
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let v321 : BitVec 32 := Scalar.addi v306 c0_i32_145
  let v322 : Index := Scalar.indexCast v321
  let c0_147 : Index := 0#32
  ![0, v322.toNat, 0]
@[reducible] def k0_t4_loop (i : grid0.Coords) : Scf.Loop 32 :=
  let c0_i32_44 : BitVec 32 := 0#32
  let arg1 : BitVec 32 := BitVec.ofNat 32 (i 1).val
  let c2_i32_38 : BitVec 32 := 2#32
  let c0_i32_39 : BitVec 32 := 0#32
  let v86 : BitVec 1 := Scalar.cmpi .eq c2_i32_38 c0_i32_39
  let c1_i32_40 : BitVec 32 := 1#32
  let v87 : BitVec 32 := Scalar.select v86 c1_i32_40 c2_i32_38
  let v88 : BitVec 32 := Scalar.remsi arg1 v87
  let c0_i32_42 : BitVec 32 := 0#32
  let v90 : BitVec 1 := Scalar.cmpi .slt v88 c0_i32_42
  let c0_i32_43 : BitVec 32 := 0#32
  let v91 : BitVec 1 := Scalar.cmpi .slt v87 c0_i32_43
  let v92 : BitVec 1 := Scalar.xori v90 v91
  let c0_i32_41 : BitVec 32 := 0#32
  let v89 : BitVec 1 := Scalar.cmpi .ne v88 c0_i32_41
  let v93 : BitVec 1 := Scalar.andi v92 v89
  let v94 : BitVec 32 := Scalar.addi v88 v87
  let v95 : BitVec 32 := Scalar.select v93 v94 v88
  let v96 : BitVec 32 := Scalar.subi v95 c0_i32_44
  let c1_i32_45 : BitVec 32 := 1#32
  let v98 : BitVec 32 := Scalar.divsi v96 c1_i32_45
  let v99 : BitVec 32 := Scalar.muli v98 c1_i32_45
  let v100 : BitVec 32 := Scalar.addi c0_i32_44 v99
  let v97 : BitVec 32 := Scalar.addi c0_i32_44 v96
  let c1_i32_47 : BitVec 32 := 1#32
  ⟨v100, v97, c1_i32_47⟩
def k0_mult16 (i : grid0.Coords) : BitVec 32 :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let c0_i32_136 : BitVec 32 := 0#32
  let v307 : BitVec 32 := Scalar.addi v306 c0_i32_136
  let c128_i32_137 : BitVec 32 := 128#32
  let v308 : BitVec 32 := Scalar.muli v307 c128_i32_137
  v308
def k0_mult17 (i : grid0.Coords) : BitVec 32 :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let c1_i32_138 : BitVec 32 := 1#32
  let v310 : BitVec 32 := Scalar.addi v306 c1_i32_138
  let c128_i32_139 : BitVec 32 := 128#32
  let v311 : BitVec 32 := Scalar.muli v310 c128_i32_139
  v311
def k0_mult18 (i : grid0.Coords) : BitVec 32 :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let c2_i32_140 : BitVec 32 := 2#32
  let v313 : BitVec 32 := Scalar.addi v306 c2_i32_140
  let c128_i32_141 : BitVec 32 := 128#32
  let v314 : BitVec 32 := Scalar.muli v313 c128_i32_141
  v314
def k0_off7 (i : grid0.Coords) (c0_i32_136 : BitVec 32) : Fin 2 → Nat :=
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let v307 : BitVec 32 := Scalar.addi v306 c0_i32_136
  let c128_i32_137 : BitVec 32 := 128#32
  let v308 : BitVec 32 := Scalar.muli v307 c128_i32_137
  let v309 : BitVec 32 := v308
  let v316 : Index := Scalar.indexCast v309
  let c0_142 : Index := 0#32
  ![v316.toNat, 0]
def k0_off8 (i : grid0.Coords) (c0_i32_145 : BitVec 32) : Fin 3 → Nat :=
  let c0_146 : Index := 0#32
  let arg1 : BitVec 32 := BitVec.ofNat 32 (i 1).val
  let c0_i32_130 : BitVec 32 := 0#32
  let v290 : BitVec 1 := Scalar.cmpi .sgt arg1 c0_i32_130
  let v291 : BitVec 32 := Scalar.extui v290
  let c0_i32_131 : BitVec 32 := 0#32
  let v292 : BitVec 1 := Scalar.cmpi .slt arg1 c0_i32_131
  let v293 : BitVec 32 := Scalar.extui v292
  let v294 : BitVec 32 := Scalar.subi v291 v293
  let c2_i32_129 : BitVec 32 := 2#32
  let c0_i32_132 : BitVec 32 := 0#32
  let v295 : BitVec 1 := Scalar.cmpi .sgt c2_i32_129 c0_i32_132
  let v296 : BitVec 32 := Scalar.extui v295
  let c0_i32_133 : BitVec 32 := 0#32
  let v297 : BitVec 1 := Scalar.cmpi .slt c2_i32_129 c0_i32_133
  let v298 : BitVec 32 := Scalar.extui v297
  let v299 : BitVec 32 := Scalar.subi v296 v298
  let v300 : BitVec 1 := Scalar.cmpi .ne v294 v299
  let v301 : BitVec 32 := Scalar.remsi arg1 c2_i32_129
  let c0_i32_134 : BitVec 32 := 0#32
  let v302 : BitVec 1 := Scalar.cmpi .ne v301 c0_i32_134
  let v303 : BitVec 1 := Scalar.andi v300 v302
  let v289 : BitVec 32 := Scalar.divsi arg1 c2_i32_129
  let c1_i32_135 : BitVec 32 := 1#32
  let v304 : BitVec 32 := Scalar.subi v289 c1_i32_135
  let v305 : BitVec 32 := Scalar.select v303 v304 v289
  let c6_i32 : BitVec 32 := 6#32
  let v306 : BitVec 32 := Scalar.muli v305 c6_i32
  let v321 : BitVec 32 := Scalar.addi v306 c0_i32_145
  let v322 : Index := Scalar.indexCast v321
  let c0_147 : Index := 0#32
  ![0, v322.toNat, 0]
def k0_mult19 (i : grid0.Coords) : BitVec 32 :=
  let arg1 : BitVec 32 := BitVec.ofNat 32 (i 1).val
  let c3_i32 : BitVec 32 := 3#32
  let v103 : BitVec 32 := Scalar.muli arg1 c3_i32
  let c0_i32_48 : BitVec 32 := 0#32
  let v104 : BitVec 32 := Scalar.addi v103 c0_i32_48
  let c128_i32_49 : BitVec 32 := 128#32
  let v105 : BitVec 32 := Scalar.muli v104 c128_i32_49
  v105
def k0_mult20 (i : grid0.Coords) : BitVec 32 :=
  let arg1 : BitVec 32 := BitVec.ofNat 32 (i 1).val
  let c3_i32 : BitVec 32 := 3#32
  let v103 : BitVec 32 := Scalar.muli arg1 c3_i32
  let c1_i32_50 : BitVec 32 := 1#32
  let v107 : BitVec 32 := Scalar.addi v103 c1_i32_50
  let c128_i32_51 : BitVec 32 := 128#32
  let v108 : BitVec 32 := Scalar.muli v107 c128_i32_51
  v108
def k0_mult21 (i : grid0.Coords) : BitVec 32 :=
  let arg1 : BitVec 32 := BitVec.ofNat 32 (i 1).val
  let c3_i32 : BitVec 32 := 3#32
  let v103 : BitVec 32 := Scalar.muli arg1 c3_i32
  let c2_i32_52 : BitVec 32 := 2#32
  let v110 : BitVec 32 := Scalar.addi v103 c2_i32_52
  let c128_i32_53 : BitVec 32 := 128#32
  let v111 : BitVec 32 := Scalar.muli v110 c128_i32_53
  v111
def k0_off9 (i : grid0.Coords) (c0_i32_48 : BitVec 32) : Fin 2 → Nat :=
  let arg1 : BitVec 32 := BitVec.ofNat 32 (i 1).val
  let c3_i32 : BitVec 32 := 3#32
  let v103 : BitVec 32 := Scalar.muli arg1 c3_i32
  let v104 : BitVec 32 := Scalar.addi v103 c0_i32_48
  let c128_i32_49 : BitVec 32 := 128#32
  let v105 : BitVec 32 := Scalar.muli v104 c128_i32_49
  let v106 : BitVec 32 := v105
  let v113 : Index := Scalar.indexCast v106
  let c0_54 : Index := 0#32
  ![v113.toNat, 0]
def k0_off10 (i : grid0.Coords) (c0_i32_57 : BitVec 32) : Fin 3 → Nat :=
  let c0_58 : Index := 0#32
  let arg1 : BitVec 32 := BitVec.ofNat 32 (i 1).val
  let c3_i32 : BitVec 32 := 3#32
  let v103 : BitVec 32 := Scalar.muli arg1 c3_i32
  let v118 : BitVec 32 := Scalar.addi v103 c0_i32_57
  let v119 : Index := Scalar.indexCast v118
  let c0_59 : Index := 0#32
  ![0, v119.toNat, 0]
def k0_cond2 (i : grid0.Coords) : BitVec 1 :=
  let arg1 : BitVec 32 := BitVec.ofNat 32 (i 1).val
  let c10_i32 : BitVec 32 := 10#32
  let v286 : BitVec 1 := Scalar.cmpi .eq arg1 c10_i32
  let v287 : BitVec 32 := Scalar.extui v286
  let c0_i32_128 : BitVec 32 := 0#32
  let v288 : BitVec 1 := Scalar.cmpi .ne v287 c0_i32_128
  v288

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x33x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4224x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4224x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x33x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4224x6144 : Shape := ⟨2, ![4224, 6144]⟩
abbrev S8x128 : Shape := ⟨2, ![8, 128]⟩
abbrev S8x4224 : Shape := ⟨2, ![8, 4224]⟩
abbrev S4224x1024 : Shape := ⟨2, ![4224, 1024]⟩
abbrev S4224x8x128 : Shape := ⟨3, ![4224, 8, 128]⟩
abbrev S8x4224x4224 : Shape := ⟨3, ![8, 4224, 4224]⟩
abbrev S_ : Shape := ⟨0, ![]⟩
abbrev S8x4224x1 : Shape := ⟨3, ![8, 4224, 1]⟩
abbrev S8x1x4224 : Shape := ⟨3, ![8, 1, 4224]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S8x128x4224 : Shape := ⟨3, ![8, 128, 4224]⟩
abbrev S4224x8 : Shape := ⟨2, ![4224, 8]⟩
abbrev S4224x8x1 : Shape := ⟨3, ![4224, 8, 1]⟩
abbrev S1x8x128 : Shape := ⟨3, ![1, 8, 128]⟩
abbrev S8x4224x128 : Shape := ⟨3, ![8, 4224, 128]⟩
abbrev S8x1x128 : Shape := ⟨3, ![8, 1, 128]⟩
abbrev S8x33x128 : Shape := ⟨3, ![8, 33, 128]⟩

abbrev nBuf : Space → Nat
  | .hbm => 172
  | .vmem => 0
  | .smem => 0
  | _ => 0

abbrev hbmTy0_0 (i : Nat) : BufTy := match i % 128 with
  | 0 => ⟨S4224x6144, .bf16⟩
  | 1 => ⟨S8x128, .f32⟩
  | 2 => ⟨S8x4224, .f32⟩
  | 3 => ⟨S4224x1024, .f32⟩
  | 4 => ⟨S4224x1024, .bf16⟩
  | 5 => ⟨S4224x1024, .f32⟩
  | 6 => ⟨S4224x1024, .bf16⟩
  | 7 => ⟨S4224x1024, .f32⟩
  | 8 => ⟨S4224x1024, .bf16⟩
  | 9 => ⟨S4224x1024, .f32⟩
  | 10 => ⟨S4224x8x128, .f32⟩
  | 11 => ⟨S4224x8x128, .f32⟩
  | 12 => ⟨S4224x8x128, .f32⟩
  | 13 => ⟨S8x4224x4224, .f32⟩
  | 14 => ⟨S_, .f32⟩
  | 15 => ⟨S8x4224x4224, .f32⟩
  | 16 => ⟨S8x4224x4224, .f32⟩
  | 17 => ⟨S8x4224x1, .f32⟩
  | 18 => ⟨S8x1x4224, .f32⟩
  | 19 => ⟨S8x4224x4224, .f32⟩
  | 20 => ⟨S8x4224x4224, .f32⟩
  | 21 => ⟨S8x4224x4224, .f32⟩
  | 22 => ⟨S8x4224x4224, .f32⟩
  | 23 => ⟨S4224, .i32⟩
  | 24 => ⟨S4224x1, .i32⟩
  | 25 => ⟨S4224, .i32⟩
  | 26 => ⟨S1x4224, .i32⟩
  | 27 => ⟨S4224x4224, .i32⟩
  | 28 => ⟨S4224x4224, .i32⟩
  | 29 => ⟨S4224x4224, .i1⟩
  | 30 => ⟨S_, .f32⟩
  | 31 => ⟨S_, .f32⟩
  | 32 => ⟨S8x4224x4224, .i1⟩
  | 33 => ⟨S8x4224x4224, .f32⟩
  | 34 => ⟨S8x4224x4224, .f32⟩
  | 35 => ⟨S_, .f32⟩
  | 36 => ⟨S8x4224x4224, .f32⟩
  | 37 => ⟨S_, .f32⟩
  | 38 => ⟨S8x4224, .f32⟩
  | 39 => ⟨S8x4224x1, .f32⟩
  | 40 => ⟨S8x4224x4224, .f32⟩
  | 41 => ⟨S8x4224x4224, .i1⟩
  | 42 => ⟨S8x4224x4224, .f32⟩
  | 43 => ⟨S_, .f32⟩
  | 44 => ⟨S8x4224, .f32⟩
  | 45 => ⟨S_, .f32⟩
  | 46 => ⟨S8x4224, .f32⟩
  | 47 => ⟨S8x4224, .f32⟩
  | 48 => ⟨S_, .f32⟩
  | 49 => ⟨S8x4224, .f32⟩
  | 50 => ⟨S8x4224, .i1⟩
  | 51 => ⟨S_, .f32⟩
  | 52 => ⟨S8x4224, .f32⟩
  | 53 => ⟨S8x4224, .i1⟩
  | 54 => ⟨S_, .f32⟩
  | 55 => ⟨S8x4224, .f32⟩
  | 56 => ⟨S_, .f32⟩
  | 57 => ⟨S8x4224, .f32⟩
  | 58 => ⟨S_, .f32⟩
  | 59 => ⟨S8x4224, .f32⟩
  | 60 => ⟨S8x4224, .f32⟩
  | 61 => ⟨S8x4224, .f32⟩
  | 62 => ⟨S8x4224x1, .f32⟩
  | 63 => ⟨S8x4224x4224, .f32⟩
  | 64 => ⟨S8x4224x4224, .f32⟩
  | 65 => ⟨S8x4224x4224, .f32⟩
  | 66 => ⟨S_, .f32⟩
  | 67 => ⟨S8x4224, .f32⟩
  | 68 => ⟨S8x4224x1, .f32⟩
  | 69 => ⟨S8x4224x4224, .f32⟩
  | 70 => ⟨S8x4224x4224, .f32⟩
  | 71 => ⟨S8x4224x1, .f32⟩
  | 72 => ⟨S_, .f32⟩
  | 73 => ⟨S8x4224x1, .f32⟩
  | 74 => ⟨S8x4224x1, .f32⟩
  | 75 => ⟨S8x128x4224, .f32⟩
  | 76 => ⟨S4224x8x128, .f32⟩
  | 77 => ⟨S4224x8x128, .f32⟩
  | 78 => ⟨S_, .f32⟩
  | 79 => ⟨S4224x8, .f32⟩
  | 80 => ⟨S4224x8x1, .f32⟩
  | 81 => ⟨S_, .f32⟩
  | 82 => ⟨S4224x8x1, .f32⟩
  | 83 => ⟨S4224x8x1, .f32⟩
  | 84 => ⟨S_, .f32⟩
  | 85 => ⟨S4224x8x1, .f32⟩
  | 86 => ⟨S4224x8x1, .f32⟩
  | 87 => ⟨S4224x8x1, .f32⟩
  | 88 => ⟨S4224x8x1, .f32⟩
  | 89 => ⟨S_, .f32⟩
  | 90 => ⟨S4224x8x1, .f32⟩
  | 91 => ⟨S4224x8x1, .f32⟩
  | 92 => ⟨S4224x8x128, .f32⟩
  | 93 => ⟨S4224x8x128, .f32⟩
  | 94 => ⟨S1x8x128, .f32⟩
  | 95 => ⟨S4224x8x128, .f32⟩
  | 96 => ⟨S4224x8x128, .f32⟩
  | 97 => ⟨S4224x1024, .f32⟩
  | 98 => ⟨S4224x8x128, .f32⟩
  | 99 => ⟨S4224x8x128, .f32⟩
  | 100 => ⟨S_, .f32⟩
  | 101 => ⟨S8x128, .f32⟩
  | 102 => ⟨S1x8x128, .f32⟩
  | 103 => ⟨S4224x8x128, .f32⟩
  | 104 => ⟨S4224x8x128, .f32⟩
  | 105 => ⟨S_, .f32⟩
  | 106 => ⟨S8x128, .f32⟩
  | 107 => ⟨S4224x8x128, .f32⟩
  | 108 => ⟨S_, .f32⟩
  | 109 => ⟨S4224x8, .f32⟩
  | 110 => ⟨S4224x8x1, .f32⟩
  | 111 => ⟨S4224x8x128, .f32⟩
  | 112 => ⟨S4224x8x128, .f32⟩
  | 113 => ⟨S4224x8x1, .f32⟩
  | 114 => ⟨S_, .f32⟩
  | 115 => ⟨S4224x8x1, .f32⟩
  | 116 => ⟨S4224x8x1, .f32⟩
  | 117 => ⟨S_, .f32⟩
  | 118 => ⟨S4224x8, .f32⟩
  | 119 => ⟨S4224x8x128, .f32⟩
  | 120 => ⟨S4224x8x128, .f32⟩
  | 121 => ⟨S4224x8x128, .f32⟩
  | 122 => ⟨S4224x8x128, .f32⟩
  | 123 => ⟨S4224x8x128, .f32⟩
  | 124 => ⟨S8x128x4224, .f32⟩
  | 125 => ⟨S8x4224x4224, .f32⟩
  | 126 => ⟨S8x128x4224, .f32⟩
  | 127 => ⟨S4224x8x128, .f32⟩
  | _ => ⟨S4224x6144, .bf16⟩

abbrev hbmTy0_1 (i : Nat) : BufTy := match i % 128 with
  | 0 => ⟨S8x4224x4224, .f32⟩
  | 1 => ⟨S8x4224x4224, .f32⟩
  | 2 => ⟨S8x4224x4224, .f32⟩
  | 3 => ⟨S_, .f32⟩
  | 4 => ⟨S8x4224, .f32⟩
  | 5 => ⟨S8x4224x1, .f32⟩
  | 6 => ⟨S8x4224x1, .f32⟩
  | 7 => ⟨S8x4224x4224, .f32⟩
  | 8 => ⟨S8x4224x4224, .f32⟩
  | 9 => ⟨S_, .f32⟩
  | 10 => ⟨S8x4224, .f32⟩
  | 11 => ⟨S8x4224x4224, .f32⟩
  | 12 => ⟨S8x4224x4224, .f32⟩
  | 13 => ⟨S8x4224x4224, .f32⟩
  | 14 => ⟨S_, .f32⟩
  | 15 => ⟨S8x4224x4224, .f32⟩
  | 16 => ⟨S8x4224x4224, .f32⟩
  | 17 => ⟨S_, .f32⟩
  | 18 => ⟨S8x4224, .f32⟩
  | 19 => ⟨S8x4224x1, .f32⟩
  | 20 => ⟨S8x4224x4224, .f32⟩
  | 21 => ⟨S_, .f32⟩
  | 22 => ⟨S8x4224, .f32⟩
  | 23 => ⟨S8x1x4224, .f32⟩
  | 24 => ⟨S_, .f32⟩
  | 25 => ⟨S8x4224, .f32⟩
  | 26 => ⟨S_, .f32⟩
  | 27 => ⟨S8x4224, .f32⟩
  | 28 => ⟨S8x4224, .f32⟩
  | 29 => ⟨S_, .f32⟩
  | 30 => ⟨S8x4224x4224, .f32⟩
  | 31 => ⟨S8x4224x4224, .f32⟩
  | 32 => ⟨S8x4224x128, .f32⟩
  | 33 => ⟨S4224x8x128, .f32⟩
  | 34 => ⟨S8x4224x128, .f32⟩
  | 35 => ⟨S4224x8x128, .f32⟩
  | 36 => ⟨S4224x1024, .f32⟩
  | 37 => ⟨S4224x1024, .f32⟩
  | 38 => ⟨S4224x1024, .f32⟩
  | 39 => ⟨S4224x1024, .bf16⟩
  | 40 => ⟨S4224x1024, .bf16⟩
  | 41 => ⟨S4224x1024, .bf16⟩
  | 42 => ⟨S8x1x128, .f32⟩
  | 43 => ⟨S8x33x128, .f32⟩
  | _ => ⟨S4224x6144, .bf16⟩

abbrev hbmTy (i : Nat) : BufTy := match i / 128 with
  | 0 => hbmTy0_0 i
  | 1 => hbmTy0_1 i
  | _ => ⟨S4224x6144, .bf16⟩

abbrev bufTy : (tb : Table) → Fin (tcTables nBuf tb) → BufTy
  | .hbm, ⟨i, _⟩ => hbmTy i
  | _, _ => ⟨S4224x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_v25_1 : Ref sig .tc := ⟨.hbm, 32, rfl⟩
abbrev main_call0_v2 : Ref sig .tc := ⟨.hbm, 33, rfl⟩
abbrev main_v25_0 : Ref sig .tc := ⟨.hbm, 34, rfl⟩
abbrev main_call0_cst : Ref sig .tc := ⟨.hbm, 35, rfl⟩
abbrev main_v25_2 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_call1_cst : Ref sig .tc := ⟨.hbm, 142, rfl⟩
abbrev main_call1_v0 : Ref sig .tc := ⟨.hbm, 143, rfl⟩
abbrev main_v110 : Ref sig .tc := ⟨.hbm, 144, rfl⟩
abbrev main_cst_22 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_v115 : Ref sig .tc := ⟨.hbm, 151, rfl⟩
abbrev main_cst_24 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_v118 : Ref sig .tc := ⟨.hbm, 156, rfl⟩
abbrev main_cst_26 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩

abbrev nD : Nat := 1
abbrev τ : Topo := Topo.v7x

variable {F : FTy → Type} [FloatOps F]
-- ==== Kernel2.lean ====
abbrev S4224x2048 : Shape := ⟨2, ![4224, 2048]⟩
abbrev S2x4224x5632 : Shape := ⟨3, ![2, 4224, 5632]⟩
abbrev S4x2048x2816 : Shape := ⟨3, ![4, 2048, 2816]⟩
abbrev S4224x512 : Shape := ⟨2, ![4224, 512]⟩
abbrev S1x4224x1408 : Shape := ⟨3, ![1, 4224, 1408]⟩
abbrev S1x512x1408 : Shape := ⟨3, ![1, 512, 1408]⟩
abbrev S4224x1408 : Shape := ⟨2, ![4224, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S4x2048x2816, .bf16⟩
  | .local _ .vmem, ⟨0, _⟩ => ⟨S4224x512, .bf16⟩
  | .local _ .vmem, ⟨1, _⟩ => ⟨S4224x512, .bf16⟩
  | .local _ .vmem, ⟨2, _⟩ => ⟨S1x4224x1408, .bf16⟩
  | .local _ .vmem, ⟨3, _⟩ => ⟨S1x4224x1408, .bf16⟩
  | .local _ .vmem, ⟨4, _⟩ => ⟨S1x512x1408, .bf16⟩
  | .local _ .vmem, ⟨5, _⟩ => ⟨S1x512x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x2048 : Shape := ⟨2, ![4224, 2048]⟩
abbrev S2x4224x5632 : Shape := ⟨3, ![2, 4224, 5632]⟩
abbrev S1x4224x5632 : Shape := ⟨3, ![1, 4224, 5632]⟩
abbrev S4224x5632 : Shape := ⟨2, ![4224, 5632]⟩
abbrev S4224x11264 : Shape := ⟨2, ![4224, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S1x4224x5632, .bf16⟩
  | .hbm, ⟨3, _⟩ => ⟨S4224x5632, .bf16⟩
  | .hbm, ⟨4, _⟩ => ⟨S1x4224x5632, .bf16⟩
  | .hbm, ⟨5, _⟩ => ⟨S4224x5632, .bf16⟩
  | .hbm, ⟨6, _⟩ => ⟨S4224x11264, .bf16⟩
  | .hbm, ⟨7, _⟩ => ⟨S_, .f32⟩
  | .hbm, ⟨8, _⟩ => ⟨S2048x11264, .f32⟩
  | .hbm, ⟨9, _⟩ => ⟨S4224x2048, .f32⟩
  | .hbm, ⟨10, _⟩ => ⟨S4224x11264, .f32⟩
  | .hbm, ⟨11, _⟩ => ⟨S4224x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | .hbm, ⟨15, _⟩ => ⟨S2048x4x2816, .bf16⟩
  | .hbm, ⟨16, _⟩ => ⟨S4x2048x2816, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S2x4224x5632 : Shape := ⟨3, ![2, 4224, 5632]⟩
abbrev S4x2048x2816 : Shape := ⟨3, ![4, 2048, 2816]⟩
abbrev S4224x2048 : Shape := ⟨2, ![4224, 2048]⟩
abbrev S1x704x2816 : Shape := ⟨3, ![1, 704, 2816]⟩
abbrev S1x1024x2816 : Shape := ⟨3, ![1, 1024, 2816]⟩
abbrev S704x1024 : Shape := ⟨2, ![704, 1024]⟩
abbrev S704x2816 : Shape := ⟨2, ![704, 2816]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x4224x5632, .bf16⟩
  | .hbm, ⟨1, _⟩ => ⟨S4x2048x2816, .bf16⟩
  | .hbm, ⟨2, _⟩ => ⟨S4224x2048, .f32⟩
  | .local _ .vmem, ⟨0, _⟩ => ⟨S1x704x2816, .bf16⟩
  | .local _ .vmem, ⟨1, _⟩ => ⟨S1x704x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | _, _ => ⟨S2x4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x704x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4224x5632 : Shape := ⟨3, ![2, 4224, 5632]⟩
abbrev S4x2048x2816 : Shape := ⟨3, ![4, 2048, 2816]⟩
abbrev S1x4224x5632 : Shape := ⟨3, ![1, 4224, 5632]⟩
abbrev S4224x5632 : Shape := ⟨2, ![4224, 5632]⟩
abbrev S4224x11264 : Shape := ⟨2, ![4224, 11264]⟩
abbrev S2048x4x2816 : Shape := ⟨3, ![2048, 4, 2816]⟩
abbrev S2048x11264 : Shape := ⟨2, ![2048, 11264]⟩
abbrev S_ : Shape := ⟨0, ![]⟩
abbrev S4224x2048 : Shape := ⟨2, ![4224, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x4224x5632, .bf16⟩
  | .hbm, ⟨1, _⟩ => ⟨S4x2048x2816, .bf16⟩
  | .hbm, ⟨2, _⟩ => ⟨S1x4224x5632, .bf16⟩
  | .hbm, ⟨3, _⟩ => ⟨S4224x5632, .bf16⟩
  | .hbm, ⟨4, _⟩ => ⟨S1x4224x5632, .bf16⟩
  | .hbm, ⟨5, _⟩ => ⟨S4224x5632, .bf16⟩
  | .hbm, ⟨6, _⟩ => ⟨S4224x11264, .bf16⟩
  | .hbm, ⟨7, _⟩ => ⟨S2048x4x2816, .bf16⟩
  | .hbm, ⟨8, _⟩ => ⟨S2048x11264, .bf16⟩
  | .hbm, ⟨9, _⟩ => ⟨S_, .f32⟩
  | .hbm, ⟨10, _⟩ => ⟨S4224x2048, .f32⟩
  | .hbm, ⟨11, _⟩ => ⟨S2048x11264, .f32⟩
  | .hbm, ⟨12, _⟩ => ⟨S4224x11264, .f32⟩
  | .hbm, ⟨13, _⟩ => ⟨S4224x11264, .f32⟩
  | .hbm, ⟨14, _⟩ => ⟨S4224x2048, .f32⟩
  | _, _ => ⟨S2x4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S4224x2048 : Shape := ⟨2, ![4224, 2048]⟩
abbrev S4x2048x2816 : Shape := ⟨3, ![4, 2048, 2816]⟩
abbrev S2x4224x5632 : Shape := ⟨3, ![2, 4224, 5632]⟩
abbrev S1408x2048 : Shape := ⟨2, ![1408, 2048]⟩
abbrev S1x2048x1408 : Shape := ⟨3, ![1, 2048, 1408]⟩
abbrev S1x1408x1408 : Shape := ⟨3, ![1, 1408, 1408]⟩
abbrev S2048x1408 : Shape := ⟨2, ![2048, 1408]⟩
abbrev S1408x1408 : Shape := ⟨2, ![1408, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4x2048x2816, .bf16⟩
  | .hbm, ⟨2, _⟩ => ⟨S2x4224x5632, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1408x1408, .f32⟩
  | .local _ .vmem, ⟨5, _⟩ => ⟨S1x1408x1408, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x2048 : Shape := ⟨2, ![4224, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4224x11264 : Shape := ⟨2, ![4224, 11264]⟩
abbrev S4224x2x5632 : Shape := ⟨3, ![4224, 2, 5632]⟩
abbrev S2x4224x5632 : Shape := ⟨3, ![2, 4224, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S4224x2048, .f32⟩
  | .hbm, ⟨5, _⟩ => ⟨S2048x11264, .f32⟩
  | .hbm, ⟨6, _⟩ => ⟨S4224x11264, .f32⟩
  | .hbm, ⟨7, _⟩ => ⟨S4224x2x5632, .f32⟩
  | .hbm, ⟨8, _⟩ => ⟨S2x4224x5632, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S4224x2048 : Shape := ⟨2, ![4224, 2048]⟩
abbrev S4224x6272 : Shape := ⟨2, ![4224, 6272]⟩
abbrev S2048x6272 : Shape := ⟨2, ![2048, 6272]⟩
abbrev S4224x1024 : Shape := ⟨2, ![4224, 1024]⟩
abbrev S4224x896 : Shape := ⟨2, ![4224, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x6272, .bf16⟩
  | .hbm, ⟨2, _⟩ => ⟨S2048x6272, .bf16⟩
  | .local _ .vmem, ⟨0, _⟩ => ⟨S4224x1024, .bf16⟩
  | .local _ .vmem, ⟨1, _⟩ => ⟨S4224x1024, .bf16⟩
  | .local _ .vmem, ⟨2, _⟩ => ⟨S4224x896, .bf16⟩
  | .local _ .vmem, ⟨3, _⟩ => ⟨S4224x896, .bf16⟩
  | .local _ .vmem, ⟨4, _⟩ => ⟨S1024x896, .bf16⟩
  | .local _ .vmem, ⟨5, _⟩ => ⟨S1024x896, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x2048 : Shape := ⟨2, ![4224, 2048]⟩
abbrev S4224x6272 : Shape := ⟨2, ![4224, 6272]⟩
abbrev S_ : Shape := ⟨0, ![]⟩
abbrev S2048x6272 : Shape := ⟨2, ![2048, 6272]⟩
abbrev S6272x2048 : Shape := ⟨2, ![6272, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x6272, .bf16⟩
  | .hbm, ⟨2, _⟩ => ⟨S_, .f32⟩
  | .hbm, ⟨3, _⟩ => ⟨S2048x6272, .f32⟩
  | .hbm, ⟨4, _⟩ => ⟨S4224x2048, .f32⟩
  | .hbm, ⟨5, _⟩ => ⟨S4224x6272, .f32⟩
  | .hbm, ⟨6, _⟩ => ⟨S4224x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4224x6272 : Shape := ⟨2, ![4224, 6272]⟩
abbrev S2048x6272 : Shape := ⟨2, ![2048, 6272]⟩
abbrev S4224x2048 : Shape := ⟨2, ![4224, 2048]⟩
abbrev S704x6272 : Shape := ⟨2, ![704, 6272]⟩
abbrev S1024x6272 : Shape := ⟨2, ![1024, 6272]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x6272, .bf16⟩
  | .hbm, ⟨1, _⟩ => ⟨S2048x6272, .bf16⟩
  | .hbm, ⟨2, _⟩ => ⟨S4224x2048, .f32⟩
  | .local _ .vmem, ⟨0, _⟩ => ⟨S704x6272, .bf16⟩
  | .local _ .vmem, ⟨1, _⟩ => ⟨S704x6272, .bf16⟩
  | .local _ .vmem, ⟨2, _⟩ => ⟨S1024x6272, .bf16⟩
  | .local _ .vmem, ⟨3, _⟩ => ⟨S1024x6272, .bf16⟩
  | .local _ .vmem, ⟨4, _⟩ => ⟨S704x1024, .f32⟩
  | .local _ .vmem, ⟨5, _⟩ => ⟨S704x1024, .f32⟩
  | _, _ => ⟨S4224x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x6272 : Shape := ⟨2, ![4224, 6272]⟩
abbrev S2048x6272 : Shape := ⟨2, ![2048, 6272]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x6272, .bf16⟩
  | .hbm, ⟨1, _⟩ => ⟨S2048x6272, .bf16⟩
  | .hbm, ⟨2, _⟩ => ⟨S_, .f32⟩
  | .hbm, ⟨3, _⟩ => ⟨S4224x2048, .f32⟩
  | .hbm, ⟨4, _⟩ => ⟨S2048x6272, .f32⟩
  | .hbm, ⟨5, _⟩ => ⟨S4224x6272, .f32⟩
  | .hbm, ⟨6, _⟩ => ⟨S4224x6272, .f32⟩
  | .hbm, ⟨7, _⟩ => ⟨S4224x2048, .f32⟩
  | _, _ => ⟨S4224x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4224x2048 : Shape := ⟨2, ![4224, 2048]⟩
abbrev S2048x6144 : Shape := ⟨2, ![2048, 6144]⟩
abbrev S4224x6144 : Shape := ⟨2, ![4224, 6144]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x6144, .bf16⟩
  | .hbm, ⟨2, _⟩ => ⟨S4224x6144, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x2048 : Shape := ⟨2, ![4224, 2048]⟩
abbrev S2048x6144 : Shape := ⟨2, ![2048, 6144]⟩
abbrev S4224x6144 : Shape := ⟨2, ![4224, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x6144, .bf16⟩
  | .hbm, ⟨2, _⟩ => ⟨S4224x2048, .f32⟩
  | .hbm, ⟨3, _⟩ => ⟨S2048x6144, .f32⟩
  | .hbm, ⟨4, _⟩ => ⟨S4224x6144, .f32⟩
  | .hbm, ⟨5, _⟩ => ⟨S4224x6144, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S4224x5632 : Shape := ⟨2, ![4224, 5632]⟩
abbrev S4224x2048 : Shape := ⟨2, ![4224, 2048]⟩
abbrev S5632x2048 : Shape := ⟨2, ![5632, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S5632x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4224x2048 : Shape := ⟨2, ![4224, 2048]⟩
abbrev S5632x2048 : Shape := ⟨2, ![5632, 2048]⟩
abbrev S4224x5632 : Shape := ⟨2, ![4224, 5632]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x2048 : Shape := ⟨2, ![4224, 2048]⟩
abbrev S5632x2048 : Shape := ⟨2, ![5632, 2048]⟩
abbrev S_ : Shape := ⟨0, ![]⟩
abbrev S4224x5632 : Shape := ⟨2, ![4224, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S_, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | .hbm, ⟨7, _⟩ => ⟨S4224x5632, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4224x5632 : Shape := ⟨2, ![4224, 5632]⟩
abbrev S5632x2048 : Shape := ⟨2, ![5632, 2048]⟩
abbrev S4224x2048 : Shape := ⟨2, ![4224, 2048]⟩
abbrev S704x5632 : Shape := ⟨2, ![704, 5632]⟩
abbrev S5632x1024 : Shape := ⟨2, ![5632, 1024]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .local _ .vmem, ⟨0, _⟩ => ⟨S704x5632, .bf16⟩
  | .local _ .vmem, ⟨1, _⟩ => ⟨S704x5632, .bf16⟩
  | .local _ .vmem, ⟨2, _⟩ => ⟨S5632x1024, .bf16⟩
  | .local _ .vmem, ⟨3, _⟩ => ⟨S5632x1024, .bf16⟩
  | .local _ .vmem, ⟨4, _⟩ => ⟨S704x1024, .f32⟩
  | .local _ .vmem, ⟨5, _⟩ => ⟨S704x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .f32⟩
  | .hbm, ⟨3, _⟩ => ⟨S5632x2048, .f32⟩
  | .hbm, ⟨4, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4224x2048 : Shape := ⟨2, ![4224, 2048]⟩
abbrev S2048x2048 : Shape := ⟨2, ![2048, 2048]⟩
abbrev S4224x1024 : Shape := ⟨2, ![4224, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4224x2048 : Shape := ⟨2, ![4224, 2048]⟩
abbrev S2048x2048 : Shape := ⟨2, ![2048, 2048]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .f32⟩
  | .local _ .vmem, ⟨5, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S_, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | .hbm, ⟨7, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4224x2048 : Shape := ⟨2, ![4224, 2048]⟩
abbrev S2048x2048 : Shape := ⟨2, ![2048, 2048]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4224x2048 : Shape := ⟨2, ![4224, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S2048x2048, .f32⟩
  | .hbm, ⟨4, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4224x2048 : Shape := ⟨2, ![4224, 2048]⟩
abbrev S2048x128 : Shape := ⟨2, ![2048, 128]⟩
abbrev S4224x128 : Shape := ⟨2, ![4224, 128]⟩
abbrev S1408x2048 : Shape := ⟨2, ![1408, 2048]⟩
abbrev S1408x128 : Shape := ⟨2, ![1408, 128]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .bf16⟩
  | .hbm, ⟨1, _⟩ => ⟨S2048x128, .bf16⟩
  | .hbm, ⟨2, _⟩ => ⟨S4224x128, .f32⟩
  | .local _ .vmem, ⟨0, _⟩ => ⟨S1408x2048, .bf16⟩
  | .local _ .vmem, ⟨1, _⟩ => ⟨S1408x2048, .bf16⟩
  | .local _ .vmem, ⟨2, _⟩ => ⟨S2048x128, .bf16⟩
  | .local _ .vmem, ⟨3, _⟩ => ⟨S1408x128, .f32⟩
  | .local _ .vmem, ⟨4, _⟩ => ⟨S1408x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4224x2048 : Shape := ⟨2, ![4224, 2048]⟩
abbrev S2048x128 : Shape := ⟨2, ![2048, 128]⟩
abbrev S4224x128 : Shape := ⟨2, ![4224, 128]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x128, .bf16⟩
  | .hbm, ⟨2, _⟩ => ⟨S4224x2048, .f32⟩
  | .hbm, ⟨3, _⟩ => ⟨S2048x128, .f32⟩
  | .hbm, ⟨4, _⟩ => ⟨S4224x128, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S1x2048, .f32⟩
  | .local _ .vmem, ⟨5, _⟩ => ⟨S1x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 36
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x2048, .f32⟩
  | .hbm, ⟨16, _⟩ => ⟨S4224x2048, .f32⟩
  | .hbm, ⟨17, _⟩ => ⟨S4224x2048, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S_, .f32⟩
  | .hbm, ⟨22, _⟩ => ⟨S4224, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4224x2048, .f32⟩
  | .hbm, ⟨35, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel16.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S2x4224x5632 : Shape := ⟨3, ![2, 4224, 5632]⟩
abbrev S2x3x5632 : Shape := ⟨3, ![2, 3, 5632]⟩
abbrev S2x1x5632 : Shape := ⟨3, ![2, 1, 5632]⟩
abbrev S4224x5632 : Shape := ⟨2, ![4224, 5632]⟩
abbrev S2x704x512 : Shape := ⟨3, ![2, 704, 512]⟩
abbrev S2x8x512 : Shape := ⟨3, ![2, 8, 512]⟩
abbrev S2x3x512 : Shape := ⟨3, ![2, 3, 512]⟩
abbrev S2x1x512 : Shape := ⟨3, ![2, 1, 512]⟩
abbrev S704x512 : Shape := ⟨2, ![704, 512]⟩
abbrev S1x8x512 : Shape := ⟨3, ![1, 8, 512]⟩
abbrev S8x512 : Shape := ⟨2, ![8, 512]⟩
abbrev S1x704x512 : Shape := ⟨3, ![1, 704, 512]⟩
abbrev S712x512 : Shape := ⟨2, ![712, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S2x4224x5632, .f32⟩
  | .hbm, ⟨1, _⟩ => ⟨S2x3x5632, .f32⟩
  | .hbm, ⟨2, _⟩ => ⟨S2x1x5632, .f32⟩
  | .hbm, ⟨3, _⟩ => ⟨S4224x5632, .bf16⟩
  | .local _ .vmem, ⟨0, _⟩ => ⟨S2x704x512, .f32⟩
  | .local _ .vmem, ⟨1, _⟩ => ⟨S2x704x512, .f32⟩
  | .local _ .vmem, ⟨2, _⟩ => ⟨S2x8x512, .f32⟩
  | .local _ .vmem, ⟨3, _⟩ => ⟨S2x8x512, .f32⟩
  | .local _ .vmem, ⟨4, _⟩ => ⟨S2x3x512, .f32⟩
  | .local _ .vmem, ⟨5, _⟩ => ⟨S2x3x512, .f32⟩
  | .local _ .vmem, ⟨6, _⟩ => ⟨S2x1x512, .f32⟩
  | .local _ .vmem, ⟨7, _⟩ => ⟨S2x1x512, .f32⟩
  | .local _ .vmem, ⟨8, _⟩ => ⟨S704x512, .bf16⟩
  | .local _ .vmem, ⟨9, _⟩ => ⟨S704x512, .bf16⟩
  | _, _ => ⟨S2x4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c88_i32 : BitVec 32 := 88#32
  let v0 : BitVec 32 := Scalar.muli arg1 c88_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S704x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S2x4224x5632 : Shape := ⟨3, ![2, 4224, 5632]⟩
abbrev S2x3x5632 : Shape := ⟨3, ![2, 3, 5632]⟩
abbrev S2x1x5632 : Shape := ⟨3, ![2, 1, 5632]⟩
abbrev S1x4224x5632 : Shape := ⟨3, ![1, 4224, 5632]⟩
abbrev S4224x5632 : Shape := ⟨2, ![4224, 5632]⟩
abbrev S1x3x5632 : Shape := ⟨3, ![1, 3, 5632]⟩
abbrev S3x5632 : Shape := ⟨2, ![3, 5632]⟩
abbrev S1x1x5632 : Shape := ⟨3, ![1, 1, 5632]⟩
abbrev S1x5632 : Shape := ⟨2, ![1, 5632]⟩
abbrev S_ : Shape := ⟨0, ![]⟩
abbrev S2x5632 : Shape := ⟨2, ![2, 5632]⟩
abbrev S4226x5632 : Shape := ⟨2, ![4226, 5632]⟩
abbrev S5632 : Shape := ⟨1, ![5632]⟩

abbrev nBuf : Space → Nat
  | .hbm => 76
  | .vmem => 0
  | .smem => 0
  | _ => 0

abbrev bufTy : (tb : Table) → Fin (tcTables nBuf tb) → BufTy
  | .hbm, ⟨0, _⟩ => ⟨S2x4224x5632, .f32⟩
  | .hbm, ⟨1, _⟩ => ⟨S2x3x5632, .f32⟩
  | .hbm, ⟨2, _⟩ => ⟨S2x1x5632, .f32⟩
  | .hbm, ⟨3, _⟩ => ⟨S1x4224x5632, .f32⟩
  | .hbm, ⟨4, _⟩ => ⟨S4224x5632, .f32⟩
  | .hbm, ⟨5, _⟩ => ⟨S1x3x5632, .f32⟩
  | .hbm, ⟨6, _⟩ => ⟨S3x5632, .f32⟩
  | .hbm, ⟨7, _⟩ => ⟨S1x1x5632, .f32⟩
  | .hbm, ⟨8, _⟩ => ⟨S1x5632, .f32⟩
  | .hbm, ⟨9, _⟩ => ⟨S_, .f32⟩
  | .hbm, ⟨10, _⟩ => ⟨S2x5632, .f32⟩
  | .hbm, ⟨11, _⟩ => ⟨S4226x5632, .f32⟩
  | .hbm, ⟨12, _⟩ => ⟨S1x5632, .f32⟩
  | .hbm, ⟨13, _⟩ => ⟨S5632, .f32⟩
  | .hbm, ⟨14, _⟩ => ⟨S4224x5632, .f32⟩
  | .hbm, ⟨15, _⟩ => ⟨S1x5632, .f32⟩
  | .hbm, ⟨16, _⟩ => ⟨S4224x5632, .f32⟩
  | .hbm, ⟨17, _⟩ => ⟨S4224x5632, .f32⟩
  | .hbm, ⟨18, _⟩ => ⟨S1x5632, .f32⟩
  | .hbm, ⟨19, _⟩ => ⟨S5632, .f32⟩
  | .hbm, ⟨20, _⟩ => ⟨S4224x5632, .f32⟩
  | .hbm, ⟨21, _⟩ => ⟨S1x5632, .f32⟩
  | .hbm, ⟨22, _⟩ => ⟨S4224x5632, .f32⟩
  | .hbm, ⟨23, _⟩ => ⟨S4224x5632, .f32⟩
  | .hbm, ⟨24, _⟩ => ⟨S4224x5632, .f32⟩
  | .hbm, ⟨25, _⟩ => ⟨S1x5632, .f32⟩
  | .hbm, ⟨26, _⟩ => ⟨S5632, .f32⟩
  | .hbm, ⟨27, _⟩ => ⟨S4224x5632, .f32⟩
  | .hbm, ⟨28, _⟩ => ⟨S1x5632, .f32⟩
  | .hbm, ⟨29, _⟩ => ⟨S4224x5632, .f32⟩
  | .hbm, ⟨30, _⟩ => ⟨S4224x5632, .f32⟩
  | .hbm, ⟨31, _⟩ => ⟨S4224x5632, .f32⟩
  | .hbm, ⟨32, _⟩ => ⟨S4224x5632, .f32⟩
  | .hbm, ⟨33, _⟩ => ⟨S4224x5632, .f32⟩
  | .hbm, ⟨34, _⟩ => ⟨S1x4224x5632, .f32⟩
  | .hbm, ⟨35, _⟩ => ⟨S4224x5632, .f32⟩
  | .hbm, ⟨36, _⟩ => ⟨S1x3x5632, .f32⟩
  | .hbm, ⟨37, _⟩ => ⟨S3x5632, .f32⟩
  | .hbm, ⟨38, _⟩ => ⟨S1x1x5632, .f32⟩
  | .hbm, ⟨39, _⟩ => ⟨S1x5632, .f32⟩
  | .hbm, ⟨40, _⟩ => ⟨S_, .f32⟩
  | .hbm, ⟨41, _⟩ => ⟨S2x5632, .f32⟩
  | .hbm, ⟨42, _⟩ => ⟨S4226x5632, .f32⟩
  | .hbm, ⟨43, _⟩ => ⟨S1x5632, .f32⟩
  | .hbm, ⟨44, _⟩ => ⟨S5632, .f32⟩
  | .hbm, ⟨45, _⟩ => ⟨S4224x5632, .f32⟩
  | .hbm, ⟨46, _⟩ => ⟨S1x5632, .f32⟩
  | .hbm, ⟨47, _⟩ => ⟨S4224x5632, .f32⟩
  | .hbm, ⟨48, _⟩ => ⟨S4224x5632, .f32⟩
  | .hbm, ⟨49, _⟩ => ⟨S1x5632, .f32⟩
  | .hbm, ⟨50, _⟩ => ⟨S5632, .f32⟩
  | .hbm, ⟨51, _⟩ => ⟨S4224x5632, .f32⟩
  | .hbm, ⟨52, _⟩ => ⟨S1x5632, .f32⟩
  | .hbm, ⟨53, _⟩ => ⟨S4224x5632, .f32⟩
  | .hbm, ⟨54, _⟩ => ⟨S4224x5632, .f32⟩
  | .hbm, ⟨55, _⟩ => ⟨S4224x5632, .f32⟩
  | .hbm, ⟨56, _⟩ => ⟨S1x5632, .f32⟩
  | .hbm, ⟨57, _⟩ => ⟨S5632, .f32⟩
  | .hbm, ⟨58, _⟩ => ⟨S4224x5632, .f32⟩
  | .hbm, ⟨59, _⟩ => ⟨S1x5632, .f32⟩
  | .hbm, ⟨60, _⟩ => ⟨S4224x5632, .f32⟩
  | .hbm, ⟨61, _⟩ => ⟨S4224x5632, .f32⟩
  | .hbm, ⟨62, _⟩ => ⟨S4224x5632, .f32⟩
  | .hbm, ⟨63, _⟩ => ⟨S4224x5632, .f32⟩
  | .hbm, ⟨64, _⟩ => ⟨S4224x5632, .f32⟩
  | .hbm, ⟨65, _⟩ => ⟨S4224x5632, .f32⟩
  | .hbm, ⟨66, _⟩ => ⟨S4224x5632, .f32⟩
  | .hbm, ⟨67, _⟩ => ⟨S_, .f32⟩
  | .hbm, ⟨68, _⟩ => ⟨S4224x5632, .f32⟩
  | .hbm, ⟨69, _⟩ => ⟨S4224x5632, .f32⟩
  | .hbm, ⟨70, _⟩ => ⟨S_, .f32⟩
  | .hbm, ⟨71, _⟩ => ⟨S4224x5632, .f32⟩
  | .hbm, ⟨72, _⟩ => ⟨S4224x5632, .f32⟩
  | .hbm, ⟨73, _⟩ => ⟨S4224x5632, .f32⟩
  | .hbm, ⟨74, _⟩ => ⟨S4224x5632, .f32⟩
  | .hbm, ⟨75, _⟩ => ⟨S4224x5632, .bf16⟩
  | _, _ => ⟨S2x4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== Proof.Offsets.lean ====
/-
  Where the attention backward's loops read and write: each chain of index words the kernel computes, in closed form
  over the grid point and the trip. The walk over the key blocks goes six blocks at a time and then three at a time, so
  trip `k` of the first loop is at key blocks `6 * k + r` (`r < 6`), the one trip of the second at `6 * (i / 2) + r`
  (`r < 3`), and the block row of the diagonal at `3 * i + r`.
-/
module

public import proofs.«01_k».proof.Proof.Gen.KernelIdeal.Loops
public import Idealize.ShloMosaic.Lib.Exec
public import Idealize.ShloMosaic.Lib.LoopRemainder

@[expose] public section

set_option maxRecDepth 16384

namespace Cert.KernelIdeal.Fox

open Cert.KernelIdeal Cert.KernelIdeal.Gen
open Idealize.ShloMosaic Idealize.ShloMosaic.TcCoe Idealize.ShloMosaic.Tactic

/-- The first loop makes `i / 2` trips. -/
theorem t1_trips : ∀ i : grid0.Coords, (k0_t1_loop i).trips = (i 1).val / 2 := by decide +kernel
/-- The second loop makes `i % 2` trips. -/
theorem t3_trips : ∀ i : grid0.Coords, (k0_t3_loop i).trips = (i 1).val % 2 := by decide +kernel

/-- Key block `6 * k + r`'s first row. -/
theorem off1_eq : ∀ (i : grid0.Coords) (k : Fin (k0_t1_loop i).trips) (r : Fin 6),
    k0_off1 i k (BitVec.ofNat 32 r.val) = ![768 * k.val + 128 * r.val, 0] := by decide +kernel
/-- Key block `6 * k + r` as a row of the per-block arrays. -/
theorem off2_eq : ∀ (i : grid0.Coords) (k : Fin (k0_t1_loop i).trips) (r : Fin 6),
    k0_off2 i k (BitVec.ofNat 32 r.val) = ![0, 6 * k.val + r.val, 0] := by decide +kernel
/-- Key block `6 * (i / 2) + r`'s first row. -/
theorem off5_eq : ∀ (i : grid0.Coords) (r : Fin 3),
    k0_off5 i (BitVec.ofNat 32 r.val) = ![768 * ((i 1).val / 2) + 128 * r.val, 0] := by decide +kernel
/-- Key block `6 * (i / 2) + r` as a row of the per-block arrays. -/
theorem off6_eq : ∀ (i : grid0.Coords) (r : Fin 3),
    k0_off6 i (BitVec.ofNat 32 r.val) = ![0, 6 * ((i 1).val / 2) + r.val, 0] := by decide +kernel
/-- Key block `3 * i + r`'s first row. -/
theorem off9_eq : ∀ (i : grid0.Coords) (r : Fin 3),
    k0_off9 i (BitVec.ofNat 32 r.val) = ![384 * (i 1).val + 128 * r.val, 0] := by decide +kernel
/-- Key block `3 * i + r` as a row of the per-block arrays. -/
theorem off10_eq : ∀ (i : grid0.Coords) (r : Fin 3),
    k0_off10 i (BitVec.ofNat 32 r.val) = ![0, 3 * (i 1).val + r.val, 0] := by decide +kernel

instance (i : grid0.Coords) (k : Fin (k0_t1_loop i).trips) : ClosedOff (k0_off1 i k 0#32) := ⟨![768 * k.val, 0], off1_eq i k 0⟩
instance (i : grid0.Coords) (k : Fin (k0_t1_loop i).trips) : ClosedOff (k0_off1 i k 1#32) := ⟨![768 * k.val + 128, 0], off1_eq i k 1⟩
instance (i : grid0.Coords) (k : Fin (k0_t1_loop i).trips) : ClosedOff (k0_off1 i k 2#32) := ⟨![768 * k.val + 256, 0], off1_eq i k 2⟩
instance (i : grid0.Coords) (k : Fin (k0_t1_loop i).trips) : ClosedOff (k0_off1 i k 3#32) := ⟨![768 * k.val + 384, 0], off1_eq i k 3⟩
instance (i : grid0.Coords) (k : Fin (k0_t1_loop i).trips) : ClosedOff (k0_off1 i k 4#32) := ⟨![768 * k.val + 512, 0], off1_eq i k 4⟩
instance (i : grid0.Coords) (k : Fin (k0_t1_loop i).trips) : ClosedOff (k0_off1 i k 5#32) := ⟨![768 * k.val + 640, 0], off1_eq i k 5⟩
instance (i : grid0.Coords) (k : Fin (k0_t1_loop i).trips) : ClosedOff (k0_off2 i k 0#32) := ⟨![0, 6 * k.val, 0], off2_eq i k 0⟩
instance (i : grid0.Coords) (k : Fin (k0_t1_loop i).trips) : ClosedOff (k0_off2 i k 1#32) := ⟨![0, 6 * k.val + 1, 0], off2_eq i k 1⟩
instance (i : grid0.Coords) (k : Fin (k0_t1_loop i).trips) : ClosedOff (k0_off2 i k 2#32) := ⟨![0, 6 * k.val + 2, 0], off2_eq i k 2⟩
instance (i : grid0.Coords) (k : Fin (k0_t1_loop i).trips) : ClosedOff (k0_off2 i k 3#32) := ⟨![0, 6 * k.val + 3, 0], off2_eq i k 3⟩
instance (i : grid0.Coords) (k : Fin (k0_t1_loop i).trips) : ClosedOff (k0_off2 i k 4#32) := ⟨![0, 6 * k.val + 4, 0], off2_eq i k 4⟩
instance (i : grid0.Coords) (k : Fin (k0_t1_loop i).trips) : ClosedOff (k0_off2 i k 5#32) := ⟨![0, 6 * k.val + 5, 0], off2_eq i k 5⟩
instance (i : grid0.Coords) : ClosedOff (k0_off5 i 0#32) := ⟨![768 * ((i 1).val / 2), 0], off5_eq i 0⟩
instance (i : grid0.Coords) : ClosedOff (k0_off5 i 1#32) := ⟨![768 * ((i 1).val / 2) + 128, 0], off5_eq i 1⟩
instance (i : grid0.Coords) : ClosedOff (k0_off5 i 2#32) := ⟨![768 * ((i 1).val / 2) + 256, 0], off5_eq i 2⟩
instance (i : grid0.Coords) : ClosedOff (k0_off6 i 0#32) := ⟨![0, 6 * ((i 1).val / 2), 0], off6_eq i 0⟩
instance (i : grid0.Coords) : ClosedOff (k0_off6 i 1#32) := ⟨![0, 6 * ((i 1).val / 2) + 1, 0], off6_eq i 1⟩
instance (i : grid0.Coords) : ClosedOff (k0_off6 i 2#32) := ⟨![0, 6 * ((i 1).val / 2) + 2, 0], off6_eq i 2⟩
instance (i : grid0.Coords) : ClosedOff (k0_off9 i 0#32) := ⟨![384 * (i 1).val, 0], off9_eq i 0⟩
instance (i : grid0.Coords) : ClosedOff (k0_off9 i 1#32) := ⟨![384 * (i 1).val + 128, 0], off9_eq i 1⟩
instance (i : grid0.Coords) : ClosedOff (k0_off9 i 2#32) := ⟨![384 * (i 1).val + 256, 0], off9_eq i 2⟩
instance (i : grid0.Coords) : ClosedOff (k0_off10 i 0#32) := ⟨![0, 3 * (i 1).val, 0], off10_eq i 0⟩
instance (i : grid0.Coords) : ClosedOff (k0_off10 i 1#32) := ⟨![0, 3 * (i 1).val + 1, 0], off10_eq i 1⟩
instance (i : grid0.Coords) : ClosedOff (k0_off10 i 2#32) := ⟨![0, 3 * (i 1).val + 2, 0], off10_eq i 2⟩

end Cert.KernelIdeal.Fox
-- ==== Proof.TripA.lean ====
/-
  One trip of the attention backward's first loop over the key blocks (six blocks a trip), and the loop by its invariant.
-/
module

public import proofs.«01_k».proof.Proof.Offsets

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole) (arg1 : BitVec 32) (v3 : Vec F S384x128 .bf16) (v40 : FVec F S384x128 .bf16) (v44 : FVec F S384x1 .f32) (v49 : FVec F S384x1 .f32) (v61 : FVec F S384x128 .f32) (v62 : BitVec 32) (v73 : BitVec 1) (v75 : BitVec 1)
  (X3 : Buf (Elt F) (arg3.view.loc (c : Thread nD τ))) (X4 : Buf (Elt F) (arg4.view.loc (c : Thread nD τ))) (X7 : Buf (Elt F) (arg7.view.loc (c : Thread nD τ)))

/-- What a trip of the loop touches: it reads `arg3` (the keys), `arg4` (the values) and `arg7` (the gates along the
    keys), and writes `arg15` (the gates' gradient), `arg16` (the keys') and `arg17` (the values'). -/
abbrev Held_t1 (f15 : Buf (Elt F) (arg15.view.loc (c : Thread nD τ))) (f16 : Buf (Elt F) (arg16.view.loc (c : Thread nD τ))) (f17 : Buf (Elt F) (arg17.view.loc (c : Thread nD τ))) : sProp 𝕄 :=
  iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
    ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- One trip: what it yields and the blocks it writes, each a function of the carried value and of what the three written
    buffers hold when it starts. -/
@[irreducible] def trip_t1 (k : Fin (k0_t1_loop i).trips) :
    Σ' (R : FVec F S384x128 .f32 → Buf (Elt F) (arg15.view.loc (c : Thread nD τ)) → Buf (Elt F) (arg16.view.loc (c : Thread nD τ)) → Buf (Elt F) (arg17.view.loc (c : Thread nD τ)) → FVec F S384x128 .f32)
      (L15 : FVec F S384x128 .f32 → Buf (Elt F) (arg15.view.loc (c : Thread nD τ)) → Buf (Elt F) (arg16.view.loc (c : Thread nD τ)) → Buf (Elt F) (arg17.view.loc (c : Thread nD τ)) → List (View.Piece (Elt F) S1x33x128 .f32))
      (L16 : FVec F S384x128 .f32 → Buf (Elt F) (arg15.view.loc (c : Thread nD τ)) → Buf (Elt F) (arg16.view.loc (c : Thread nD τ)) → Buf (Elt F) (arg17.view.loc (c : Thread nD τ)) → List (View.Piece (Elt F) S4224x128 .f32)),
      {L17 : FVec F S384x128 .f32 → Buf (Elt F) (arg15.view.loc (c : Thread nD τ)) → Buf (Elt F) (arg16.view.loc (c : Thread nD τ)) → Buf (Elt F) (arg17.view.loc (c : Thread nD τ)) → List (View.Piece (Elt F) S4224x128 .f32) //
        ∀ (E : Set ℕ) (acc : FVec F S384x128 .f32) (f15 : Buf (Elt F) (arg15.view.loc (c : Thread nD τ))) (f16 : Buf (Elt F) (arg16.view.loc (c : Thread nD τ))) (f17 : Buf (Elt F) (arg17.view.loc (c : Thread nD τ))),
      Held_t1 c arg3 arg4 arg7 arg15 arg16 arg17 X3 X4 X7 f15 f16 f17
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 k acc)
          (fun yld => iprop(⌜yld = R acc f15 f16 f17⌝ ∗ Held_t1 c arg3 arg4 arg7 arg15 arg16 arg17 X3 X4 X7
            (arg15.view.writes (Elt F) f15 (L15 acc f15 f16 f17)) (arg16.view.writes (Elt F) f16 (L16 acc f15 f16 f17)) (arg17.view.writes (Elt F) f17 (L17 acc f15 f16 f17))))} := by
  refine ⟨?_, ?_, ?_, ?_, fun E acc f15 f16 f17 => ?run⟩
  case run =>
    unfold k0_t1_body
    iintro ⟨HR_3, HR_4, HR_7, HW_15, HW_16, HW_17⟩
    sl_exec
    sl_step
    sl_close

/-- What trip `k` makes of the carried value and the three written buffers. -/
@[irreducible] def step_t1 (k : ℕ) (s : FVec F S384x128 .f32 × Buf (Elt F) (arg15.view.loc (c : Thread nD τ)) × Buf (Elt F) (arg16.view.loc (c : Thread nD τ)) × Buf (Elt F) (arg17.view.loc (c : Thread nD τ))) : FVec F S384x128 .f32 × Buf (Elt F) (arg15.view.loc (c : Thread nD τ)) × Buf (Elt F) (arg16.view.loc (c : Thread nD τ)) × Buf (Elt F) (arg17.view.loc (c : Thread nD τ)) :=
  if h : k < (k0_t1_loop i).trips then
    ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).1 s.1 s.2.1 s.2.2.1 s.2.2.2,
      arg15.view.writes (Elt F) s.2.1 ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).2.1 s.1 s.2.1 s.2.2.1 s.2.2.2),
      arg16.view.writes (Elt F) s.2.2.1 ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).2.2.1 s.1 s.2.1 s.2.2.1 s.2.2.2),
      arg17.view.writes (Elt F) s.2.2.2 ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).2.2.2.1 s.1 s.2.1 s.2.2.1 s.2.2.2))
  else s

/-- The carried value and the three written buffers before trip `k`. -/
def st_t1 (s : FVec F S384x128 .f32 × Buf (Elt F) (arg15.view.loc (c : Thread nD τ)) × Buf (Elt F) (arg16.view.loc (c : Thread nD τ)) × Buf (Elt F) (arg17.view.loc (c : Thread nD τ))) : ℕ → FVec F S384x128 .f32 × Buf (Elt F) (arg15.view.loc (c : Thread nD τ)) × Buf (Elt F) (arg16.view.loc (c : Thread nD τ)) × Buf (Elt F) (arg17.view.loc (c : Thread nD τ))
  | 0 => s
  | k + 1 => step_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k (st_t1 s k)

theorem st_t1_succ (s : FVec F S384x128 .f32 × Buf (Elt F) (arg15.view.loc (c : Thread nD τ)) × Buf (Elt F) (arg16.view.loc (c : Thread nD τ)) × Buf (Elt F) (arg17.view.loc (c : Thread nD τ))) (k : Fin (k0_t1_loop i).trips) :
    st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k.val + 1)
      = ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2,
        arg15.view.writes (Elt F) (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2),
        arg16.view.writes (Elt F) (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2),
        arg17.view.writes (Elt F) (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2 ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2)) := by
  show step_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k.val _ = _
  unfold step_t1
  exact dif_pos k.isLt

/-- Before trip `k` the carried value and the three written buffers are as the trips so far leave them. -/
abbrev inv_t1 (init : FVec F S384x128 .f32) (G15 : Buf (Elt F) (arg15.view.loc (c : Thread nD τ))) (G16 : Buf (Elt F) (arg16.view.loc (c : Thread nD τ))) (G17 : Buf (Elt F) (arg17.view.loc (c : Thread nD τ))) (k : ℕ) (acc : FVec F S384x128 .f32) : sProp 𝕄 :=
  iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
    ∗ (∃ f, (arg15.view.loc (c : Thread nD τ) ↦[arg15.view.set]{fullShare} f) ∗ ⌜f = (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).2.1⌝)
    ∗ (∃ f, (arg16.view.loc (c : Thread nD τ) ↦[arg16.view.set]{fullShare} f) ∗ ⌜f = (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).2.2.1⌝)
    ∗ (∃ f, (arg17.view.loc (c : Thread nD τ) ↦[arg17.view.set]{fullShare} f) ∗ ⌜f = (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).2.2.2⌝)
    ∗ ⌜acc = (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).1⌝)

set_option warn.classDefReducibility false in
/-- The loop by its invariant. -/
@[sl_loop] def loop_t1 (E : Set ℕ) (init : FVec F S384x128 .f32) (G15 : Buf (Elt F) (arg15.view.loc (c : Thread nD τ))) (G16 : Buf (Elt F) (arg16.view.loc (c : Thread nD τ))) (G17 : Buf (Elt F) (arg17.view.loc (c : Thread nD τ))) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 init where
  inv := inv_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 init G15 G16 G17
  step k acc := by
    iintro ⟨HR_3, HR_4, HR_7, ⟨%f15, HW_15, %h_15⟩, ⟨%f16, HW_16, %h_16⟩, ⟨%f17, HW_17, %h_17⟩, %h_acc⟩
    subst h_acc h_15 h_16 h_17
    iapply (wp_wand_r Idealize.ShloMosaic.frame (wpE (defs₀ (F := F)) 𝒱 (c : Thread nD τ) bd) E)
    isplitl [HR_3 HR_4 HR_7 HW_15 HW_16 HW_17]
    · iapply ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.2 E)
      isplitl [HR_3]; · iexact HR_3
      isplitl [HR_4]; · iexact HR_4
      isplitl [HR_7]; · iexact HR_7
      isplitl [HW_15]; · iexact HW_15
      isplitl [HW_16]; · iexact HW_16
      iexact HW_17
    · iintro %yld ⟨%h_res, HR_3, HR_4, HR_7, HW_15, HW_16, HW_17⟩
      isplitl [HR_3]; · iexact HR_3
      isplitl [HR_4]; · iexact HR_4
      isplitl [HR_7]; · iexact HR_7
      rw [st_t1_succ]
      isplitl [HW_15]
      · iexists _; isplitl [HW_15]; · iexact HW_15
        ipureintro; rfl
      isplitl [HW_16]
      · iexists _; isplitl [HW_16]; · iexact HW_16
        ipureintro; rfl
      isplitl [HW_17]
      · iexists _; isplitl [HW_17]; · iexact HW_17
        ipureintro; rfl
      ipureintro; exact h_res

/-- The carried value and the three written buffers once the loop has made all its trips. -/
@[irreducible] def out_t1 (s : FVec F S384x128 .f32 × Buf (Elt F) (arg15.view.loc (c : Thread nD τ)) × Buf (Elt F) (arg16.view.loc (c : Thread nD τ)) × Buf (Elt F) (arg17.view.loc (c : Thread nD τ))) : FVec F S384x128 .f32 × Buf (Elt F) (arg15.view.loc (c : Thread nD τ)) × Buf (Elt F) (arg16.view.loc (c : Thread nD τ)) × Buf (Elt F) (arg17.view.loc (c : Thread nD τ)) := st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k0_t1_loop i).trips

theorem out_t1_eq (s : FVec F S384x128 .f32 × Buf (Elt F) (arg15.view.loc (c : Thread nD τ)) × Buf (Elt F) (arg16.view.loc (c : Thread nD τ)) × Buf (Elt F) (arg17.view.loc (c : Thread nD τ))) : out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s = st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k0_t1_loop i).trips := by unfold out_t1; rfl

/-- What the body goes on from after the loop. -/
instance exit_t1 (E : Set ℕ) (init : FVec F S384x128 .f32) (G15 : Buf (Elt F) (arg15.view.loc (c : Thread nD τ))) (G16 : Buf (Elt F) (arg16.view.loc (c : Thread nD τ))) (G17 : Buf (Elt F) (arg17.view.loc (c : Thread nD τ))) :
    LoopExit (loop_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 E init G15 G16 G17) where
  post acc := iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
    ∗ (arg15.view.loc (c : Thread nD τ) ↦[arg15.view.set]{fullShare} (out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).2.1)
    ∗ (arg16.view.loc (c : Thread nD τ) ↦[arg16.view.set]{fullShare} (out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).2.2.1)
    ∗ (arg17.view.loc (c : Thread nD τ) ↦[arg17.view.set]{fullShare} (out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).2.2.2)
    ∗ ⌜acc = (out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).1⌝)
  exit acc := by
    show inv_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 init G15 G16 G17 (k0_t1_loop i).trips acc ⊢ _
    rw [out_t1_eq]
    iintro ⟨HR_3, HR_4, HR_7, ⟨%f15, HW_15, %h_15⟩, ⟨%f16, HW_16, %h_16⟩, ⟨%f17, HW_17, %h_17⟩, %h_acc⟩
    subst h_acc h_15 h_16 h_17
    isplitl [HR_3]; · iexact HR_3
    isplitl [HR_4]; · iexact HR_4
    isplitl [HR_7]; · iexact HR_7
    isplitl [HW_15]; · iexact HW_15
    isplitl [HW_16]; · iexact HW_16
    isplitl [HW_17]; · iexact HW_17
    ipureintro; rfl

end Cert.KernelIdeal.Fox

end
-- ==== Proof.TripB.lean ====
/-
  One trip of the attention backward's second loop over the key blocks (three blocks a trip), and the loop by its
  invariant.
-/
module

public import proofs.«01_k».proof.Proof.Offsets

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole) (arg1 : BitVec 32) (v3 : Vec F S384x128 .bf16) (v40 : FVec F S384x128 .bf16) (v44 : FVec F S384x1 .f32) (v49 : FVec F S384x1 .f32) (v61 : FVec F S384x128 .f32) (v62 : BitVec 32) (v73 : BitVec 1) (v75 : BitVec 1)
  (X3 : Buf (Elt F) (arg3.view.loc (c : Thread nD τ))) (X4 : Buf (Elt F) (arg4.view.loc (c : Thread nD τ))) (X7 : Buf (Elt F) (arg7.view.loc (c : Thread nD τ)))

/-- What a trip of the loop touches: it reads `arg3` (the keys), `arg4` (the values) and `arg7` (the gates along the
    keys), and writes `arg15` (the gates' gradient), `arg16` (the keys') and `arg17` (the values'). -/
abbrev Held_t3 (f15 : Buf (Elt F) (arg15.view.loc (c : Thread nD τ))) (f16 : Buf (Elt F) (arg16.view.loc (c : Thread nD τ))) (f17 : Buf (Elt F) (arg17.view.loc (c : Thread nD τ))) : sProp 𝕄 :=
  iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
    ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- One trip: what it yields and the blocks it writes, each a function of the carried value and of what the three written
    buffers hold when it starts. -/
@[irreducible] def trip_t3 (k : Fin (k0_t3_loop i).trips) :
    Σ' (R : FVec F S384x128 .f32 → Buf (Elt F) (arg15.view.loc (c : Thread nD τ)) → Buf (Elt F) (arg16.view.loc (c : Thread nD τ)) → Buf (Elt F) (arg17.view.loc (c : Thread nD τ)) → FVec F S384x128 .f32)
      (L15 : FVec F S384x128 .f32 → Buf (Elt F) (arg15.view.loc (c : Thread nD τ)) → Buf (Elt F) (arg16.view.loc (c : Thread nD τ)) → Buf (Elt F) (arg17.view.loc (c : Thread nD τ)) → List (View.Piece (Elt F) S1x33x128 .f32))
      (L16 : FVec F S384x128 .f32 → Buf (Elt F) (arg15.view.loc (c : Thread nD τ)) → Buf (Elt F) (arg16.view.loc (c : Thread nD τ)) → Buf (Elt F) (arg17.view.loc (c : Thread nD τ)) → List (View.Piece (Elt F) S4224x128 .f32)),
      {L17 : FVec F S384x128 .f32 → Buf (Elt F) (arg15.view.loc (c : Thread nD τ)) → Buf (Elt F) (arg16.view.loc (c : Thread nD τ)) → Buf (Elt F) (arg17.view.loc (c : Thread nD τ)) → List (View.Piece (Elt F) S4224x128 .f32) //
        ∀ (E : Set ℕ) (acc : FVec F S384x128 .f32) (f15 : Buf (Elt F) (arg15.view.loc (c : Thread nD τ))) (f16 : Buf (Elt F) (arg16.view.loc (c : Thread nD τ))) (f17 : Buf (Elt F) (arg17.view.loc (c : Thread nD τ))),
      Held_t3 c arg3 arg4 arg7 arg15 arg16 arg17 X3 X4 X7 f15 f16 f17
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 k acc)
          (fun yld => iprop(⌜yld = R acc f15 f16 f17⌝ ∗ Held_t3 c arg3 arg4 arg7 arg15 arg16 arg17 X3 X4 X7
            (arg15.view.writes (Elt F) f15 (L15 acc f15 f16 f17)) (arg16.view.writes (Elt F) f16 (L16 acc f15 f16 f17)) (arg17.view.writes (Elt F) f17 (L17 acc f15 f16 f17))))} := by
  refine ⟨?_, ?_, ?_, ?_, fun E acc f15 f16 f17 => ?run⟩
  case run =>
    unfold k0_t3_body
    iintro ⟨HR_3, HR_4, HR_7, HW_15, HW_16, HW_17⟩
    sl_exec
    sl_step
    sl_close

/-- What trip `k` makes of the carried value and the three written buffers. -/
@[irreducible] def step_t3 (k : ℕ) (s : FVec F S384x128 .f32 × Buf (Elt F) (arg15.view.loc (c : Thread nD τ)) × Buf (Elt F) (arg16.view.loc (c : Thread nD τ)) × Buf (Elt F) (arg17.view.loc (c : Thread nD τ))) : FVec F S384x128 .f32 × Buf (Elt F) (arg15.view.loc (c : Thread nD τ)) × Buf (Elt F) (arg16.view.loc (c : Thread nD τ)) × Buf (Elt F) (arg17.view.loc (c : Thread nD τ)) :=
  if h : k < (k0_t3_loop i).trips then
    ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).1 s.1 s.2.1 s.2.2.1 s.2.2.2,
      arg15.view.writes (Elt F) s.2.1 ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).2.1 s.1 s.2.1 s.2.2.1 s.2.2.2),
      arg16.view.writes (Elt F) s.2.2.1 ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).2.2.1 s.1 s.2.1 s.2.2.1 s.2.2.2),
      arg17.view.writes (Elt F) s.2.2.2 ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 ⟨k, h⟩).2.2.2.1 s.1 s.2.1 s.2.2.1 s.2.2.2))
  else s

/-- The carried value and the three written buffers before trip `k`. -/
def st_t3 (s : FVec F S384x128 .f32 × Buf (Elt F) (arg15.view.loc (c : Thread nD τ)) × Buf (Elt F) (arg16.view.loc (c : Thread nD τ)) × Buf (Elt F) (arg17.view.loc (c : Thread nD τ))) : ℕ → FVec F S384x128 .f32 × Buf (Elt F) (arg15.view.loc (c : Thread nD τ)) × Buf (Elt F) (arg16.view.loc (c : Thread nD τ)) × Buf (Elt F) (arg17.view.loc (c : Thread nD τ))
  | 0 => s
  | k + 1 => step_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k (st_t3 s k)

theorem st_t3_succ (s : FVec F S384x128 .f32 × Buf (Elt F) (arg15.view.loc (c : Thread nD τ)) × Buf (Elt F) (arg16.view.loc (c : Thread nD τ)) × Buf (Elt F) (arg17.view.loc (c : Thread nD τ))) (k : Fin (k0_t3_loop i).trips) :
    st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k.val + 1)
      = ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2,
        arg15.view.writes (Elt F) (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2),
        arg16.view.writes (Elt F) (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2),
        arg17.view.writes (Elt F) (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2 ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.1 (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k.val).2.2.2)) := by
  show step_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k.val _ = _
  unfold step_t3
  exact dif_pos k.isLt

/-- Before trip `k` the carried value and the three written buffers are as the trips so far leave them. -/
abbrev inv_t3 (init : FVec F S384x128 .f32) (G15 : Buf (Elt F) (arg15.view.loc (c : Thread nD τ))) (G16 : Buf (Elt F) (arg16.view.loc (c : Thread nD τ))) (G17 : Buf (Elt F) (arg17.view.loc (c : Thread nD τ))) (k : ℕ) (acc : FVec F S384x128 .f32) : sProp 𝕄 :=
  iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
    ∗ (∃ f, (arg15.view.loc (c : Thread nD τ) ↦[arg15.view.set]{fullShare} f) ∗ ⌜f = (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).2.1⌝)
    ∗ (∃ f, (arg16.view.loc (c : Thread nD τ) ↦[arg16.view.set]{fullShare} f) ∗ ⌜f = (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).2.2.1⌝)
    ∗ (∃ f, (arg17.view.loc (c : Thread nD τ) ↦[arg17.view.set]{fullShare} f) ∗ ⌜f = (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).2.2.2⌝)
    ∗ ⌜acc = (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17) k).1⌝)

set_option warn.classDefReducibility false in
/-- The loop by its invariant. -/
@[sl_loop] def loop_t3 (E : Set ℕ) (init : FVec F S384x128 .f32) (G15 : Buf (Elt F) (arg15.view.loc (c : Thread nD τ))) (G16 : Buf (Elt F) (arg16.view.loc (c : Thread nD τ))) (G17 : Buf (Elt F) (arg17.view.loc (c : Thread nD τ))) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 init where
  inv := inv_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 init G15 G16 G17
  step k acc := by
    iintro ⟨HR_3, HR_4, HR_7, ⟨%f15, HW_15, %h_15⟩, ⟨%f16, HW_16, %h_16⟩, ⟨%f17, HW_17, %h_17⟩, %h_acc⟩
    subst h_acc h_15 h_16 h_17
    iapply (wp_wand_r Idealize.ShloMosaic.frame (wpE (defs₀ (F := F)) 𝒱 (c : Thread nD τ) bd) E)
    isplitl [HR_3 HR_4 HR_7 HW_15 HW_16 HW_17]
    · iapply ((trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.2 E)
      isplitl [HR_3]; · iexact HR_3
      isplitl [HR_4]; · iexact HR_4
      isplitl [HR_7]; · iexact HR_7
      isplitl [HW_15]; · iexact HW_15
      isplitl [HW_16]; · iexact HW_16
      iexact HW_17
    · iintro %yld ⟨%h_res, HR_3, HR_4, HR_7, HW_15, HW_16, HW_17⟩
      isplitl [HR_3]; · iexact HR_3
      isplitl [HR_4]; · iexact HR_4
      isplitl [HR_7]; · iexact HR_7
      rw [st_t3_succ]
      isplitl [HW_15]
      · iexists _; isplitl [HW_15]; · iexact HW_15
        ipureintro; rfl
      isplitl [HW_16]
      · iexists _; isplitl [HW_16]; · iexact HW_16
        ipureintro; rfl
      isplitl [HW_17]
      · iexists _; isplitl [HW_17]; · iexact HW_17
        ipureintro; rfl
      ipureintro; exact h_res

/-- The carried value and the three written buffers once the loop has made all its trips. -/
@[irreducible] def out_t3 (s : FVec F S384x128 .f32 × Buf (Elt F) (arg15.view.loc (c : Thread nD τ)) × Buf (Elt F) (arg16.view.loc (c : Thread nD τ)) × Buf (Elt F) (arg17.view.loc (c : Thread nD τ))) : FVec F S384x128 .f32 × Buf (Elt F) (arg15.view.loc (c : Thread nD τ)) × Buf (Elt F) (arg16.view.loc (c : Thread nD τ)) × Buf (Elt F) (arg17.view.loc (c : Thread nD τ)) := st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k0_t3_loop i).trips

theorem out_t3_eq (s : FVec F S384x128 .f32 × Buf (Elt F) (arg15.view.loc (c : Thread nD τ)) × Buf (Elt F) (arg16.view.loc (c : Thread nD τ)) × Buf (Elt F) (arg17.view.loc (c : Thread nD τ))) : out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s = st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k0_t3_loop i).trips := by unfold out_t3; rfl

/-- What the body goes on from after the loop. -/
instance exit_t3 (E : Set ℕ) (init : FVec F S384x128 .f32) (G15 : Buf (Elt F) (arg15.view.loc (c : Thread nD τ))) (G16 : Buf (Elt F) (arg16.view.loc (c : Thread nD τ))) (G17 : Buf (Elt F) (arg17.view.loc (c : Thread nD τ))) :
    LoopExit (loop_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 E init G15 G16 G17) where
  post acc := iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
    ∗ (arg15.view.loc (c : Thread nD τ) ↦[arg15.view.set]{fullShare} (out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).2.1)
    ∗ (arg16.view.loc (c : Thread nD τ) ↦[arg16.view.set]{fullShare} (out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).2.2.1)
    ∗ (arg17.view.loc (c : Thread nD τ) ↦[arg17.view.set]{fullShare} (out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).2.2.2)
    ∗ ⌜acc = (out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 (init, G15, G16, G17)).1⌝)
  exit acc := by
    show inv_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 init G15 G16 G17 (k0_t3_loop i).trips acc ⊢ _
    rw [out_t3_eq]
    iintro ⟨HR_3, HR_4, HR_7, ⟨%f15, HW_15, %h_15⟩, ⟨%f16, HW_16, %h_16⟩, ⟨%f17, HW_17, %h_17⟩, %h_acc⟩
    subst h_acc h_15 h_16 h_17
    isplitl [HR_3]; · iexact HR_3
    isplitl [HR_4]; · iexact HR_4
    isplitl [HR_7]; · iexact HR_7
    isplitl [HW_15]; · iexact HW_15
    isplitl [HW_16]; · iexact HW_16
    isplitl [HW_17]; · iexact HW_17
    ipureintro; rfl

end Cert.KernelIdeal.Fox

end
-- ==== Proof.Body.lean ====
/-
  The body of the attention backward at one grid point, in its three cases: the first query block of a head, a middle one,
  and the last one.
-/
module

public import proofs.«01_k».proof.Proof.TripA
public import proofs.«01_k».proof.Proof.TripB
public import Idealize.ShloMosaic.Lib.Ring

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a point is the first of its head, as the body tests it. -/
abbrev first (i : grid0.Coords) : BitVec 1 := Scalar.cmpi .ne (Scalar.extui (Scalar.cmpi .eq (BitVec.ofNat 32 (i 1).val) 0#32) : BitVec 32) 0#32

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))

/-- The staging buffers and the two accumulators of a point, each whole: the inputs at `X2` … `X10`, the outputs and the
    accumulators at `f11` … `f17`. -/
abbrev Held0 (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10)
    ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- The body at the first query block of a head: the blocks it writes into its results, and what it leaves in the
    accumulated ones. -/
@[irreducible] def run_first (h1 : first i = 1#1) (h2 : ¬ k0_cond2 i = 1#1) :
    Σ' (L11 : List (View.Piece (Elt F) S384x128 .bf16))
      (G14 : Buf (Elt F) (arg14.view.loc (c : Thread nD τ)))
      (G15 : Buf (Elt F) (arg15.view.loc (c : Thread nD τ)))
      (G16 : Buf (Elt F) (arg16.view.loc (c : Thread nD τ))),
      {G17 : Buf (Elt F) (arg17.view.loc (c : Thread nD τ)) //
        ∀ (E : Set ℕ) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))),
      Held0 c arg2 arg3 arg4 arg5 arg6 arg7 arg8 arg9 arg10 arg11 arg12 arg13 arg14 arg15 arg16 arg17 X2 X3 X4 X5 X6 X7 X8 X9 X10 f11 f12 f13 f14 f15 f16 f17
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => Held0 c arg2 arg3 arg4 arg5 arg6 arg7 arg8 arg9 arg10 arg11 arg12 arg13 arg14 arg15 arg16 arg17 X2 X3 X4 X5 X6 X7 X8 X9 X10 (arg11.view.writes (Elt F) f11 (L11)) f12 f13 (G14) (G15) (G16) (G17))} := by
  refine ⟨?_, ?_, ?_, ?_, ?_, fun E f11 f12 f13 f14 f15 f16 f17 => ?run⟩
  case run =>
    unfold cc0_fox_bwd
    iintro ⟨H2, H3, H4, H5, H6, H7, H8, H9, H10, H11, H12, H13, H14, H15, H16, H17⟩
    sl_exec
    generalize hg15 : View.writes arg15.view (Elt F) _ _ = g15
    generalize hg16 : View.writes arg16.view (Elt F) _ _ = g16
    generalize hg17 : View.writes arg17.view (Elt F) _ _ = g17
    sl_exec
    subst hg15 hg16 hg17
    sl_step
    sl_close

/-- The blocks written into `arg11` cover it. -/
theorem cover_first_11 (h1 : first i = 1#1) (h2 : ¬ k0_cond2 i = 1#1) (y : S384x128.Idx) :
    ∃ pc ∈ (run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).1, y ∈ pc.1.set := by
  unfold run_first
  exact View.cover_of_tiledL _ S384x128.size (by sl_kernel_rfl) y

/-- The body at the mid query block of a head: the blocks it writes into its results, and what it leaves in the
    accumulated ones, functions of what these hold when it starts. -/
@[irreducible] def run_mid (h1 : ¬ first i = 1#1) (h2 : ¬ k0_cond2 i = 1#1) :
    Σ' (L11 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → List (View.Piece (Elt F) S384x128 .bf16))
      (G14 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg14.view.loc (c : Thread nD τ)))
      (G15 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg15.view.loc (c : Thread nD τ)))
      (G16 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg16.view.loc (c : Thread nD τ))),
      {G17 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg17.view.loc (c : Thread nD τ)) //
        ∀ (E : Set ℕ) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))),
      Held0 c arg2 arg3 arg4 arg5 arg6 arg7 arg8 arg9 arg10 arg11 arg12 arg13 arg14 arg15 arg16 arg17 X2 X3 X4 X5 X6 X7 X8 X9 X10 f11 f12 f13 f14 f15 f16 f17
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => Held0 c arg2 arg3 arg4 arg5 arg6 arg7 arg8 arg9 arg10 arg11 arg12 arg13 arg14 arg15 arg16 arg17 X2 X3 X4 X5 X6 X7 X8 X9 X10 (arg11.view.writes (Elt F) f11 (L11 f14 f15 f16 f17)) f12 f13 (G14 f14 f15 f16 f17) (G15 f14 f15 f16 f17) (G16 f14 f15 f16 f17) (G17 f14 f15 f16 f17))} := by
  refine ⟨?_, ?_, ?_, ?_, ?_, fun E f11 f12 f13 f14 f15 f16 f17 => ?run⟩
  case run =>
    unfold cc0_fox_bwd
    iintro ⟨H2, H3, H4, H5, H6, H7, H8, H9, H10, H11, H12, H13, H14, H15, H16, H17⟩
    sl_exec
    sl_step
    sl_close

/-- The blocks written into `arg11` cover it. -/
theorem cover_mid_11 (h1 : ¬ first i = 1#1) (h2 : ¬ k0_cond2 i = 1#1) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (y : S384x128.Idx) :
    ∃ pc ∈ (run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).1 f14 f15 f16 f17, y ∈ pc.1.set := by
  unfold run_mid
  exact View.cover_of_tiledL _ S384x128.size (by sl_kernel_rfl) y

/-- The body at the last query block of a head: the blocks it writes into its results, and what it leaves in the
    accumulated ones, functions of what these hold when it starts. -/
@[irreducible] def run_last (h1 : ¬ first i = 1#1) (h2 : k0_cond2 i = 1#1) :
    Σ' (L11 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → List (View.Piece (Elt F) S384x128 .bf16))
      (L12 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → List (View.Piece (Elt F) S4224x128 .bf16))
      (L13 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → List (View.Piece (Elt F) S4224x128 .bf16))
      (G14 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg14.view.loc (c : Thread nD τ)))
      (G15 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg15.view.loc (c : Thread nD τ)))
      (G16 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg16.view.loc (c : Thread nD τ))),
      {G17 : Buf (Elt F) (arg14.view.loc (c : Thread nD τ)) → Buf (Elt F) (arg15.view.loc (c : Thread nD τ)) → Buf (Elt F) (arg16.view.loc (c : Thread nD τ)) → Buf (Elt F) (arg17.view.loc (c : Thread nD τ)) → Buf (Elt F) (arg17.view.loc (c : Thread nD τ)) //
        ∀ (E : Set ℕ) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))),
      Held0 c arg2 arg3 arg4 arg5 arg6 arg7 arg8 arg9 arg10 arg11 arg12 arg13 arg14 arg15 arg16 arg17 X2 X3 X4 X5 X6 X7 X8 X9 X10 f11 f12 f13 f14 f15 f16 f17
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => Held0 c arg2 arg3 arg4 arg5 arg6 arg7 arg8 arg9 arg10 arg11 arg12 arg13 arg14 arg15 arg16 arg17 X2 X3 X4 X5 X6 X7 X8 X9 X10 (arg11.view.writes (Elt F) f11 (L11 f14 f15 f16 f17)) (arg12.view.writes (Elt F) f12 (L12 f14 f15 f16 f17)) (arg13.view.writes (Elt F) f13 (L13 f14 f15 f16 f17)) (G14 f14 f15 f16 f17) (G15 f14 f15 f16 f17) (G16 f14 f15 f16 f17) (G17 f14 f15 f16 f17))} := by
  refine ⟨?_, ?_, ?_, ?_, ?_, ?_, ?_, fun E f11 f12 f13 f14 f15 f16 f17 => ?run⟩
  case run =>
    unfold cc0_fox_bwd
    iintro ⟨H2, H3, H4, H5, H6, H7, H8, H9, H10, H11, H12, H13, H14, H15, H16, H17⟩
    sl_exec
    sl_step
    sl_close

/-- The blocks written into `arg11` cover it. -/
theorem cover_last_11 (h1 : ¬ first i = 1#1) (h2 : k0_cond2 i = 1#1) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (y : S384x128.Idx) :
    ∃ pc ∈ (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).1 f14 f15 f16 f17, y ∈ pc.1.set := by
  unfold run_last
  exact View.cover_of_tiledL _ S384x128.size (by sl_kernel_rfl) y

/-- The blocks written into `arg12` cover it. -/
theorem cover_last_12 (h1 : ¬ first i = 1#1) (h2 : k0_cond2 i = 1#1) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (y : S4224x128.Idx) :
    ∃ pc ∈ (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.1 f14 f15 f16 f17, y ∈ pc.1.set := by
  unfold run_last
  exact View.cover_of_tiledL _ S4224x128.size (by sl_kernel_rfl) y

/-- The blocks written into `arg13` cover it. -/
theorem cover_last_13 (h1 : ¬ first i = 1#1) (h2 : k0_cond2 i = 1#1) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (y : S4224x128.Idx) :
    ∃ pc ∈ (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.1 f14 f15 f16 f17, y ∈ pc.1.set := by
  unfold run_last
  exact View.cover_of_tiledL _ S4224x128.size (by sl_kernel_rfl) y

end Cert.KernelIdeal.Fox

end
-- ==== Proof.PointFirst.lean ====
/-
  The attention backward at the first query block of a head, stated over what its buffers hold.
-/
module

public import proofs.«01_k».proof.Proof.Body
public import Idealize.ShloMosaic.Lib.Pipeline.FrameBody

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (Y2 : Vec F S384x128 .bf16) (Y3 : Vec F S4224x128 .bf16) (Y4 : Vec F S4224x128 .bf16) (Y5 : Vec F S1x1x128 .f32) (Y6 : Vec F S1x384x1 .f32) (Y7 : Vec F S1x33x128 .f32) (Y8 : Vec F S384x128 .f32) (Y9 : Vec F S384x128 .f32) (Y10 : Vec F S1x384x1 .f32)

/-- What the point leaves: the queries' gradient block. -/
@[irreducible] def first_11 (h1 : first i = 1#1) (h2 : ¬ k0_cond2 i = 1#1)  : Vec F S384x128 .bf16 :=
  View.canon ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).1)

theorem first_11_eq (h1 : first i = 1#1) (h2 : ¬ k0_cond2 i = 1#1)  : first_11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 =
  View.canon ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).1) := by
  unfold first_11; rfl

/-- What the point leaves: the gain's gradient so far. -/
@[irreducible] def first_14 (h1 : first i = 1#1) (h2 : ¬ k0_cond2 i = 1#1)  : Vec F S1x1x128 .f32 :=
  arg14.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.1)

theorem first_14_eq (h1 : first i = 1#1) (h2 : ¬ k0_cond2 i = 1#1)  : first_14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 =
  arg14.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.1) := by
  unfold first_14; rfl

/-- What the point leaves: the gates' gradient so far. -/
@[irreducible] def first_15 (h1 : first i = 1#1) (h2 : ¬ k0_cond2 i = 1#1)  : Vec F S1x33x128 .f32 :=
  arg15.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.1)

theorem first_15_eq (h1 : first i = 1#1) (h2 : ¬ k0_cond2 i = 1#1)  : first_15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 =
  arg15.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.1) := by
  unfold first_15; rfl

/-- What the point leaves: the keys' gradient so far. -/
@[irreducible] def first_16 (h1 : first i = 1#1) (h2 : ¬ k0_cond2 i = 1#1)  : Vec F S4224x128 .f32 :=
  arg16.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.1)

theorem first_16_eq (h1 : first i = 1#1) (h2 : ¬ k0_cond2 i = 1#1)  : first_16 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 =
  arg16.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.1) := by
  unfold first_16; rfl

/-- What the point leaves: the values' gradient so far. -/
@[irreducible] def first_17 (h1 : first i = 1#1) (h2 : ¬ k0_cond2 i = 1#1)  : Vec F S4224x128 .f32 :=
  arg17.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.1)

theorem first_17_eq (h1 : first i = 1#1) (h2 : ¬ k0_cond2 i = 1#1)  : first_17 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 =
  arg17.view.read (Elt F) ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.1) := by
  unfold first_17; rfl

/-- The point runs, and leaves that. -/
theorem sound_first (h1 : first i = 1#1) (h2 : ¬ k0_cond2 i = 1#1) (E : Set ℕ) (d11 : Vec F S384x128 .bf16) (d12 : Vec F S4224x128 .bf16) (d13 : Vec F S4224x128 .bf16) (d14 : Vec F S1x1x128 .f32) (d15 : Vec F S1x33x128 .f32) (d16 : Vec F S4224x128 .f32) (d17 : Vec F S4224x128 .f32) :
    (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17) : sProp 𝕄)
    ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare (first_11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2) ∗ owns (c : Thread nD τ) arg12 fullShare d12 ∗ owns (c : Thread nD τ) arg13 fullShare d13 ∗ owns (c : Thread nD τ) arg14 fullShare (first_14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2) ∗ owns (c : Thread nD τ) arg15 fullShare (first_15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2) ∗ owns (c : Thread nD τ) arg16 fullShare (first_16 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2) ∗ owns (c : Thread nD τ) arg17 fullShare (first_17 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2)) : sProp 𝕄)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩⟩
  obtain rfl := harg2.eq_unread h2; clear h2
  obtain rfl := harg3.eq_unread h3; clear h3
  obtain rfl := harg4.eq_unread h4; clear h4
  obtain rfl := harg5.eq_unread h5; clear h5
  obtain rfl := harg6.eq_unread h6; clear h6
  obtain rfl := harg7.eq_unread h7; clear h7
  obtain rfl := harg8.eq_unread h8; clear h8
  obtain rfl := harg9.eq_unread h9; clear h9
  obtain rfl := harg10.eq_unread h10; clear h10
  obtain rfl := harg11.eq_unread h11; clear h11
  obtain rfl := harg12.eq_unread h12; clear h12
  obtain rfl := harg13.eq_unread h13; clear h13
  obtain rfl := harg14.eq_unread h14; clear h14
  obtain rfl := harg15.eq_unread h15; clear h15
  obtain rfl := harg16.eq_unread h16; clear h16
  obtain rfl := harg17.eq_unread h17; clear h17
  iapply (wp_wand_r Idealize.ShloMosaic.frame (wpE (defs₀ (F := F)) 𝒱 (c : Thread nD τ) bd) E)
  isplitl [H2 H3 H4 H5 H6 H7 H8 H9 H10 H11 H12 H13 H14 H15 H16 H17]
  · iapply ((run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %yld ⟨H2, H3, H4, H5, H6, H7, H8, H9, H10, H11, H12, H13, H14, H15, H16, H17⟩
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact (View.read_writes_eq_canon _ _ _ (cover_first_11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _  h1 h2 )).trans (first_11_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2).symm
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact (first_14_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2).symm
    isplitl [H15]
    · iexists _; isplitr; swap; · iexact H15
      ipureintro; exact (first_15_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2).symm
    isplitl [H16]
    · iexists _; isplitr; swap; · iexact H16
      ipureintro; exact (first_16_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2).symm
    iexists _; isplitr; swap; · iexact H17
    ipureintro; exact (first_17_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2).symm

end Cert.KernelIdeal.Fox

end
-- ==== Proof.PointMid.lean ====
/-
  The attention backward at the middle query blocks of a head, stated over what its buffers hold.
-/
module

public import proofs.«01_k».proof.Proof.Body
public import Idealize.ShloMosaic.Lib.Pipeline.FrameBody

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (Y2 : Vec F S384x128 .bf16) (Y3 : Vec F S4224x128 .bf16) (Y4 : Vec F S4224x128 .bf16) (Y5 : Vec F S1x1x128 .f32) (Y6 : Vec F S1x384x1 .f32) (Y7 : Vec F S1x33x128 .f32) (Y8 : Vec F S384x128 .f32) (Y9 : Vec F S384x128 .f32) (Y10 : Vec F S1x384x1 .f32)

/-- What the point leaves: the queries' gradient block. -/
@[irreducible] def mid_11 (h1 : ¬ first i = 1#1) (h2 : ¬ k0_cond2 i = 1#1) (d14 : Vec F S1x1x128 .f32) (d15 : Vec F S1x33x128 .f32) (d16 : Vec F S4224x128 .f32) (d17 : Vec F S4224x128 .f32) : Vec F S384x128 .bf16 :=
  View.canon ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).1 (harg14.unread d14) (harg15.unread d15) (harg16.unread d16) (harg17.unread d17))

theorem mid_11_eq (h1 : ¬ first i = 1#1) (h2 : ¬ k0_cond2 i = 1#1) (d14 : Vec F S1x1x128 .f32) (d15 : Vec F S1x33x128 .f32) (d16 : Vec F S4224x128 .f32) (d17 : Vec F S4224x128 .f32) : mid_11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  View.canon ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).1 (harg14.unread d14) (harg15.unread d15) (harg16.unread d16) (harg17.unread d17)) := by
  unfold mid_11; rfl

/-- What the point leaves: the gain's gradient so far. -/
@[irreducible] def mid_14 (h1 : ¬ first i = 1#1) (h2 : ¬ k0_cond2 i = 1#1) (d14 : Vec F S1x1x128 .f32) (d15 : Vec F S1x33x128 .f32) (d16 : Vec F S4224x128 .f32) (d17 : Vec F S4224x128 .f32) : Vec F S1x1x128 .f32 :=
  arg14.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.1 (harg14.unread d14) (harg15.unread d15) (harg16.unread d16) (harg17.unread d17))

theorem mid_14_eq (h1 : ¬ first i = 1#1) (h2 : ¬ k0_cond2 i = 1#1) (d14 : Vec F S1x1x128 .f32) (d15 : Vec F S1x33x128 .f32) (d16 : Vec F S4224x128 .f32) (d17 : Vec F S4224x128 .f32) : mid_14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg14.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.1 (harg14.unread d14) (harg15.unread d15) (harg16.unread d16) (harg17.unread d17)) := by
  unfold mid_14; rfl

/-- What the point leaves: the gates' gradient so far. -/
@[irreducible] def mid_15 (h1 : ¬ first i = 1#1) (h2 : ¬ k0_cond2 i = 1#1) (d14 : Vec F S1x1x128 .f32) (d15 : Vec F S1x33x128 .f32) (d16 : Vec F S4224x128 .f32) (d17 : Vec F S4224x128 .f32) : Vec F S1x33x128 .f32 :=
  arg15.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.1 (harg14.unread d14) (harg15.unread d15) (harg16.unread d16) (harg17.unread d17))

theorem mid_15_eq (h1 : ¬ first i = 1#1) (h2 : ¬ k0_cond2 i = 1#1) (d14 : Vec F S1x1x128 .f32) (d15 : Vec F S1x33x128 .f32) (d16 : Vec F S4224x128 .f32) (d17 : Vec F S4224x128 .f32) : mid_15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg15.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.1 (harg14.unread d14) (harg15.unread d15) (harg16.unread d16) (harg17.unread d17)) := by
  unfold mid_15; rfl

/-- What the point leaves: the keys' gradient so far. -/
@[irreducible] def mid_16 (h1 : ¬ first i = 1#1) (h2 : ¬ k0_cond2 i = 1#1) (d14 : Vec F S1x1x128 .f32) (d15 : Vec F S1x33x128 .f32) (d16 : Vec F S4224x128 .f32) (d17 : Vec F S4224x128 .f32) : Vec F S4224x128 .f32 :=
  arg16.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.1 (harg14.unread d14) (harg15.unread d15) (harg16.unread d16) (harg17.unread d17))

theorem mid_16_eq (h1 : ¬ first i = 1#1) (h2 : ¬ k0_cond2 i = 1#1) (d14 : Vec F S1x1x128 .f32) (d15 : Vec F S1x33x128 .f32) (d16 : Vec F S4224x128 .f32) (d17 : Vec F S4224x128 .f32) : mid_16 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg16.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.1 (harg14.unread d14) (harg15.unread d15) (harg16.unread d16) (harg17.unread d17)) := by
  unfold mid_16; rfl

/-- What the point leaves: the values' gradient so far. -/
@[irreducible] def mid_17 (h1 : ¬ first i = 1#1) (h2 : ¬ k0_cond2 i = 1#1) (d14 : Vec F S1x1x128 .f32) (d15 : Vec F S1x33x128 .f32) (d16 : Vec F S4224x128 .f32) (d17 : Vec F S4224x128 .f32) : Vec F S4224x128 .f32 :=
  arg17.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.1 (harg14.unread d14) (harg15.unread d15) (harg16.unread d16) (harg17.unread d17))

theorem mid_17_eq (h1 : ¬ first i = 1#1) (h2 : ¬ k0_cond2 i = 1#1) (d14 : Vec F S1x1x128 .f32) (d15 : Vec F S1x33x128 .f32) (d16 : Vec F S4224x128 .f32) (d17 : Vec F S4224x128 .f32) : mid_17 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg17.view.read (Elt F) ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.1 (harg14.unread d14) (harg15.unread d15) (harg16.unread d16) (harg17.unread d17)) := by
  unfold mid_17; rfl

/-- The point runs, and leaves that. -/
theorem sound_mid (h1 : ¬ first i = 1#1) (h2 : ¬ k0_cond2 i = 1#1) (E : Set ℕ) (d11 : Vec F S384x128 .bf16) (d12 : Vec F S4224x128 .bf16) (d13 : Vec F S4224x128 .bf16) (d14 : Vec F S1x1x128 .f32) (d15 : Vec F S1x33x128 .f32) (d16 : Vec F S4224x128 .f32) (d17 : Vec F S4224x128 .f32) :
    (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17) : sProp 𝕄)
    ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare (mid_11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg12 fullShare d12 ∗ owns (c : Thread nD τ) arg13 fullShare d13 ∗ owns (c : Thread nD τ) arg14 fullShare (mid_14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg15 fullShare (mid_15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg16 fullShare (mid_16 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg17 fullShare (mid_17 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17)) : sProp 𝕄)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩⟩
  obtain rfl := harg2.eq_unread h2; clear h2
  obtain rfl := harg3.eq_unread h3; clear h3
  obtain rfl := harg4.eq_unread h4; clear h4
  obtain rfl := harg5.eq_unread h5; clear h5
  obtain rfl := harg6.eq_unread h6; clear h6
  obtain rfl := harg7.eq_unread h7; clear h7
  obtain rfl := harg8.eq_unread h8; clear h8
  obtain rfl := harg9.eq_unread h9; clear h9
  obtain rfl := harg10.eq_unread h10; clear h10
  obtain rfl := harg11.eq_unread h11; clear h11
  obtain rfl := harg12.eq_unread h12; clear h12
  obtain rfl := harg13.eq_unread h13; clear h13
  obtain rfl := harg14.eq_unread h14; clear h14
  obtain rfl := harg15.eq_unread h15; clear h15
  obtain rfl := harg16.eq_unread h16; clear h16
  obtain rfl := harg17.eq_unread h17; clear h17
  iapply (wp_wand_r Idealize.ShloMosaic.frame (wpE (defs₀ (F := F)) 𝒱 (c : Thread nD τ) bd) E)
  isplitl [H2 H3 H4 H5 H6 H7 H8 H9 H10 H11 H12 H13 H14 H15 H16 H17]
  · iapply ((run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %yld ⟨H2, H3, H4, H5, H6, H7, H8, H9, H10, H11, H12, H13, H14, H15, H16, H17⟩
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact (View.read_writes_eq_canon _ _ _ (cover_mid_11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _  h1 h2 _ _ _ _)).trans (mid_11_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact (mid_14_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H15]
    · iexists _; isplitr; swap; · iexact H15
      ipureintro; exact (mid_15_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H16]
    · iexists _; isplitr; swap; · iexact H16
      ipureintro; exact (mid_16_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    iexists _; isplitr; swap; · iexact H17
    ipureintro; exact (mid_17_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm

end Cert.KernelIdeal.Fox

end
-- ==== Proof.PointLast.lean ====
/-
  The attention backward at the last query block of a head, stated over what its buffers hold.
-/
module

public import proofs.«01_k».proof.Proof.Body
public import Idealize.ShloMosaic.Lib.Pipeline.FrameBody

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (Y2 : Vec F S384x128 .bf16) (Y3 : Vec F S4224x128 .bf16) (Y4 : Vec F S4224x128 .bf16) (Y5 : Vec F S1x1x128 .f32) (Y6 : Vec F S1x384x1 .f32) (Y7 : Vec F S1x33x128 .f32) (Y8 : Vec F S384x128 .f32) (Y9 : Vec F S384x128 .f32) (Y10 : Vec F S1x384x1 .f32)

/-- What the point leaves: the queries' gradient block. -/
@[irreducible] def last_11 (h1 : ¬ first i = 1#1) (h2 : k0_cond2 i = 1#1) (d14 : Vec F S1x1x128 .f32) (d15 : Vec F S1x33x128 .f32) (d16 : Vec F S4224x128 .f32) (d17 : Vec F S4224x128 .f32) : Vec F S384x128 .bf16 :=
  View.canon ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).1 (harg14.unread d14) (harg15.unread d15) (harg16.unread d16) (harg17.unread d17))

theorem last_11_eq (h1 : ¬ first i = 1#1) (h2 : k0_cond2 i = 1#1) (d14 : Vec F S1x1x128 .f32) (d15 : Vec F S1x33x128 .f32) (d16 : Vec F S4224x128 .f32) (d17 : Vec F S4224x128 .f32) : last_11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  View.canon ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).1 (harg14.unread d14) (harg15.unread d15) (harg16.unread d16) (harg17.unread d17)) := by
  unfold last_11; rfl

/-- What the point leaves: the keys' gradient. -/
@[irreducible] def last_12 (h1 : ¬ first i = 1#1) (h2 : k0_cond2 i = 1#1) (d14 : Vec F S1x1x128 .f32) (d15 : Vec F S1x33x128 .f32) (d16 : Vec F S4224x128 .f32) (d17 : Vec F S4224x128 .f32) : Vec F S4224x128 .bf16 :=
  View.canon ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.1 (harg14.unread d14) (harg15.unread d15) (harg16.unread d16) (harg17.unread d17))

theorem last_12_eq (h1 : ¬ first i = 1#1) (h2 : k0_cond2 i = 1#1) (d14 : Vec F S1x1x128 .f32) (d15 : Vec F S1x33x128 .f32) (d16 : Vec F S4224x128 .f32) (d17 : Vec F S4224x128 .f32) : last_12 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  View.canon ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.1 (harg14.unread d14) (harg15.unread d15) (harg16.unread d16) (harg17.unread d17)) := by
  unfold last_12; rfl

/-- What the point leaves: the values' gradient. -/
@[irreducible] def last_13 (h1 : ¬ first i = 1#1) (h2 : k0_cond2 i = 1#1) (d14 : Vec F S1x1x128 .f32) (d15 : Vec F S1x33x128 .f32) (d16 : Vec F S4224x128 .f32) (d17 : Vec F S4224x128 .f32) : Vec F S4224x128 .bf16 :=
  View.canon ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.1 (harg14.unread d14) (harg15.unread d15) (harg16.unread d16) (harg17.unread d17))

theorem last_13_eq (h1 : ¬ first i = 1#1) (h2 : k0_cond2 i = 1#1) (d14 : Vec F S1x1x128 .f32) (d15 : Vec F S1x33x128 .f32) (d16 : Vec F S4224x128 .f32) (d17 : Vec F S4224x128 .f32) : last_13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  View.canon ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.1 (harg14.unread d14) (harg15.unread d15) (harg16.unread d16) (harg17.unread d17)) := by
  unfold last_13; rfl

/-- What the point leaves: the gain's gradient so far. -/
@[irreducible] def last_14 (h1 : ¬ first i = 1#1) (h2 : k0_cond2 i = 1#1) (d14 : Vec F S1x1x128 .f32) (d15 : Vec F S1x33x128 .f32) (d16 : Vec F S4224x128 .f32) (d17 : Vec F S4224x128 .f32) : Vec F S1x1x128 .f32 :=
  arg14.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.1 (harg14.unread d14) (harg15.unread d15) (harg16.unread d16) (harg17.unread d17))

theorem last_14_eq (h1 : ¬ first i = 1#1) (h2 : k0_cond2 i = 1#1) (d14 : Vec F S1x1x128 .f32) (d15 : Vec F S1x33x128 .f32) (d16 : Vec F S4224x128 .f32) (d17 : Vec F S4224x128 .f32) : last_14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg14.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.1 (harg14.unread d14) (harg15.unread d15) (harg16.unread d16) (harg17.unread d17)) := by
  unfold last_14; rfl

/-- What the point leaves: the gates' gradient so far. -/
@[irreducible] def last_15 (h1 : ¬ first i = 1#1) (h2 : k0_cond2 i = 1#1) (d14 : Vec F S1x1x128 .f32) (d15 : Vec F S1x33x128 .f32) (d16 : Vec F S4224x128 .f32) (d17 : Vec F S4224x128 .f32) : Vec F S1x33x128 .f32 :=
  arg15.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.1 (harg14.unread d14) (harg15.unread d15) (harg16.unread d16) (harg17.unread d17))

theorem last_15_eq (h1 : ¬ first i = 1#1) (h2 : k0_cond2 i = 1#1) (d14 : Vec F S1x1x128 .f32) (d15 : Vec F S1x33x128 .f32) (d16 : Vec F S4224x128 .f32) (d17 : Vec F S4224x128 .f32) : last_15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg15.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.1 (harg14.unread d14) (harg15.unread d15) (harg16.unread d16) (harg17.unread d17)) := by
  unfold last_15; rfl

/-- What the point leaves: the keys' gradient so far. -/
@[irreducible] def last_16 (h1 : ¬ first i = 1#1) (h2 : k0_cond2 i = 1#1) (d14 : Vec F S1x1x128 .f32) (d15 : Vec F S1x33x128 .f32) (d16 : Vec F S4224x128 .f32) (d17 : Vec F S4224x128 .f32) : Vec F S4224x128 .f32 :=
  arg16.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.2.1 (harg14.unread d14) (harg15.unread d15) (harg16.unread d16) (harg17.unread d17))

theorem last_16_eq (h1 : ¬ first i = 1#1) (h2 : k0_cond2 i = 1#1) (d14 : Vec F S1x1x128 .f32) (d15 : Vec F S1x33x128 .f32) (d16 : Vec F S4224x128 .f32) (d17 : Vec F S4224x128 .f32) : last_16 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg16.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.2.1 (harg14.unread d14) (harg15.unread d15) (harg16.unread d16) (harg17.unread d17)) := by
  unfold last_16; rfl

/-- What the point leaves: the values' gradient so far. -/
@[irreducible] def last_17 (h1 : ¬ first i = 1#1) (h2 : k0_cond2 i = 1#1) (d14 : Vec F S1x1x128 .f32) (d15 : Vec F S1x33x128 .f32) (d16 : Vec F S4224x128 .f32) (d17 : Vec F S4224x128 .f32) : Vec F S4224x128 .f32 :=
  arg17.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.2.2.1 (harg14.unread d14) (harg15.unread d15) (harg16.unread d16) (harg17.unread d17))

theorem last_17_eq (h1 : ¬ first i = 1#1) (h2 : k0_cond2 i = 1#1) (d14 : Vec F S1x1x128 .f32) (d15 : Vec F S1x33x128 .f32) (d16 : Vec F S4224x128 .f32) (d17 : Vec F S4224x128 .f32) : last_17 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 =
  arg17.view.read (Elt F) ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.2.2.1 (harg14.unread d14) (harg15.unread d15) (harg16.unread d16) (harg17.unread d17)) := by
  unfold last_17; rfl

/-- The point runs, and leaves that. -/
theorem sound_last (h1 : ¬ first i = 1#1) (h2 : k0_cond2 i = 1#1) (E : Set ℕ) (d11 : Vec F S384x128 .bf16) (d12 : Vec F S4224x128 .bf16) (d13 : Vec F S4224x128 .bf16) (d14 : Vec F S1x1x128 .f32) (d15 : Vec F S1x33x128 .f32) (d16 : Vec F S4224x128 .f32) (d17 : Vec F S4224x128 .f32) :
    (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17) : sProp 𝕄)
    ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare (last_11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg12 fullShare (last_12 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg13 fullShare (last_13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg14 fullShare (last_14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg15 fullShare (last_15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg16 fullShare (last_16 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17) ∗ owns (c : Thread nD τ) arg17 fullShare (last_17 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17)) : sProp 𝕄)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩⟩
  obtain rfl := harg2.eq_unread h2; clear h2
  obtain rfl := harg3.eq_unread h3; clear h3
  obtain rfl := harg4.eq_unread h4; clear h4
  obtain rfl := harg5.eq_unread h5; clear h5
  obtain rfl := harg6.eq_unread h6; clear h6
  obtain rfl := harg7.eq_unread h7; clear h7
  obtain rfl := harg8.eq_unread h8; clear h8
  obtain rfl := harg9.eq_unread h9; clear h9
  obtain rfl := harg10.eq_unread h10; clear h10
  obtain rfl := harg11.eq_unread h11; clear h11
  obtain rfl := harg12.eq_unread h12; clear h12
  obtain rfl := harg13.eq_unread h13; clear h13
  obtain rfl := harg14.eq_unread h14; clear h14
  obtain rfl := harg15.eq_unread h15; clear h15
  obtain rfl := harg16.eq_unread h16; clear h16
  obtain rfl := harg17.eq_unread h17; clear h17
  iapply (wp_wand_r Idealize.ShloMosaic.frame (wpE (defs₀ (F := F)) 𝒱 (c : Thread nD τ) bd) E)
  isplitl [H2 H3 H4 H5 H6 H7 H8 H9 H10 H11 H12 H13 H14 H15 H16 H17]
  · iapply ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) h1 h2).2.2.2.2.2.2.2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %yld ⟨H2, H3, H4, H5, H6, H7, H8, H9, H10, H11, H12, H13, H14, H15, H16, H17⟩
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact (View.read_writes_eq_canon _ _ _ (cover_last_11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _  h1 h2 _ _ _ _)).trans (last_11_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H12]
    · iexists _; isplitr; swap; · iexact H12
      ipureintro; exact (View.read_writes_eq_canon _ _ _ (cover_last_12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _  h1 h2 _ _ _ _)).trans (last_12_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H13]
    · iexists _; isplitr; swap; · iexact H13
      ipureintro; exact (View.read_writes_eq_canon _ _ _ (cover_last_13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _  h1 h2 _ _ _ _)).trans (last_13_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H14]
    · iexists _; isplitr; swap; · iexact H14
      ipureintro; exact (last_14_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H15]
    · iexists _; isplitr; swap; · iexact H15
      ipureintro; exact (last_15_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    isplitl [H16]
    · iexists _; isplitr; swap; · iexact H16
      ipureintro; exact (last_16_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm
    iexists _; isplitr; swap; · iexact H17
    ipureintro; exact (last_17_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17).symm

end Cert.KernelIdeal.Fox

end
-- ==== Proof.Run.lean ====
/-
  The attention backward's launch: what is accumulated from point to point, every point's body, and the run of the program.
-/
module

public import proofs.«01_k».proof.Proof.PointFirst
public import proofs.«01_k».proof.Proof.PointMid
public import proofs.«01_k».proof.Proof.PointLast
public import proofs.«01_k».proof.Proof.Gen.KernelIdeal.Frame
public import proofs.«01_k».proof.Proof.Gen.KernelIdeal.Points

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is accumulated along a head: the norm's gain gradient, the gates' gradient, and the keys' and the values'. -/
abbrev Carry (F : FTy → Type) := Vec F S1x1x128 .f32 × Vec F S1x33x128 .f32 × Vec F S4224x128 .f32 × Vec F S4224x128 .f32

/-- What a point leaves: the queries' gradient block, the keys' and the values' gradients (written at a head's last point
    only), and the accumulated ones. -/
abbrev Out (F : FTy → Type) := Vec F S384x128 .bf16 × Vec F S4224x128 .bf16 × Vec F S4224x128 .bf16 × Carry F

/-- Contents of which nothing is said. -/
@[irreducible] def anything {s : Shape} {e : EltTy} : Vec F s e :=
  fun _ => Classical.choice ((inferInstance : ∀ e, Nonempty (Elt F e)) e)

theorem first_iff : ∀ t : Fin cfg0.N, first (grid0.coords t) = 1#1 ↔ t.val % 11 = 0 := by decide +kernel
theorem last_iff : ∀ t : Fin cfg0.N, k0_cond2 (grid0.coords t) = 1#1 ↔ t.val % 11 = 10 := by decide +kernel

/-- What point `t` leaves, from what is accumulated before it. -/
@[irreducible] def next (c : Dev nD) (t : Fin cfg0.N) (s : Carry F) : Out F :=
  if h1 : first (grid0.coords t) = 1#1 then
    if h2 : k0_cond2 (grid0.coords t) = 1#1 then (anything, anything, anything, s)
    else (first_11 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      anything,
      anything,
      first_14 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      first_15 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      first_16 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      first_17 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2)
  else if h2 : k0_cond2 (grid0.coords t) = 1#1 then
    (last_11 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_12 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_13 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_14 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_15 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_16 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_17 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2)
  else
    (mid_11 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      anything,
      anything,
      mid_14 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      mid_15 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      mid_16 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      mid_17 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2)

theorem next_first (c : Dev nD) (t : Fin cfg0.N) (s : Carry F) (h1 : first (grid0.coords t) = 1#1) (h2 : ¬ k0_cond2 (grid0.coords t) = 1#1) : next m c t s =
    (first_11 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      anything,
      anything,
      first_14 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      first_15 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      first_16 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2,
      first_17 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2) := by
  unfold next; rw [dif_pos h1, dif_neg h2]

theorem next_mid (c : Dev nD) (t : Fin cfg0.N) (s : Carry F) (h1 : ¬ first (grid0.coords t) = 1#1) (h2 : ¬ k0_cond2 (grid0.coords t) = 1#1) : next m c t s =
    (mid_11 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      anything,
      anything,
      mid_14 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      mid_15 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      mid_16 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      mid_17 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2) := by
  unfold next; rw [dif_neg h1, dif_neg h2]

theorem next_last (c : Dev nD) (t : Fin cfg0.N) (s : Carry F) (h1 : ¬ first (grid0.coords t) = 1#1) (h2 : k0_cond2 (grid0.coords t) = 1#1) : next m c t s =
    (last_11 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_12 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_13 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_14 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_15 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_16 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2,
      last_17 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 s.1 s.2.1 s.2.2.1 s.2.2.2) := by
  unfold next; rw [dif_neg h1, dif_pos h2]

/-- What is accumulated before point `n`. -/
def carry (c : Dev nD) : ℕ → Carry F
  | 0 => (anything, anything, anything, anything)
  | n + 1 => if h : n < cfg0.N then (next m c ⟨n, h⟩ (carry c n)).2.2.2 else carry c n

theorem carry_succ (c : Dev nD) (t : Fin cfg0.N) : carry m c (t.val + 1) = (next m c t (carry m c t.val)).2.2.2 := by
  rw [carry, dif_pos t.isLt]

/-- What the scratch buffers hold before point `n`: the keys' and the values' gradients so far, but at a head's first point. -/
def Scratch (c : Dev nD) (n : ℕ) : sProp 𝕄 :=
  iprop((∃ d, ⌜n % 11 ≠ 0 → d = (carry m c n).2.2.1⌝ ∗ owns (c : Thread nD τ) (Memref.whole cc0_scratch0) fullShare d)
    ∗ (∃ d, ⌜n % 11 ≠ 0 → d = (carry m c n).2.2.2⌝ ∗ owns (c : Thread nD τ) (Memref.whole cc0_scratch1) fullShare d)
    ∗ ∃ r, prngReg c r)

/-- The launch's data: the input windows hold their blocks, the results what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (next m c t (carry m c t.val)).1
    | ⟨10, _⟩ => (next m c t (carry m c t.val)).2.1
    | ⟨11, _⟩ => (next m c t (carry m c t.val)).2.2.1
    | ⟨12, _⟩ => (next m c t (carry m c t.val)).2.2.2.1
    | ⟨13, _⟩ => (next m c t (carry m c t.val)).2.2.2.2.1
  Φ t := Scratch m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (next m c t (carry m c t.val)).1 := by dsimp only [dats]
theorem after_10 (c : Dev nD) (t : Fin cfg0.N) : (dats m 0 c).after 10 t = (next m c t (carry m c t.val)).2.1 := by dsimp only [dats]
theorem after_11 (c : Dev nD) (t : Fin cfg0.N) : (dats m 0 c).after 11 t = (next m c t (carry m c t.val)).2.2.1 := by dsimp only [dats]
theorem after_12 (c : Dev nD) (t : Fin cfg0.N) : (dats m 0 c).after 12 t = (next m c t (carry m c t.val)).2.2.2.1 := by dsimp only [dats]
theorem after_13 (c : Dev nD) (t : Fin cfg0.N) : (dats m 0 c).after 13 t = (next m c t (carry m c t.val)).2.2.2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem before_12 (c : Dev nD) (t : Fin cfg0.N) (ht : t.val % 11 ≠ 0) (d) :
    (dats m 0 c).before 12 t d = (carry m c t.val).1 := by
  have h0 : t.val ≠ 0 := fun h => ht (by rw [h])
  rw [Dat.before_out_kept (dats m 0 c) 12 rfl t h0 (by
      rw [Bool.eq_false_iff, ne_eq, flush0_12]; dsimp only; omega) (fun _ => rfl) (fun _ _ => rfl) d, after_12]
  have h1 : t.val - 1 + 1 = t.val := by omega
  have := carry_succ m c ⟨t.val - 1, Nat.lt_of_le_of_lt (Nat.sub_le _ _) t.isLt⟩
  dsimp only at this
  rw [h1] at this
  rw [this]

theorem before_13 (c : Dev nD) (t : Fin cfg0.N) (ht : t.val % 11 ≠ 0) (d) :
    (dats m 0 c).before 13 t d = (carry m c t.val).2.1 := by
  have h0 : t.val ≠ 0 := fun h => ht (by rw [h])
  rw [Dat.before_out_kept (dats m 0 c) 13 rfl t h0 (by
      rw [Bool.eq_false_iff, ne_eq, flush0_13]; dsimp only; omega) (fun _ => rfl) (fun _ _ => rfl) d, after_13]
  have h1 : t.val - 1 + 1 = t.val := by omega
  have := carry_succ m c ⟨t.val - 1, Nat.lt_of_le_of_lt (Nat.sub_le _ _) t.isLt⟩
  dsimp only at this
  rw [h1] at this
  rw [this]

/-- What a point's body is handed, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (dats m 0 c).leavesExact 10 t
    ∗ (dats m 0 c).leavesExact 11 t
    ∗ owns (c : Thread nD τ) (st0_12 t) fullShare ((dats m 0 c).after 12 t)
    ∗ owns (c : Thread nD τ) (st0_13 t) fullShare ((dats m 0 c).after 13 t))

theorem leaves_10_idle (c : Dev nD) (t : Fin cfg0.N) (h2 : ¬ k0_cond2 (grid0.coords t) = 1#1) :
    (dats m 0 c).leavesExact 10 t = iprop(∃ d, owns (c : Thread nD τ) (st0_10 t) fullShare ((dats m 0 c).before 10 t d)) :=
  (dats m 0 c).leavesExact_idle 10 t (by show (!(k0_cond2 (grid0.coords t) == 1#1)) = true; simp [h2])
    (by rw [Bool.eq_false_iff, ne_eq, flush0_10, ← last_iff]; exact h2)
theorem leaves_11_idle (c : Dev nD) (t : Fin cfg0.N) (h2 : ¬ k0_cond2 (grid0.coords t) = 1#1) :
    (dats m 0 c).leavesExact 11 t = iprop(∃ d, owns (c : Thread nD τ) (st0_11 t) fullShare ((dats m 0 c).before 11 t d)) :=
  (dats m 0 c).leavesExact_idle 11 t (by show (!(k0_cond2 (grid0.coords t) == 1#1)) = true; simp [h2])
    (by rw [Bool.eq_false_iff, ne_eq, flush0_11, ← last_iff]; exact h2)
theorem leaves_10_live (c : Dev nD) (t : Fin cfg0.N) (h2 : k0_cond2 (grid0.coords t) = 1#1) :
    (dats m 0 c).leavesExact 10 t = owns (c : Thread nD τ) (st0_10 t) fullShare ((dats m 0 c).after 10 t) := by
  have h : cfg0.idle 10 (cfg0.grid.coords t) = false := by
    show (!(k0_cond2 (grid0.coords t) == 1#1)) = false; simp [h2]
  unfold Dat.leavesExact; rw [h]
theorem leaves_11_live (c : Dev nD) (t : Fin cfg0.N) (h2 : k0_cond2 (grid0.coords t) = 1#1) :
    (dats m 0 c).leavesExact 11 t = owns (c : Thread nD τ) (st0_11 t) fullShare ((dats m 0 c).after 11 t) := by
  have h : cfg0.idle 11 (cfg0.grid.coords t) = false := by
    show (!(k0_cond2 (grid0.coords t) == 1#1)) = false; simp [h2]
  unfold Dat.leavesExact; rw [h]

set_option backward.isDefEq.respectTransparency.types false in
/-- A first point's body. -/
theorem body_first (c : Dev nD) (t : Fin cfg0.N) (h1 : first (grid0.coords t) = 1#1) (h2 : ¬ k0_cond2 (grid0.coords t) = 1#1) :
    bodyPre m c t ⊢ wp frame (wpE (defs₀ (F := F)) Variants.none c none) Set.univ (bodyAt0 t) (fun _ => bodyPost m c t) := by
  have hc := carry_succ m c t
  have hn := next_first m c t (carry m c t.val) h1 h2
  unfold bodyPre bodyPost bodyAt0
  rw [show (dats m 0 c).Φ t.succ = Scratch m c (t.val + 1) from rfl, show (dats m 0 c).Φ t.castSucc = Scratch m c t.val from rfl]
  unfold Scratch Dat.owesAt Pipeline.owesWithin
  rw [show (dats m 0 c).owed t.castSucc = 0 from rfl, show (dats m 0 c).owed t.succ = 0 from rfl]
  rw [hc, leaves_10_idle m c t h2, leaves_11_idle m c t h2, after_0, after_1, after_2, after_3, after_4, after_5, after_6, after_7, after_8, after_9, after_12, after_13, hn]
  simp only [before_0, before_1, before_2, before_3, before_4, before_5, before_6, before_7, before_8]
  clear hc hn
  iintro ⟨⟨⟨%d16, %e16, H16⟩, ⟨%d17, %e17, H17⟩, Hg⟩, ⟨%W, -, HW⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17]
  · iapply (sound_first Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 Set.univ ((dats m 0 c).before 9 t d11) ((dats m 0 c).before 10 t d12) ((dats m 0 c).before 11 t d13) ((dats m 0 c).before 12 t d14) ((dats m 0 c).before 13 t d15) d16 d17)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %yld ⟨H2, H3, H4, H5, H6, H7, H8, H9, H10, H11, H12, H13, H14, H15, H16, H17⟩
    isplitl [H16 H17 Hg]
    · isplitl [H16]
      · iexists _; isplitr; swap; · iexact H16
        ipureintro; exact fun _ => rfl
      isplitl [H17]
      · iexists _; isplitr; swap; · iexact H17
        ipureintro; exact fun _ => rfl
      iexact Hg
    isplitl [HW]
    · iexists W; isplitr; · ipureintro; exact fun _ _ => Or.inl trivial
      iexact HW
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists d12; iexact H12
    isplitl [H13]; · iexists d13; iexact H13
    isplitl [H14]; · iexact H14
    iexact H15

set_option backward.isDefEq.respectTransparency.types false in
/-- A middle point's body. -/
theorem body_mid (c : Dev nD) (t : Fin cfg0.N) (h1 : ¬ first (grid0.coords t) = 1#1) (h2 : ¬ k0_cond2 (grid0.coords t) = 1#1) :
    bodyPre m c t ⊢ wp frame (wpE (defs₀ (F := F)) Variants.none c none) Set.univ (bodyAt0 t) (fun _ => bodyPost m c t) := by
  have hc := carry_succ m c t
  have hn := next_mid m c t (carry m c t.val) h1 h2
  unfold bodyPre bodyPost bodyAt0
  rw [show (dats m 0 c).Φ t.succ = Scratch m c (t.val + 1) from rfl, show (dats m 0 c).Φ t.castSucc = Scratch m c t.val from rfl]
  unfold Scratch Dat.owesAt Pipeline.owesWithin
  rw [show (dats m 0 c).owed t.castSucc = 0 from rfl, show (dats m 0 c).owed t.succ = 0 from rfl]
  rw [hc, leaves_10_idle m c t h2, leaves_11_idle m c t h2, after_0, after_1, after_2, after_3, after_4, after_5, after_6, after_7, after_8, after_9, after_12, after_13, hn]
  simp only [before_0, before_1, before_2, before_3, before_4, before_5, before_6, before_7, before_8]
  clear hc hn
  have h3 : t.val % 11 ≠ 0 := fun h => h1 ((first_iff t).mpr h)
  simp only [before_12 m c t h3, before_13 m c t h3]
  iintro ⟨⟨⟨%d16, %e16, H16⟩, ⟨%d17, %e17, H17⟩, Hg⟩, ⟨%W, -, HW⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain rfl := e16 h3
  obtain rfl := e17 h3
  iapply (wp_wand_r Idealize.ShloMosaic.frame (wpE (defs₀ (F := F)) Variants.none (c : Thread nD τ) none) Set.univ)
  isplitl [H2 H3 H4 H5 H6 H7 H8 H9 H10 H11 H12 H13 H14 H15 H16 H17]
  · iapply (sound_mid Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 Set.univ ((dats m 0 c).before 9 t d11) ((dats m 0 c).before 10 t d12) ((dats m 0 c).before 11 t d13) (carry m c t.val).1 (carry m c t.val).2.1 (carry m c t.val).2.2.1 (carry m c t.val).2.2.2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %yld ⟨H2, H3, H4, H5, H6, H7, H8, H9, H10, H11, H12, H13, H14, H15, H16, H17⟩
    isplitl [H16 H17 Hg]
    · isplitl [H16]
      · iexists _; isplitr; swap; · iexact H16
        ipureintro; exact fun _ => rfl
      isplitl [H17]
      · iexists _; isplitr; swap; · iexact H17
        ipureintro; exact fun _ => rfl
      iexact Hg
    isplitl [HW]
    · iexists W; isplitr; · ipureintro; exact fun _ _ => Or.inl trivial
      iexact HW
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists d12; iexact H12
    isplitl [H13]; · iexists d13; iexact H13
    isplitl [H14]; · iexact H14
    iexact H15

set_option backward.isDefEq.respectTransparency.types false in
/-- A last point's body. -/
theorem body_last (c : Dev nD) (t : Fin cfg0.N) (h1 : ¬ first (grid0.coords t) = 1#1) (h2 : k0_cond2 (grid0.coords t) = 1#1) :
    bodyPre m c t ⊢ wp frame (wpE (defs₀ (F := F)) Variants.none c none) Set.univ (bodyAt0 t) (fun _ => bodyPost m c t) := by
  have hc := carry_succ m c t
  have hn := next_last m c t (carry m c t.val) h1 h2
  unfold bodyPre bodyPost bodyAt0
  rw [show (dats m 0 c).Φ t.succ = Scratch m c (t.val + 1) from rfl, show (dats m 0 c).Φ t.castSucc = Scratch m c t.val from rfl]
  unfold Scratch Dat.owesAt Pipeline.owesWithin
  rw [show (dats m 0 c).owed t.castSucc = 0 from rfl, show (dats m 0 c).owed t.succ = 0 from rfl]
  rw [hc, leaves_10_live m c t h2, leaves_11_live m c t h2, after_0, after_1, after_2, after_3, after_4, after_5, after_6, after_7, after_8, after_9, after_10, after_11, after_12, after_13, hn]
  simp only [before_0, before_1, before_2, before_3, before_4, before_5, before_6, before_7, before_8]
  clear hc hn
  have h3 : t.val % 11 ≠ 0 := fun h => h1 ((first_iff t).mpr h)
  simp only [before_12 m c t h3, before_13 m c t h3]
  iintro ⟨⟨⟨%d16, %e16, H16⟩, ⟨%d17, %e17, H17⟩, Hg⟩, ⟨%W, -, HW⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain rfl := e16 h3
  obtain rfl := e17 h3
  iapply (wp_wand_r Idealize.ShloMosaic.frame (wpE (defs₀ (F := F)) Variants.none (c : Thread nD τ) none) Set.univ)
  isplitl [H2 H3 H4 H5 H6 H7 H8 H9 H10 H11 H12 H13 H14 H15 H16 H17]
  · iapply (sound_last Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) h1 h2 Set.univ ((dats m 0 c).before 9 t d11) ((dats m 0 c).before 10 t d12) ((dats m 0 c).before 11 t d13) (carry m c t.val).1 (carry m c t.val).2.1 (carry m c t.val).2.2.1 (carry m c t.val).2.2.2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %yld ⟨H2, H3, H4, H5, H6, H7, H8, H9, H10, H11, H12, H13, H14, H15, H16, H17⟩
    isplitl [H16 H17 Hg]
    · isplitl [H16]
      · iexists _; isplitr; swap; · iexact H16
        ipureintro; exact fun _ => rfl
      isplitl [H17]
      · iexists _; isplitr; swap; · iexact H17
        ipureintro; exact fun _ => rfl
      iexact Hg
    isplitl [HW]
    · iexists W; isplitr; · ipureintro; exact fun _ _ => Or.inl trivial
      iexact HW
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem sound_body (c : Dev nD) (t : Fin cfg0.N) :
    bodyPre m c t ⊢ wp frame (wpE (defs₀ (F := F)) Variants.none c none) Set.univ (bodyAt0 t) (fun _ => bodyPost m c t) := by
  by_cases h1 : first (grid0.coords t) = 1#1
  · exact body_first m c t h1 fun h2 => by
      have a := (first_iff t).mp h1; have b := (last_iff t).mp h2; omega
  · by_cases h2 : k0_cond2 (grid0.coords t) = 1#1
    · exact body_last m c t h1 h2
    · exact body_mid m c t h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem scratch_in (c : Dev nD) : Pipeline.ΦA spec0 c ⊢ (Scratch m c 0 : sProp 𝕄) := by
  unfold Pipeline.ΦA Scratch
  rw [scopedRest0_eq]
  iintro ⟨⟨⟨%f, Hf⟩, ⟨%g, Hg⟩⟩, Hr⟩
  isplitl [Hf]
  · iexists f; isplitr; · ipureintro; exact fun h => absurd rfl h
    rw [owns_whole]; iexact Hf
  isplitl [Hg]
  · iexists g; isplitr; · ipureintro; exact fun h => absurd rfl h
    rw [owns_whole]; iexact Hg
  iexact Hr

theorem scratch_out (c : Dev nD) (n : ℕ) : (Scratch m c n : sProp 𝕄) ⊢ Pipeline.ΦA spec0 c := by
  unfold Pipeline.ΦA Scratch
  rw [scopedRest0_eq]
  simp only [owns_whole]
  iintro ⟨⟨%f, -, Hf⟩, ⟨%g, -, Hg⟩, Hr⟩
  isplitl [Hf Hg]
  · isplitl [Hf]
    · iexists f; iexact Hf
    iexists g; iexact Hg
  iexact Hr

set_option backward.isDefEq.respectTransparency.types false in
/-- The whole program's run, and what it leaves. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => scratch_in m c) (hout := fun c => scratch_out m c _)

end Cert.KernelIdeal.Fox

end
-- ==== Proof.SameText.lean ====
/-
  The kernel printed for the bits and printed for the reals: one text, so one program at the bits.
-/
module

public import proofs.«01_k».proof.Defs
public import proofs.«01_k».proof.Proof.Gen.Kernel
public import proofs.«01_k».proof.Proof.Gen.KernelIdeal

@[expose] public section
set_option maxRecDepth 65536
set_option maxHeartbeats 4000000
noncomputable section
namespace Cert.Frames
open Idealize.ShloMosaic Idealize.SL.Sem

/-- The kernel's function, printed for either reading, is one program. -/
theorem body_eq : @Cert.Kernel.cc0_fox_bwd Bits _ _ = @Cert.KernelIdeal.cc0_fox_bwd Bits _ _ := rfl

/-- The two body tables agree. -/
theorem defs₀_eq : @Cert.Kernel.defs₀ Bits _ _ = @Cert.KernelIdeal.defs₀ Bits _ _ := by
  unfold Cert.Kernel.defs₀ Cert.KernelIdeal.defs₀
  rw [body_eq]
  refine congrArg Defs.onTc ?_
  funext l a
  match l, a with
  | 0, (t, s) => rfl

/-- So do the tables with the pipeline's labels. -/
theorem defs_eq : @Cert.Kernel.defs Bits _ _ = @Cert.KernelIdeal.defs Bits _ _ :=
  congrArg (Pipeline.defs (Cert.KernelIdeal.pcfgs (F := Bits))) defs₀_eq

/-- The two host programs agree. -/
theorem main_eq : @Cert.Kernel.main Bits _ _ = @Cert.KernelIdeal.main Bits _ _ := rfl

end Cert.Frames
end
-- ==== Proof.Frames.lean ====
/-
  The frames: the kernel at the bits and over the reals, and the reference, end with their arguments and every semaphore as they were.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import proofs.«01_k».proof.Proof.SameText

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 2).trans (((dats m 0 c).arrAt_in 2 rfl _).trans ((A_eq m c 2).trans (V_main_arg0 m c))),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).1 7).trans (((dats m 0 c).arrAt_in 7 rfl _).trans ((A_eq m c 7).trans (V_main_arg3 m c)))⟩, h.2⟩) (run_main m ρ)

end Cert.KernelIdeal.Fox

namespace Cert.Frames

open Idealize.ShloMosaic Idealize.SL.Sem

/-- The kernel at the bits: its text is the text over the reals, whose run holds at any values. -/
theorem kernel : Cert.quiescent_Kernel := fun m ρ _ => by
  rw [defs_eq, main_eq]
  exact Cert.KernelIdeal.Fox.frame (F := Bits) m ρ

/-- The kernel over the reals. -/
theorem kernelIdeal : Cert.quiescent_KernelIdeal := fun m ρ _ => Cert.KernelIdeal.Fox.frame (F := Ideal) m ρ

/-- The reference over the reals: it declares no semaphore. -/
theorem referenceIdeal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

end Cert.Frames

end
-- ==== Proof.Model.lean ====
/-
  The mathematics over the reals, of one head: the attention with a decay, its head norm, and their gradient, as the
  reference writes it and as the kernel does.
-/
module

public import Mathlib.Analysis.SpecialFunctions.Log.Basic
public import Mathlib.Algebra.BigOperators.Field

@[expose] public section

noncomputable section

namespace Cert.Model

/-- One head's data: queries, keys, values, gates, gain, the cotangent of the normed output, and a shift per row (the
    reference shifts a row's logits by their maximum; the result does not depend on it). -/
structure Head where
  Q : Fin 4224 → Fin 128 → ℝ
  K : Fin 4224 → Fin 128 → ℝ
  V : Fin 4224 → Fin 128 → ℝ
  C : Fin 4224 → ℝ
  G : Fin 128 → ℝ
  D : Fin 4224 → Fin 128 → ℝ
  M : Fin 4224 → ℝ
  /-- the scale of the logits, and the norm's epsilon -/
  σ : ℝ
  ε : ℝ
  hε : 0 < ε

variable (H : Head)

namespace Head

/-- A logit. -/
def L (t s : Fin 4224) : ℝ := (∑ d, H.Q t d * H.K s d) * H.σ + (H.C t - H.C s)
/-- Its shifted exponential, zero above the diagonal. -/
def X (t s : Fin 4224) : ℝ := if s ≤ t then Real.exp (H.L t s - H.M t) else 0
/-- A row's sum. -/
def Z (t : Fin 4224) : ℝ := ∑ s, H.X t s
/-- A row's log-sum. -/
def lse (t : Fin 4224) : ℝ := H.M t + Real.log (H.Z t)
/-- A weight. -/
def P (t s : Fin 4224) : ℝ := H.X t s / H.Z t
/-- The output before the norm. -/
def O (t : Fin 4224) (d : Fin 128) : ℝ := ∑ s, H.P t s * H.V s d
/-- The mean square of a row, with the epsilon. -/
def W (t : Fin 4224) : ℝ := (∑ d, H.O t d * H.O t d) / 128 + H.ε
/-- One over its root. -/
def R (t : Fin 4224) : ℝ := (Real.sqrt (H.W t))⁻¹
/-- The cotangent of the output before the norm, as the kernel writes it. -/
def dO (t : Fin 4224) (d : Fin 128) : ℝ :=
  H.R t * (H.D t d * H.G d - H.O t d * H.R t * ((∑ e, H.D t e * H.G e * (H.O t e * H.R t)) / 128))
/-- The row's correction. -/
def δ (t : Fin 4224) : ℝ := ∑ d, H.dO t d * H.O t d
/-- The cotangent of the weights. -/
def dP (t s : Fin 4224) : ℝ := ∑ d, H.dO t d * H.V s d
/-- The cotangent of the logits. -/
def dL (t s : Fin 4224) : ℝ := H.P t s * (H.dP t s - H.δ t)
/-- The gradients. -/
def dQ (t : Fin 4224) (d : Fin 128) : ℝ := ∑ s, H.dL t s * H.σ * H.K s d
def dK (s : Fin 4224) (d : Fin 128) : ℝ := ∑ t, H.dL t s * H.σ * H.Q t d
def dV (s : Fin 4224) (d : Fin 128) : ℝ := ∑ t, H.P t s * H.dO t d
def dG (d : Fin 128) : ℝ := ∑ t, H.D t d * (H.O t d * H.R t)
def dC (s : Fin 4224) : ℝ := -∑ t, H.dL t s

theorem X_nonneg (t s : Fin 4224) : 0 ≤ H.X t s := by
  unfold X; split
  · exact (Real.exp_pos _).le
  · exact le_refl 0

/-- A row's sum is positive: the diagonal's term is. -/
theorem Z_pos (t : Fin 4224) : 0 < H.Z t :=
  Finset.sum_pos' (fun s _ => H.X_nonneg t s) ⟨t, Finset.mem_univ t, by unfold X; rw [if_pos (le_refl t)]; exact Real.exp_pos _⟩

theorem Z_ne (t : Fin 4224) : H.Z t ≠ 0 := (H.Z_pos t).ne'

theorem W_pos (t : Fin 4224) : 0 < H.W t :=
  add_pos_of_nonneg_of_pos (div_nonneg (Finset.sum_nonneg fun d _ => mul_self_nonneg _) (by norm_num)) H.hε

theorem R_sq (t : Fin 4224) : H.R t * H.R t = 1 / H.W t := by
  unfold R
  rw [← mul_inv, Real.mul_self_sqrt (H.W_pos t).le, one_div]

/-- The kernel's weight, the exponential of the logit less the log-sum, is the softmax's. -/
theorem exp_sub_lse (t s : Fin 4224) (h : s ≤ t) :
    Real.exp ((∑ d, H.Q t d * H.K s d) * H.σ + ((H.C t - H.lse t) - H.C s)) = H.P t s := by
  have e : (∑ d, H.Q t d * H.K s d) * H.σ + ((H.C t - H.lse t) - H.C s) = (H.L t s - H.M t) - Real.log (H.Z t) := by
    unfold L lse; ring
  rw [e, Real.exp_sub, Real.exp_log (H.Z_pos t)]
  unfold P X
  rw [if_pos h]

theorem P_zero (t s : Fin 4224) (h : ¬ s ≤ t) : H.P t s = 0 := by unfold P X; rw [if_neg h, zero_div]
theorem dL_zero (t s : Fin 4224) (h : ¬ s ≤ t) : H.dL t s = 0 := by unfold dL; rw [H.P_zero t s h, zero_mul]

/-- The weights of a row sum to one. -/
theorem sum_P (t : Fin 4224) : ∑ s, H.P t s = 1 := by
  unfold P; rw [← Finset.sum_div]; exact div_self (H.Z_ne t)

/-- The correction is the weighted sum of the weights' cotangents. -/
theorem δ_eq (t : Fin 4224) : H.δ t = ∑ s, H.P t s * H.dP t s := by
  unfold δ dP O
  simp_rw [Finset.mul_sum]
  rw [Finset.sum_comm]
  exact Finset.sum_congr rfl fun s _ => Finset.sum_congr rfl fun d _ => by ring

/-- A row of the logits' cotangent sums to zero. -/
theorem sum_dL (t : Fin 4224) : ∑ s, H.dL t s = 0 := by
  unfold dL
  simp_rw [mul_sub]
  rw [Finset.sum_sub_distrib, ← H.δ_eq, ← Finset.sum_mul, H.sum_P, one_mul, sub_self]

/-- The norm's gradient as the reference writes it: through the mean of the squares. -/
theorem dO_eq (t : Fin 4224) (d : Fin 128) :
    H.D t d * H.G d * H.R t + H.O t d * ((∑ e, H.O t e * (H.D t e * H.G e)) * (-(1/2) * (H.R t / H.W t)) / 128)
      + (∑ e, H.O t e * (H.D t e * H.G e)) * (-(1/2) * (H.R t / H.W t)) / 128 * H.O t d = H.dO t d := by
  have e : ∑ e, H.D t e * H.G e * (H.O t e * H.R t) = (∑ e, H.O t e * (H.D t e * H.G e)) * H.R t := by
    rw [Finset.sum_mul]; exact Finset.sum_congr rfl fun e _ => by ring
  have hw : H.R t / H.W t = H.R t * (H.R t * H.R t) := by rw [H.R_sq]; ring
  unfold dO
  rw [e, hw]
  ring

/-- The softmax's gradient as the reference writes it: through the quotient. -/
theorem dL_eq (t s : Fin 4224) :
    (H.dP t s / H.Z t + -∑ u, H.dP t u * (1 / (H.Z t * H.Z t)) * H.X t u) * H.X t s = H.dL t s := by
  have e : ∑ u, H.dP t u * (1 / (H.Z t * H.Z t)) * H.X t u = H.δ t / H.Z t := by
    rw [H.δ_eq, Finset.sum_div]
    refine Finset.sum_congr rfl fun u _ => ?_
    unfold P
    have := H.Z_ne t
    field_simp
  rw [e]
  unfold dL P
  have := H.Z_ne t
  field_simp
  ring

end Head

end Cert.Model

end
-- ==== Proof.Reals.lean ====
/-
  Arithmetic of finite extended reals, and the argument arrays as real ones.
-/
module

public import proofs.«01_k».proof.Proof.Model
public import Idealize.ShloMosaic.Lib.Pointwise
public import Idealize.ShloMosaic.Lib.IdealHost

@[expose] public section

noncomputable section

namespace Cert.Model

open Idealize.ShloMosaic

/-- A finite sum of reals, as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A finite quotient. -/
theorem coe_div {x y : ℝ} (h : y ≠ 0) : Ideal.div (x : EReal) (y : EReal) = ((x / y : ℝ) : EReal) := by
  rw [Ideal.div_coe h, ← EReal.coe_mul, mul_one_div]

/-- The reciprocal root of a positive real. -/
theorem coe_rsqrt {x : ℝ} (h : 0 < x) : Ideal.rsqrt (x : EReal) = (((Real.sqrt x)⁻¹ : ℝ) : EReal) := by
  rw [Ideal.rsqrt_coe, if_neg (not_lt.2 h.le), if_neg h.ne']

/-- The logarithm of a positive real. -/
theorem coe_log {x : ℝ} (h : 0 < x) : Ideal.log (x : EReal) = ((Real.log x : ℝ) : EReal) := by
  rw [Ideal.log_coe, if_neg (not_le.2 h)]

/-- The scale of the logits, the float nearest to one over the root of 128, and the epsilon of the norm. -/
def scale : ℝ := (Ideal.ofBits .f32 0x3DB504F3#32).toReal
def eps : ℝ := (Ideal.ofBits .f32 0x358637BD#32).toReal

theorem scale_eq : Ideal.ofBits .f32 0x3DB504F3#32 = ((scale : ℝ) : EReal) := by
  have : ∃ r : ℝ, Ideal.ofBits .f32 0x3DB504F3#32 = (r : EReal) := by
    refine ⟨11863283 / 2 ^ 27, ?_⟩
    simp [Ideal.ofBits, Ideal.ieee, -EReal.coe_mul]; norm_num
  obtain ⟨r, h⟩ := this
  unfold scale; rw [h, EReal.toReal_coe]

theorem eps_val : Ideal.ofBits .f32 0x358637BD#32 = ((8796093 / 2 ^ 43 : ℝ) : EReal) := by
  simp [Ideal.ofBits, Ideal.ieee, -EReal.coe_mul]; norm_num

theorem eps_eq : Ideal.ofBits .f32 0x358637BD#32 = ((eps : ℝ) : EReal) := by
  unfold eps; rw [eps_val, EReal.toReal_coe]

theorem eps_pos : 0 < eps := by
  unfold eps; rw [eps_val, EReal.toReal_coe]; norm_num

theorem ofBits_128 : Ideal.ofBits .f32 0x43000000#32 = ((128 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

theorem ofBits_inf_bf16 : Ideal.ofBits .bf16 0x7F80#16 = (⊤ : EReal) := by
  simp [Ideal.ofBits, Ideal.ieee]

/-- The four argument arrays, as real ones. -/
structure Arrs where
  q : Fin 4224 → Fin 6144 → ℝ
  g : Fin 8 → Fin 128 → ℝ
  c : Fin 8 → Fin 4224 → ℝ
  d : Fin 4224 → Fin 1024 → ℝ

namespace Arrs

variable (A : Arrs)

/-- A head's data, its rows not shifted. -/
def head₀ (h : Fin 8) : Head where
  Q t d := A.q t ⟨3072 + (h.val * 128 + d.val), by have := h.isLt; have := d.isLt; omega⟩
  K t d := A.q t ⟨4096 + (h.val * 128 + d.val), by have := h.isLt; have := d.isLt; omega⟩
  V t d := A.q t ⟨5120 + (h.val * 128 + d.val), by have := h.isLt; have := d.isLt; omega⟩
  C t := A.c h t
  G d := A.g h d
  D t d := A.d t ⟨h.val * 128 + d.val, by have := h.isLt; have := d.isLt; omega⟩
  M _ := 0
  σ := scale
  ε := eps
  hε := eps_pos

/-- A logit with its mask. -/
def masked (h : Fin 8) (t s : Fin 4224) : EReal := if s ≤ t then (((A.head₀ h).L t s : ℝ) : EReal) else ⊥

/-- A row's maximum. -/
def rowMax (h : Fin 8) (t : Fin 4224) : EReal := (Finset.univ : Finset (Fin 4224)).fold max ⊥ fun s => A.masked h t s

/-- A head's data, each row shifted by its maximum. -/
def head (h : Fin 8) : Head := { A.head₀ h with M := fun t => (A.rowMax h t).toReal }

/-- The mask, of the shifted head's logits (a logit does not read the shift). -/
theorem masked_pos (h : Fin 8) (t s : Fin 4224) (hs : s ≤ t) : A.masked h t s = (((A.head h).L t s : ℝ) : EReal) := by
  unfold masked
  rw [if_pos hs]
  rfl

theorem masked_neg (h : Fin 8) (t s : Fin 4224) (hs : ¬ s ≤ t) : A.masked h t s = ⊥ := by
  unfold masked
  rw [if_neg hs]

/-- A row's maximum is a real: its diagonal is one, and no entry is above every real. -/
theorem rowMax_eq (h : Fin 8) (t : Fin 4224) : A.rowMax h t = (((A.head h).M t : ℝ) : EReal) := by
  have hb : A.rowMax h t ≠ ⊥ := by
    intro e
    have : A.masked h t t ≤ A.rowMax h t := (Finset.le_fold_max _).2 (Or.inr ⟨t, Finset.mem_univ t, le_refl _⟩)
    rw [e, le_bot_iff] at this
    unfold masked at this
    rw [if_pos (le_refl t)] at this
    exact EReal.coe_ne_bot _ this
  have ht : A.rowMax h t ≠ ⊤ := by
    have : A.rowMax h t < ⊤ := by
      refine Finset.fold_max_lt _ |>.2 ⟨bot_lt_top, fun s _ => ?_⟩
      unfold masked
      split
      · exact EReal.coe_lt_top _
      · exact bot_lt_top
    exact this.ne
  exact (EReal.coe_toReal ht hb).symm

end Arrs

end Cert.Model

end
-- ==== Proof.RefValue.lean ====
/-
  The reference's values at finite arguments: each named array of its run as the real one, and its five results.
-/
module

public import proofs.«01_k».proof.Proof.Reals
public import proofs.«01_k».proof.Proof.Gen.ReferenceIdeal.Run
public import Idealize.ShloMosaic.Lib.WordCmp

@[expose] public section

set_option maxRecDepth 16384

noncomputable section

namespace Cert.ReferenceIdeal.Real

open Idealize.ShloMosaic Idealize.ShloMosaic.TcCoe Idealize.SL.Sem Idealize.ShloMosaic.StableHlo
open Cert.ReferenceIdeal Cert.ReferenceIdeal.Gen Cert.ReferenceIdeal.Value
open Cert.Model

variable (V : Valuation τ sig (Elt Ideal)) (A : Arrs)

/-- The argument buffers hold the real arrays. -/
structure Reads : Prop where
  q : ∀ (a : Fin 4224) (b : Fin 6144), (V (Proc.devRef .tc main_arg0) : FVec Ideal S4224x6144 .bf16) (ix2 a b) = ((A.q a b : ℝ) : EReal)
  g : ∀ (a : Fin 8) (b : Fin 128), (V (Proc.devRef .tc main_arg1) : FVec Ideal S8x128 .f32) (ix2 a b) = ((A.g a b : ℝ) : EReal)
  c : ∀ (a : Fin 8) (b : Fin 4224), (V (Proc.devRef .tc main_arg2) : FVec Ideal S8x4224 .f32) (ix2 a b) = ((A.c a b : ℝ) : EReal)
  d : ∀ (a : Fin 4224) (b : Fin 1024), (V (Proc.devRef .tc main_arg3) : FVec Ideal S4224x1024 .f32) (ix2 a b) = ((A.d a b : ℝ) : EReal)

variable {V A} (H : Reads V A)
include H

/-- Queries, keys, values and the cotangent, by head. -/
theorem v6 (h : Fin 8) (t : Fin 4224) (d : Fin 128) :
    (res_main_v6 V : FVec Ideal S4224x8x128 .f32) (ix3 t h d) = (((A.head h).Q t d : ℝ) : EReal) := by
  pointwise [res_main_v6, H.q]
  rfl
theorem v7 (h : Fin 8) (t : Fin 4224) (d : Fin 128) :
    (res_main_v7 V : FVec Ideal S4224x8x128 .f32) (ix3 t h d) = (((A.head h).K t d : ℝ) : EReal) := by
  pointwise [res_main_v7, H.q]
  rfl
theorem v8 (h : Fin 8) (t : Fin 4224) (d : Fin 128) :
    (res_main_v8 V : FVec Ideal S4224x8x128 .f32) (ix3 t h d) = (((A.head h).V t d : ℝ) : EReal) := by
  pointwise [res_main_v8, H.q]
  rfl
theorem v73 (h : Fin 8) (t : Fin 4224) (d : Fin 128) :
    (res_main_v73 V : FVec Ideal S4224x8x128 .f32) (ix3 t h d) = (((A.head h).D t d : ℝ) : EReal) := by
  pointwise [res_main_v73, H.d]
  rfl

omit H in
/-- The causal mask. -/
theorem v25_1 (h : Fin 8) (t s : Fin 4224) :
    (res_main_v25_1 V : IVec S8x4224x4224 1) (ix3 h t s) = if s ≤ t then 1#1 else 0#1 := by
  have := t.isLt
  have := s.isLt
  pointwise [res_main_v25_1]
  word_cmp
  by_cases hs : s ≤ t
  · rw [if_pos hs, decide_eq_true (show s.val ≤ t.val from hs)]; rfl
  · rw [if_neg hs, decide_eq_false (show ¬ s.val ≤ t.val from hs)]; rfl

/-- The masked logits. -/
theorem v25_0 (h : Fin 8) (t s : Fin 4224) :
    (res_main_v25_0 V : FVec Ideal S8x4224x4224 .f32) (ix3 h t s) = A.masked h t s := by
  pointwise [res_main_v25_0, v6 H, v7 H, H.c, v25_1, scale_eq, ofBits_neg_inf]
  by_cases hs : s ≤ t
  · rw [if_pos hs, A.masked_pos h t s hs]
    simp only [Scalar.select, if_true, coe_sum, ← EReal.coe_mul, ← EReal.coe_add, ← EReal.coe_sub]
    rfl
  · rw [if_neg hs, A.masked_neg h t s hs]
    rfl

/-- A row's maximum. -/
theorem v26 (h : Fin 8) (t : Fin 4224) :
    (res_main_v26 V : FVec Ideal S8x4224 .f32) (ix2 h t) = (((A.head h).M t : ℝ) : EReal) := by
  unfold res_main_v26
  have hr : S8x4224x4224.Reduces [2] S8x4224 := by decide
  refine (Host.reduce_eq_fold_single (α := EReal) (fun a b => max a b) (res_main_v25_0 V : FVec Ideal S8x4224x4224 .f32) _ reducesTo_S8x4224x4224_S8x4224_d2 hr h_S_ (ix2 h t)).trans ?_
  rw [← A.rowMax_eq h t]
  have e : (res_main_v25_0 V : FVec Ideal S8x4224x4224 .f32) ∘ hr.lift (ix2 h t) = fun s : Fin 4224 => A.masked h t s := by
    funext s
    exact (congrArg (res_main_v25_0 V : FVec Ideal S8x4224x4224 .f32) (by funext a; fin_cases a <;> rfl)).trans (v25_0 H h t s)
  rw [e]
  exact congrArg (fun b => Finset.fold max b _ _) ofBits_neg_inf

omit H in
/-- The exponential of an entry less its row's shift. -/
theorem expShift (x : FVec Ideal S8x4224x4224 .f32) (y : FVec Ideal S8x4224 .f32) (h : Fin 8) (t s : Fin 4224) :
    (Host.exp (subf x (broadcastInDim S8x4224x4224 ![0, 1, 2] bcast_S8x4224x1_S8x4224x4224_0_1_2 (broadcastInDim S8x4224x1 ![0, 1] bcast_S8x4224_S8x4224x1_0_1 (maximumf (broadcastInDim S8x4224 ![] bcast_S_S8x4224 (constant S_ .f32 0xFF800000#32)) y)))) : FVec Ideal S8x4224x4224 .f32) (ix3 h t s)
      = Ideal.exp ((x (ix3 h t s) : EReal) - y (ix2 h t)) := by
  pointwise [ofBits_neg_inf]
  rw [max_eq_right bot_le]

/-- The shifted exponential. -/
theorem v46 (h : Fin 8) (t s : Fin 4224) :
    (res_main_v46 V : FVec Ideal S8x4224x4224 .f32) (ix3 h t s) = (((A.head h).X t s : ℝ) : EReal) := by
  refine (expShift (res_main_v25_0 V) (res_main_v26 V) h t s).trans ?_
  rw [v25_0 H h t s, v26 H h t]
  unfold Head.X
  by_cases hs : s ≤ t
  · rw [if_pos hs, A.masked_pos h t s hs, ← EReal.coe_sub, Ideal.exp_coe]
  · rw [if_neg hs, A.masked_neg h t s hs, EReal.bot_sub, Ideal.exp_bot, EReal.coe_zero]

/-- A row's sum. -/
theorem v48 (h : Fin 8) (t : Fin 4224) :
    (res_main_v48 V : FVec Ideal S8x4224x1 .f32) (ix3 h t 0) = (((A.head h).Z t : ℝ) : EReal) := by
  pointwise [res_main_v48, v46 H]
  exact coe_sum _ _
/-- The weights. -/
theorem v50 (h : Fin 8) (t s : Fin 4224) :
    (res_main_v50 V : FVec Ideal S8x4224x4224 .f32) (ix3 h t s) = (((A.head h).P t s : ℝ) : EReal) := by
  pointwise [res_main_v50, v46 H, v48 H]
  exact coe_div ((A.head h).Z_ne t)
/-- The output before the norm. -/
theorem v55 (h : Fin 8) (t : Fin 4224) (d : Fin 128) :
    (res_main_v55 V : FVec Ideal S4224x8x128 .f32) (ix3 t h d) = (((A.head h).O t d : ℝ) : EReal) := by
  pointwise [res_main_v55, v8 H, v50 H]
  simp only [← EReal.coe_mul, coe_sum]
  exact congrArg _ (Finset.sum_congr rfl fun x _ => mul_comm _ _)
/-- The mean square with the epsilon, and one over its root. -/
theorem v62 (h : Fin 8) (t : Fin 4224) (z : Fin 1) :
    (res_main_v62 V : FVec Ideal S4224x8x1 .f32) (ix3 t h z) = (((A.head h).W t : ℝ) : EReal) := by
  pointwise [res_main_v62, v55 H, ofBits_128, eps_eq]
  simp only [← EReal.coe_mul, coe_sum]
  rw [coe_div (by norm_num), ← EReal.coe_add]
  rfl
theorem v63 (h : Fin 8) (t : Fin 4224) (z : Fin 1) :
    (res_main_v63 V : FVec Ideal S4224x8x1 .f32) (ix3 t h z) = (((A.head h).R t : ℝ) : EReal) := by
  pointwise [res_main_v63, v62 H]
  exact coe_rsqrt ((A.head h).W_pos t)
theorem v68 (h : Fin 8) (t : Fin 4224) (d : Fin 128) :
    (res_main_v68 V : FVec Ideal S4224x8x128 .f32) (ix3 t h d) = (((A.head h).O t d * (A.head h).R t : ℝ) : EReal) := by
  pointwise [res_main_v68, v55 H, v63 H]
  exact (EReal.coe_mul _ _).symm
theorem v78 (h : Fin 8) (t : Fin 4224) (d : Fin 128) :
    (res_main_v78 V : FVec Ideal S4224x8x128 .f32) (ix3 t h d) = (((A.head h).D t d * (A.head h).G d : ℝ) : EReal) := by
  pointwise [res_main_v78, res_main_v69, H.g, v73 H]
  exact (EReal.coe_mul _ _).symm
theorem v89 (h : Fin 8) (t : Fin 4224) (d : Fin 128) :
    (res_main_v89 V : FVec Ideal S4224x8x128 .f32) (ix3 t h d)
      = (((∑ e, (A.head h).O t e * ((A.head h).D t e * (A.head h).G e)) * (-(1/2) * ((A.head h).R t / (A.head h).W t)) / 128 : ℝ) : EReal) := by
  pointwise [res_main_v89, v55 H, v78 H, v63 H, v62 H, ofBits_128, ofBits_neg_half]
  simp only [← EReal.coe_mul, coe_sum]
  rw [coe_div ((A.head h).W_pos t).ne', ← EReal.coe_mul, ← EReal.coe_mul, coe_div (by norm_num), Finset.sum_const,
    Finset.card_univ, Fintype.card_fin, one_smul]
/-- The cotangent of the output before the norm. -/
theorem v94 (h : Fin 8) (t : Fin 4224) (d : Fin 128) :
    (res_main_v94 V : FVec Ideal S8x128x4224 .f32) (ix3 h d t) = (((A.head h).dO t d : ℝ) : EReal) := by
  pointwise [res_main_v94, v55 H, v78 H, v63 H, v89 H]
  simp only [← EReal.coe_mul, ← EReal.coe_add]
  exact congrArg _ ((A.head h).dO_eq t d)
/-- The cotangent of the weights. -/
theorem v95 (h : Fin 8) (t s : Fin 4224) :
    (res_main_v95 V : FVec Ideal S8x4224x4224 .f32) (ix3 h t s) = (((A.head h).dP t s : ℝ) : EReal) := by
  pointwise [res_main_v95, v94 H, v8 H]
  simp only [← EReal.coe_mul, coe_sum]
  rfl
/-- The cotangent of the logits. -/
theorem v110 (h : Fin 8) (t s : Fin 4224) :
    (res_main_v110 V : FVec Ideal S8x4224x4224 .f32) (ix3 h t s) = (((A.head h).dL t s : ℝ) : EReal) := by
  have hz := (A.head h).Z_ne t
  pointwise [res_main_v110, v25_1, v95 H, v48 H, v46 H]
  by_cases hs : s ≤ t
  · rw [if_pos hs]
    simp only [Scalar.select, if_true, ← EReal.coe_mul]
    rw [← EReal.coe_one, coe_div (mul_ne_zero hz hz), coe_div hz]
    simp only [← EReal.coe_mul, coe_sum, ← EReal.coe_neg]
    rw [Finset.sum_const, Finset.card_univ, Fintype.card_fin, one_smul, ← EReal.coe_add, ← EReal.coe_mul]
    exact (if_pos rfl).trans (congrArg (fun r : ℝ => (r : EReal)) ((A.head h).dL_eq t s))
  · rw [if_neg hs, (A.head h).dL_zero t s hs]
    rfl

/-- The same by the scale. -/
theorem v120 (h : Fin 8) (t s : Fin 4224) :
    (res_main_v120 V : FVec Ideal S8x4224x4224 .f32) (ix3 h t s) = (((A.head h).dL t s * (A.head h).σ : ℝ) : EReal) := by
  pointwise [res_main_v120, v110 H, scale_eq]
  exact (EReal.coe_mul _ _).symm

/-- The head of a column and its place in it. -/
abbrev hd (n : Fin 1024) : Fin 8 := ⟨n.val / 128, by have := n.isLt; omega⟩
abbrev md (n : Fin 1024) : Fin 128 := ⟨n.val % 128, by omega⟩

/-- The five results. -/
theorem r128 (t : Fin 4224) (n : Fin 1024) :
    (truncf .bf16 (shapeCast _ (transpose S4224x8x128 [1, 0, 2] (Host.dotGeneral (φ₁ := .f32) (φ₂ := .f32) dot_S8x4224x4224_S4224x8x128_S8x4224x128_2_0_1_2_0_1 none (res_main_v120 V : FVec Ideal S8x4224x4224 .f32) (res_main_v7 V : FVec Ideal S4224x8x128 .f32)) transposes_S8x4224x128_S4224x8x128_1_0_2) shapeCasts_S4224x8x128_S4224x1024) bitsLt_bf16_f32 : FVec Ideal S4224x1024 .bf16) (ix2 t n)
      = (((A.head (hd n)).dQ t (md n) : ℝ) : EReal) := by
  pointwise [v120 H, v7 H]
  simp only [← EReal.coe_mul, coe_sum]
  rfl
theorem r129 (t : Fin 4224) (n : Fin 1024) :
    (truncf .bf16 (shapeCast _ (transpose S4224x8x128 [1, 0, 2] (Host.dotGeneral (φ₁ := .f32) (φ₂ := .f32) dot_S8x4224x4224_S4224x8x128_S8x4224x128_1_0_2_2_0_1 none (res_main_v120 V : FVec Ideal S8x4224x4224 .f32) (res_main_v6 V : FVec Ideal S4224x8x128 .f32)) transposes_S8x4224x128_S4224x8x128_1_0_2) shapeCasts_S4224x8x128_S4224x1024) bitsLt_bf16_f32 : FVec Ideal S4224x1024 .bf16) (ix2 t n)
      = (((A.head (hd n)).dK t (md n) : ℝ) : EReal) := by
  pointwise [v120 H, v6 H]
  simp only [← EReal.coe_mul, coe_sum]
  rfl
theorem r130 (t : Fin 4224) (n : Fin 1024) :
    (truncf .bf16 (shapeCast _ (transpose S4224x8x128 [2, 0, 1] (Host.dotGeneral (φ₁ := .f32) (φ₂ := .f32) dot_S8x128x4224_S8x4224x4224_S8x128x4224_2_1_1_2_0_0 none (res_main_v94 V : FVec Ideal S8x128x4224 .f32) (res_main_v50 V : FVec Ideal S8x4224x4224 .f32)) transposes_S8x128x4224_S4224x8x128_2_0_1) shapeCasts_S4224x8x128_S4224x1024) bitsLt_bf16_f32 : FVec Ideal S4224x1024 .bf16) (ix2 t n)
      = (((A.head (hd n)).dV t (md n) : ℝ) : EReal) := by
  pointwise [v94 H, v50 H]
  simp only [← EReal.coe_mul, coe_sum]
  exact congrArg _ (Finset.sum_congr rfl fun x _ => mul_comm _ _)
theorem r131 (h : Fin 8) (z : Fin 1) (d : Fin 128) :
    (shapeCast _ (Host.reduceAdd (shapeCast _ (Host.reduceAdd (mulf (res_main_v68 V) (res_main_v73 V)) (constant S_ .f32 0x00000000#32) reducesTo_S4224x8x128_S8x128_d0 h_S_) shapeCasts_S8x128_S1x8x128) (constant S_ .f32 0x00000000#32) reducesTo_S1x8x128_S8x128_d0 h_S_) shapeCasts_S8x128_S8x1x128 : FVec Ideal S8x1x128 .f32) (ix3 h z d)
      = (((A.head h).dG d : ℝ) : EReal) := by
  pointwise [v68 H, v73 H]
  simp only [← EReal.coe_mul, coe_sum]
  rw [Finset.sum_const, Finset.card_univ, Fintype.card_fin, one_smul]
  exact congrArg _ (Finset.sum_congr rfl fun x _ => mul_comm _ _)
theorem r132 (h : Fin 8) (a : Fin 33) (b : Fin 128) :
    (shapeCast _ (addf (Host.reduceAdd (shapeCast _ (Host.reduceAdd (Host.negf (res_main_v110 V)) (constant S_ .f32 0x00000000#32) reducesTo_S8x4224x4224_S8x4224_d1 h_S_) shapeCasts_S8x4224_S8x1x4224) (constant S_ .f32 0x00000000#32) reducesTo_S8x1x4224_S8x4224_d1 h_S_) (Host.reduceAdd (shapeCast _ (Host.reduceAdd (res_main_v110 V) (constant S_ .f32 0x00000000#32) reducesTo_S8x4224x4224_S8x4224_d2 h_S_) shapeCasts_S8x4224_S8x4224x1) (constant S_ .f32 0x00000000#32) reducesTo_S8x4224x1_S8x4224_d2 h_S_)) shapeCasts_S8x4224_S8x33x128 : FVec Ideal S8x33x128 .f32) (ix3 h a b)
      = (((A.head h).dC ⟨a.val * 128 + b.val, by have := a.isLt; have := b.isLt; omega⟩ : ℝ) : EReal) := by
  pointwise [v110 H]
  simp only [coe_sum, ← EReal.coe_neg]
  rw [Finset.sum_const, Finset.card_univ, Fintype.card_fin, one_smul, Finset.sum_const, Finset.card_univ, Fintype.card_fin,
    one_smul, Head.sum_dL, ← EReal.coe_add, add_zero]
  unfold Head.dC
  rw [Finset.sum_neg_distrib]

end Cert.ReferenceIdeal.Real

end
-- ==== Proof.KHost.lean ====
/-
  The arrays that the host of the kernel's program lays out for the call, at finite arguments.
-/
module

public import proofs.«01_k».proof.Proof.RefValue
public import proofs.«01_k».proof.Proof.Gen.KernelIdeal.Frame

@[expose] public section

set_option maxRecDepth 16384

noncomputable section

namespace Cert.KernelIdeal.Fox

open Idealize.ShloMosaic Idealize.ShloMosaic.TcCoe Idealize.SL.Sem Idealize.ShloMosaic.StableHlo
open Cert.KernelIdeal Cert.KernelIdeal.Gen Cert.Model

variable (W : Valuation τ sig (Elt Ideal)) (R : Valuation Cert.ReferenceIdeal.τ Cert.ReferenceIdeal.sig (Elt Ideal))

/-- The two programs' argument buffers agree. -/
structure Agree : Prop where
  a0 : (R (Proc.devRef .tc Cert.ReferenceIdeal.main_arg0) : FVec Ideal S4224x6144 .bf16) = W (Proc.devRef .tc main_arg0)
  a2 : (R (Proc.devRef .tc Cert.ReferenceIdeal.main_arg2) : FVec Ideal S8x4224 .f32) = W (Proc.devRef .tc main_arg2)

variable {W R}

/-- After the first host operations: the values by head, the logits, the mask. -/
theorem host0_v8 (h : Agree W R) : (after hostOps0 W (Proc.devRef .tc main_v8) : FVec Ideal S4224x8x128 .f32) = Cert.ReferenceIdeal.Value.res_main_v8 R := by
  unfold Cert.ReferenceIdeal.Value.res_main_v8
  rw [h.a0]
  simp only [hostOps0]
  after_results_simp
  all_goals rfl
theorem host1_v8 (h : Agree W R) : (after hostOps0_1 (after hostOps0 W) (Proc.devRef .tc main_v8) : FVec Ideal S4224x8x128 .f32) = Cert.ReferenceIdeal.Value.res_main_v8 R := by
  rw [← host0_v8 h]
  generalize after hostOps0 W = U
  simp only [hostOps0_1, TRef.unary, TRef.ternary, TRef.toBuf, TRef.ofBuf, cast_eq]
  after_results_simp
theorem host1_v25 (h : Agree W R) : (after hostOps0_1 (after hostOps0 W) (Proc.devRef .tc main_v25) : FVec Ideal S8x4224x4224 .f32) = Cert.ReferenceIdeal.Value.res_main_v25_0 R := by
  unfold Cert.ReferenceIdeal.Value.res_main_v25_0 Cert.ReferenceIdeal.Value.res_main_v25_1 Cert.ReferenceIdeal.Value.res_main_v6 Cert.ReferenceIdeal.Value.res_main_v7
  rw [h.a0, h.a2]
  simp only [hostOps0, hostOps0_1, TRef.unary, TRef.ternary, TRef.toBuf, TRef.ofBuf, cast_eq]
  after_results_simp
  all_goals rfl

/-- The output before the norm. -/
theorem host_o (h : Agree W R) : (after hostOps0_2 (after hostOps0_1 (after hostOps0 W)) (Proc.devRef .tc main_v51) : FVec Ideal S4224x1024 .f32)
    = shapeCast S4224x1024 (Cert.ReferenceIdeal.Value.res_main_v55 R : FVec Ideal S4224x8x128 .f32) shapeCasts_S4224x8x128_S4224x1024 := by
  unfold Cert.ReferenceIdeal.Value.res_main_v55 Cert.ReferenceIdeal.Value.res_main_v50 Cert.ReferenceIdeal.Value.res_main_v48 Cert.ReferenceIdeal.Value.res_main_v46 Cert.ReferenceIdeal.Value.res_main_v26
  have e8 := host1_v8 h
  have e25 := host1_v25 h
  generalize after hostOps0_1 (after hostOps0 W) = U at e8 e25 ⊢
  rw [← e8, ← e25]
  simp only [hostOps0_2]
  after_results_simp
  all_goals rfl

/-- The log-sum of a row, over the masked logits. -/
def lseTerm (x : FVec Ideal S8x4224x4224 .f32) (y : FVec Ideal S8x4224 .f32) : FVec Ideal S8x4224x1 .f32 :=
  addf (broadcastInDim S8x4224x1 ![0, 1] bcast_S8x4224_S8x4224x1_0_1 y)
    (Host.log (broadcastInDim S8x4224x1 ![0, 1] bcast_S8x4224_S8x4224x1_0_1
      (Host.reduceAdd (Host.exp (subf x (broadcastInDim S8x4224x4224 ![0, 1, 2] bcast_S8x4224x1_S8x4224x4224_0_1_2
        (broadcastInDim S8x4224x1 ![0, 1] bcast_S8x4224_S8x4224x1_0_1 y)))) (constant S_ .f32 0x00000000#32) reducesTo_S8x4224x4224_S8x4224_d2 h_S_)))

theorem host_lse (h : Agree W R) : (after hostOps0_2 (after hostOps0_1 (after hostOps0 W)) (Proc.devRef .tc main_v47) : FVec Ideal S8x4224x1 .f32)
    = lseTerm (Cert.ReferenceIdeal.Value.res_main_v25_0 R) (Cert.ReferenceIdeal.Value.res_main_v26 R) := by
  unfold Cert.ReferenceIdeal.Value.res_main_v26
  have e25 := host1_v25 h
  generalize after hostOps0_1 (after hostOps0 W) = U at e25 ⊢
  rw [← e25]
  simp only [hostOps0_2]
  after_results_simp
  all_goals rfl

/-- The gain, the gates as a column and as rows. -/
theorem host_g (W : Valuation τ sig (Elt Ideal)) : (after (List.flatten [hostOps0, hostOps0_1, hostOps0_2]) W (Proc.devRef .tc main_v48) : FVec Ideal S8x1x128 .f32)
    = broadcastInDim S8x1x128 ![0, 2] bcast_S8x128_S8x1x128_0_2 (W (Proc.devRef .tc main_arg1) : FVec Ideal S8x128 .f32) := by
  simp only [List.flatten_cons, List.flatten_nil, List.append_nil, after_append]
  have e : ∀ U : Valuation τ sig (Elt Ideal), (after hostOps0_1 U) (Proc.devRef .tc main_arg1) = U (Proc.devRef .tc main_arg1) := fun U => by
    simp only [hostOps0_1, TRef.unary, TRef.ternary, TRef.toBuf, TRef.ofBuf, cast_eq]
    after_results_simp
  have e' : ∀ U : Valuation τ sig (Elt Ideal), (after hostOps0 U) (Proc.devRef .tc main_arg1) = U (Proc.devRef .tc main_arg1) := fun U => by
    simp only [hostOps0]
    after_results_simp
  rw [← e' W, ← e (after hostOps0 W)]
  generalize after hostOps0_1 (after hostOps0 W) = U
  simp only [hostOps0_2]
  after_results_simp
theorem host_arg2 (W : Valuation τ sig (Elt Ideal)) : (after hostOps0_1 (after hostOps0 W)) (Proc.devRef .tc main_arg2) = W (Proc.devRef .tc main_arg2) := by
  have e : ∀ U : Valuation τ sig (Elt Ideal), (after hostOps0_1 U) (Proc.devRef .tc main_arg2) = U (Proc.devRef .tc main_arg2) := fun U => by
    simp only [hostOps0_1, TRef.unary, TRef.ternary, TRef.toBuf, TRef.ofBuf, cast_eq]
    after_results_simp
  have e' : ∀ U : Valuation τ sig (Elt Ideal), (after hostOps0 U) (Proc.devRef .tc main_arg2) = U (Proc.devRef .tc main_arg2) := fun U => by
    simp only [hostOps0]
    after_results_simp
  rw [e, e']
theorem host_ccol (W : Valuation τ sig (Elt Ideal)) : (after (List.flatten [hostOps0, hostOps0_1, hostOps0_2]) W (Proc.devRef .tc main_v49) : FVec Ideal S8x4224x1 .f32)
    = broadcastInDim S8x4224x1 ![0, 1] bcast_S8x4224_S8x4224x1_0_1 (W (Proc.devRef .tc main_arg2) : FVec Ideal S8x4224 .f32) := by
  simp only [List.flatten_cons, List.flatten_nil, List.append_nil, after_append]
  rw [← host_arg2 W]
  generalize after hostOps0_1 (after hostOps0 W) = U
  simp only [hostOps0_2]
  after_results_simp
theorem host_crow (W : Valuation τ sig (Elt Ideal)) : (after (List.flatten [hostOps0, hostOps0_1, hostOps0_2]) W (Proc.devRef .tc main_v50) : FVec Ideal S8x33x128 .f32)
    = shapeCast S8x33x128 (W (Proc.devRef .tc main_arg2) : FVec Ideal S8x4224 .f32) shapeCasts_S8x4224_S8x33x128 := by
  simp only [List.flatten_cons, List.flatten_nil, List.append_nil, after_append]
  rw [← host_arg2 W]
  generalize after hostOps0_1 (after hostOps0 W) = U
  simp only [hostOps0_2]
  after_results_simp
  all_goals rfl

/-! ## At finite arguments -/

variable {A : Arrs} (H : Cert.ReferenceIdeal.Real.Reads R A)

abbrev hd (n : Fin 1024) : Fin 8 := ⟨n.val / 128, by have := n.isLt; omega⟩
abbrev md (n : Fin 1024) : Fin 128 := ⟨n.val % 128, by omega⟩

include H in
theorem o_real (h : Agree W R) (t : Fin 4224) (n : Fin 1024) :
    (after (List.flatten [hostOps0, hostOps0_1, hostOps0_2]) W (Proc.devRef .tc main_v51) : FVec Ideal S4224x1024 .f32) (ix2 t n)
      = (((A.head (hd n)).O t (md n) : ℝ) : EReal) := by
  simp only [List.flatten_cons, List.flatten_nil, List.append_nil, after_append]
  rw [host_o h]
  pointwise [Cert.ReferenceIdeal.Real.v55 H]

omit H in
theorem lseTerm_apply (x : FVec Ideal S8x4224x4224 .f32) (y : FVec Ideal S8x4224 .f32) (e : Fin 8) (t : Fin 4224) (z : Fin 1) :
    lseTerm x y (ix3 e t z) = (y (ix2 e t) : EReal) + Ideal.log (∑ s, Ideal.exp ((x (ix3 e t s) : EReal) - y (ix2 e t))) := by
  pointwise [lseTerm]

include H in
theorem lse_real (h : Agree W R) (e : Fin 8) (t : Fin 4224) (z : Fin 1) :
    (after (List.flatten [hostOps0, hostOps0_1, hostOps0_2]) W (Proc.devRef .tc main_v47) : FVec Ideal S8x4224x1 .f32) (ix3 e t z)
      = (((A.head e).lse t : ℝ) : EReal) := by
  simp only [List.flatten_cons, List.flatten_nil, List.append_nil, after_append]
  rw [host_lse h]
  refine (lseTerm_apply _ _ e t z).trans ?_
  simp only [Cert.ReferenceIdeal.Real.v25_0 H, Cert.ReferenceIdeal.Real.v26 H]
  have e1 : ∀ s, Ideal.exp (A.masked e t s - (((A.head e).M t : ℝ) : EReal)) = (((A.head e).X t s : ℝ) : EReal) := fun s => by
    unfold Head.X
    by_cases hs : s ≤ t
    · rw [if_pos hs, A.masked_pos e t s hs, ← EReal.coe_sub, Ideal.exp_coe]
    · rw [if_neg hs, A.masked_neg e t s hs, EReal.bot_sub, Ideal.exp_bot, EReal.coe_zero]
  simp only [e1, coe_sum]
  rw [coe_log (show 0 < ∑ s, (A.head e).X t s from (A.head e).Z_pos t), ← EReal.coe_add]
  rfl

end Cert.KernelIdeal.Fox

end
-- ==== Proof.Blocks.lean ====
/-
  One block of keys against one block of queries: the operations that every block of the attention backward makes, whole
  blocks below the diagonal and the masked ones on it.
-/
module

public import proofs.«01_k».proof.Proof.Offsets

@[expose] public section

set_option maxRecDepth 16384

noncomputable section

namespace Cert.KernelIdeal.Fox

open Cert.KernelIdeal Cert.KernelIdeal.Gen
open Idealize.ShloMosaic Idealize.ShloMosaic.TcCoe

variable {F : FTy → Type} [FloatOps F]

/-- The logits less the log-sum of their row. -/
def lgB (q : Vec F S384x128 .bf16) (cl : FVec F S384x1 .f32) (kb : Vec F S128x128 .bf16) (cb : Vec F S1x1x128 .f32) : FVec F S384x128 .f32 :=
  addf (mulf (matmul dot_S384x128_S128x128_S384x128_1_1_0_0_n_n none q kb (constant S384x128 .f32 0x00000000#32)) (broadcast S384x128 (Scalar.ofBits .f32 0x3DB504F3#32)))
    (subf (broadcastTo S384x128 cl broadcasts_S384x1_S384x128) (broadcastTo S384x128 (shapeCast S1x128 cb shapeCasts_S1x1x128_S1x128) broadcasts_S1x128_S384x128))
/-- The weights below the diagonal. -/
def pB (lg : FVec F S384x128 .f32) : FVec F S384x128 .f32 := exp lg
/-- The weights on it, where the mask leaves them. -/
def pM (mask : IVec S384x128 1) (lg : FVec F S384x128 .f32) : FVec F S384x128 .f32 :=
  select mask (exp lg) (broadcast S384x128 (Scalar.ofBits .f32 0x00000000#32 : F .f32))
/-- The logits' cotangent. -/
def dsB (p : FVec F S384x128 .f32) (dob : FVec F S384x128 .bf16) (delta : FVec F S384x1 .f32) (vb : Vec F S128x128 .bf16) : FVec F S384x128 .f32 :=
  mulf p (subf (matmul dot_S384x128_S128x128_S384x128_1_1_0_0_n_n none dob vb (constant S384x128 .f32 0x00000000#32)) (broadcastTo S384x128 delta broadcasts_S384x1_S384x128))
/-- The same by the scale, rounded. -/
def dsbB (ds : FVec F S384x128 .f32) : FVec F S384x128 .bf16 :=
  truncf .bf16 (mulf ds (broadcast S384x128 (Scalar.ofBits .f32 0x3DB504F3#32))) bitsLt_bf16_f32
/-- The block's part of the queries', the keys', the values' and the gates' gradient, added to what is there. -/
def dqB (acc : FVec F S384x128 .f32) (dsb : FVec F S384x128 .bf16) (kb : Vec F S128x128 .bf16) : FVec F S384x128 .f32 :=
  addf acc (matmul dot_S384x128_S128x128_S384x128_1_0_0_1_n_n none dsb kb (constant S384x128 .f32 0x00000000#32))
def dkB (q : Vec F S384x128 .bf16) (dsb : FVec F S384x128 .bf16) (old : Vec F S128x128 .f32) : FVec F S128x128 .f32 :=
  shapeCast S128x128 (addf old (matmul dot_S384x128_S384x128_S128x128_0_0_1_1_n_n none dsb q (constant S128x128 .f32 0x00000000#32))) shapeCasts_S128x128_S128x128
def dvB (dob : FVec F S384x128 .bf16) (p : FVec F S384x128 .f32) (old : Vec F S128x128 .f32) : FVec F S128x128 .f32 :=
  shapeCast S128x128 (addf old (matmul dot_S384x128_S384x128_S128x128_0_0_1_1_n_n none (truncf .bf16 p bitsLt_bf16_f32) dob (constant S128x128 .f32 0x00000000#32))) shapeCasts_S128x128_S128x128
def dcB (ds : FVec F S384x128 .f32) (old : Vec F S1x1x128 .f32) : FVec F S1x1x128 .f32 :=
  shapeCast S1x1x128 (subf (shapeCast S1x128 old shapeCasts_S1x1x128_S1x128)
    (shapeCast S1x128 (multiReduction .add [0] S128 ds 0x00000000#32 reduces_S384x128_S128 (.inl rfl) rfl) shapeCasts_S128_S1x128)) shapeCasts_S1x128_S1x1x128

/-! ## The blocks lie inside -/

theorem inb1 (i : grid0.Coords) (k : Fin (k0_t1_loop i).trips) (b : Fin 6) (a : Fin 2) :
    k0_off1 i k (BitVec.ofNat 32 b.val) a + (![128, 128] : Fin 2 → ℕ) a ≤ S4224x128.size a := by
  have := k.isLt.trans_eq (t1_trips i)
  have : (i 1).val < 11 := (i 1).isLt
  rw [off1_eq]; fin_cases a <;> simp [S4224x128] <;> omega
theorem inb2 (i : grid0.Coords) (k : Fin (k0_t1_loop i).trips) (b : Fin 6) (a : Fin 3) :
    k0_off2 i k (BitVec.ofNat 32 b.val) a + (![1, 1, 128] : Fin 3 → ℕ) a ≤ S1x33x128.size a := by
  have := k.isLt.trans_eq (t1_trips i)
  have : (i 1).val < 11 := (i 1).isLt
  rw [off2_eq]; fin_cases a <;> simp [S1x33x128] <;> omega
theorem inb5 (i : grid0.Coords) (k : Fin (k0_t3_loop i).trips) (b : Fin 3) (a : Fin 2) :
    k0_off5 i (BitVec.ofNat 32 b.val) a + (![128, 128] : Fin 2 → ℕ) a ≤ S4224x128.size a := by
  have := k.isLt.trans_eq (t3_trips i)
  have : (i 1).val < 11 := (i 1).isLt
  rw [off5_eq]; fin_cases a <;> simp [S4224x128] <;> omega
theorem inb6 (i : grid0.Coords) (k : Fin (k0_t3_loop i).trips) (b : Fin 3) (a : Fin 3) :
    k0_off6 i (BitVec.ofNat 32 b.val) a + (![1, 1, 128] : Fin 3 → ℕ) a ≤ S1x33x128.size a := by
  have := k.isLt.trans_eq (t3_trips i)
  have : (i 1).val < 11 := (i 1).isLt
  rw [off6_eq]; fin_cases a <;> simp [S1x33x128] <;> omega
theorem inb9 (i : grid0.Coords) (b : Fin 3) (a : Fin 2) :
    k0_off9 i (BitVec.ofNat 32 b.val) a + (![128, 128] : Fin 2 → ℕ) a ≤ S4224x128.size a := by
  have : (i 1).val < 11 := (i 1).isLt
  rw [off9_eq]; fin_cases a <;> simp [S4224x128] <;> omega
theorem inb10 (i : grid0.Coords) (b : Fin 3) (a : Fin 3) :
    k0_off10 i (BitVec.ofNat 32 b.val) a + (![1, 1, 128] : Fin 3 → ℕ) a ≤ S1x33x128.size a := by
  have : (i 1).val < 11 := (i 1).isLt
  rw [off10_eq]; fin_cases a <;> simp [S1x33x128] <;> omega

end Cert.KernelIdeal.Fox

end
-- ==== Proof.PointBase.lean ====
/-
  A point of the attention backward: its queries' block and the rows' terms, and its state once both loops over the key
  blocks below the diagonal have run.
-/
module

public import proofs.«01_k».proof.Proof.TripA

public import proofs.«01_k».proof.Proof.TripB
public import proofs.«01_k».proof.Proof.Blocks

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))

/-- The queries, the cotangent before the norm (rounded), the rows' correction, the gate less the log-sum. -/
abbrev qP : Vec F S384x128 .bf16 := View.readAt (Elt F) arg2.view (Rect.unit (s := S384x128) ![0, 0] S384x128.size inb_S384x128_S384x128_0_0).toLoadRect X2
abbrev oP : Vec F S384x128 .f32 := View.readAt (Elt F) arg8.view (Rect.unit (s := S384x128) ![0, 0] S384x128.size inb_S384x128_S384x128_0_0).toLoadRect X8
abbrev dP : Vec F S384x128 .f32 := View.readAt (Elt F) arg9.view (Rect.unit (s := S384x128) ![0, 0] S384x128.size inb_S384x128_S384x128_0_0).toLoadRect X9
abbrev doP : FVec F S384x128 .f32 := k0_pay166 (oP c arg8 X8) (View.readAt (Elt F) arg5.view (Rect.unit (s := S1x1x128) ![0, 0, 0] S1x1x128.size inb_S1x1x128_S1x1x128_0_0_0).toLoadRect X5) (dP c arg9 X9)
abbrev dobP : FVec F S384x128 .bf16 := k0_pay169 (doP c arg5 arg8 arg9 X5 X8 X9)
abbrev deltaP : FVec F S384x1 .f32 := k0_pay170 (k0_pay163 (oP c arg8 X8)) (doP c arg5 arg8 arg9 X5 X8 X9)
abbrev clP : FVec F S384x1 .f32 := k0_pay171 (View.readAt (Elt F) arg6.view (Rect.unit (s := S1x384x1) ![0, 0, 0] S1x384x1.size inb_S1x384x1_S1x384x1_0_0_0).toLoadRect X6) (View.readAt (Elt F) arg10.view (Rect.unit (s := S1x384x1) ![0, 0, 0] S1x384x1.size inb_S1x384x1_S1x384x1_0_0_0).toLoadRect X10)

/-- The carried value and the written buffers after the first loop, and after the second. -/
@[irreducible] def afterA (v62 : BitVec 32) (v73 : BitVec 1) (v75 : BitVec 1) (f15 : Buf (Elt F) (arg15.view.loc (c : Thread nD τ))) (f16 : Buf (Elt F) (arg16.view.loc (c : Thread nD τ))) (f17 : Buf (Elt F) (arg17.view.loc (c : Thread nD τ))) : FVec F S384x128 .f32 × Buf (Elt F) (arg15.view.loc (c : Thread nD τ)) × Buf (Elt F) (arg16.view.loc (c : Thread nD τ)) × Buf (Elt F) (arg17.view.loc (c : Thread nD τ)) :=
  out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (qP c arg2 X2) (dobP c arg5 arg8 arg9 X5 X8 X9) (deltaP c arg5 arg8 arg9 X5 X8 X9) (clP c arg6 arg10 X6 X10) k0_pay175 v62 v73 v75 X3 X4 X7 (k0_pay175, f15, f16, f17)
theorem afterA_eq (v62 : BitVec 32) (v73 : BitVec 1) (v75 : BitVec 1) (f15 : Buf (Elt F) (arg15.view.loc (c : Thread nD τ))) (f16 : Buf (Elt F) (arg16.view.loc (c : Thread nD τ))) (f17 : Buf (Elt F) (arg17.view.loc (c : Thread nD τ))) : afterA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 v62 v73 v75 f15 f16 f17 =
  out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (qP c arg2 X2) (dobP c arg5 arg8 arg9 X5 X8 X9) (deltaP c arg5 arg8 arg9 X5 X8 X9) (clP c arg6 arg10 X6 X10) k0_pay175 v62 v73 v75 X3 X4 X7 (k0_pay175, f15, f16, f17) := by unfold afterA; rfl
@[irreducible] def afterB (v62 : BitVec 32) (v73 : BitVec 1) (v75 : BitVec 1) (f15 : Buf (Elt F) (arg15.view.loc (c : Thread nD τ))) (f16 : Buf (Elt F) (arg16.view.loc (c : Thread nD τ))) (f17 : Buf (Elt F) (arg17.view.loc (c : Thread nD τ))) : FVec F S384x128 .f32 × Buf (Elt F) (arg15.view.loc (c : Thread nD τ)) × Buf (Elt F) (arg16.view.loc (c : Thread nD τ)) × Buf (Elt F) (arg17.view.loc (c : Thread nD τ)) :=
  out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (qP c arg2 X2) (dobP c arg5 arg8 arg9 X5 X8 X9) (deltaP c arg5 arg8 arg9 X5 X8 X9) (clP c arg6 arg10 X6 X10) k0_pay175 v62 v73 v75 X3 X4 X7 (afterA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 v62 v73 v75 f15 f16 f17)
theorem afterB_eq (v62 : BitVec 32) (v73 : BitVec 1) (v75 : BitVec 1) (f15 : Buf (Elt F) (arg15.view.loc (c : Thread nD τ))) (f16 : Buf (Elt F) (arg16.view.loc (c : Thread nD τ))) (f17 : Buf (Elt F) (arg17.view.loc (c : Thread nD τ))) : afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 v62 v73 v75 f15 f16 f17 =
  out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (qP c arg2 X2) (dobP c arg5 arg8 arg9 X5 X8 X9) (deltaP c arg5 arg8 arg9 X5 X8 X9) (clP c arg6 arg10 X6 X10) k0_pay175 v62 v73 v75 X3 X4 X7 (afterA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 v62 v73 v75 f15 f16 f17) := by unfold afterB; rfl

/-- Diagonal block `b`: its keys, values and gates, its mask, weights and the logits' cotangent. -/
abbrev Kd (b : Fin 3) : Vec F S128x128 .bf16 := View.readAt (Elt F) arg3.view (Rect.unit (s := S4224x128) (k0_off9 i (BitVec.ofNat 32 b.val)) ![128, 128] (inb9 i b)).toLoadRect X3
abbrev Vd (b : Fin 3) : Vec F S128x128 .bf16 := View.readAt (Elt F) arg4.view (Rect.unit (s := S4224x128) (k0_off9 i (BitVec.ofNat 32 b.val)) ![128, 128] (inb9 i b)).toLoadRect X4
abbrev Cd (b : Fin 3) : Vec F S1x1x128 .f32 := View.readAt (Elt F) arg7.view (Rect.unit (s := S1x33x128) (k0_off10 i (BitVec.ofNat 32 b.val)) ![1, 1, 128] (inb10 i b)).toLoadRect X7
abbrev Md : Fin 3 → IVec S384x128 1 := ![k0_pay172, k0_pay173, k0_pay174]
abbrev Pd (b : Fin 3) : FVec F S384x128 .f32 := pM (Md b) (lgB (qP c arg2 X2) (clP c arg6 arg10 X6 X10) (Kd c i arg3 X3 b) (Cd c i arg7 X7 b))
abbrev Dd (b : Fin 3) : FVec F S384x128 .f32 := dsB (Pd c i arg2 arg3 arg6 arg7 arg10 X2 X3 X6 X7 X10 b) (dobP c arg5 arg8 arg9 X5 X8 X9) (deltaP c arg5 arg8 arg9 X5 X8 X9) (Vd c i arg4 X4 b)

end Cert.KernelIdeal.Fox

end
-- ==== Proof.TermsA.lean ====
/-
  What a trip of the first loop computes, block by block.
-/
module

public import proofs.«01_k».proof.Proof.TripA

public import proofs.«01_k».proof.Proof.Blocks

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole) (arg1 : BitVec 32) (v3 : Vec F S384x128 .bf16) (v40 : FVec F S384x128 .bf16) (v44 : FVec F S384x1 .f32) (v49 : FVec F S384x1 .f32) (v61 : FVec F S384x128 .f32) (v62 : BitVec 32) (v73 : BitVec 1) (v75 : BitVec 1)
  (X3 : Buf (Elt F) (arg3.view.loc (c : Thread nD τ))) (X4 : Buf (Elt F) (arg4.view.loc (c : Thread nD τ))) (X7 : Buf (Elt F) (arg7.view.loc (c : Thread nD τ))) (k : Fin (k0_t1_loop i).trips) (acc : FVec F S384x128 .f32) (f15 : Buf (Elt F) (arg15.view.loc (c : Thread nD τ))) (f16 : Buf (Elt F) (arg16.view.loc (c : Thread nD τ))) (f17 : Buf (Elt F) (arg17.view.loc (c : Thread nD τ)))

/-- Block `b` of the trip: its keys, values and gates, and what the written buffers hold there. -/
abbrev K_t1 (b : Fin 6) : Vec F S128x128 .bf16 := View.readAt (Elt F) arg3.view (Rect.unit (s := S4224x128) (k0_off1 i k (BitVec.ofNat 32 b.val)) ![128, 128] (inb1 i k b)).toLoadRect X3
abbrev V_t1 (b : Fin 6) : Vec F S128x128 .bf16 := View.readAt (Elt F) arg4.view (Rect.unit (s := S4224x128) (k0_off1 i k (BitVec.ofNat 32 b.val)) ![128, 128] (inb1 i k b)).toLoadRect X4
abbrev C_t1 (b : Fin 6) : Vec F S1x1x128 .f32 := View.readAt (Elt F) arg7.view (Rect.unit (s := S1x33x128) (k0_off2 i k (BitVec.ofNat 32 b.val)) ![1, 1, 128] (inb2 i k b)).toLoadRect X7
abbrev O15_t1 (b : Fin 6) : Vec F S1x1x128 .f32 := View.readAt (Elt F) arg15.view (Rect.unit (s := S1x33x128) (k0_off2 i k (BitVec.ofNat 32 b.val)) ![1, 1, 128] (inb2 i k b)).toLoadRect f15
abbrev O16_t1 (b : Fin 6) : Vec F S128x128 .f32 := View.readAt (Elt F) arg16.view (Rect.unit (s := S4224x128) (k0_off1 i k (BitVec.ofNat 32 b.val)) ![128, 128] (inb1 i k b)).toLoadRect f16
abbrev O17_t1 (b : Fin 6) : Vec F S128x128 .f32 := View.readAt (Elt F) arg17.view (Rect.unit (s := S4224x128) (k0_off1 i k (BitVec.ofNat 32 b.val)) ![128, 128] (inb1 i k b)).toLoadRect f17
/-- Its weights and the logits' cotangent. -/
abbrev P_t1 (b : Fin 6) : FVec F S384x128 .f32 := pB (lgB v3 v49 (K_t1 c i arg3 X3 k b) (C_t1 c i arg7 X7 k b))
abbrev D_t1 (b : Fin 6) : FVec F S384x128 .f32 := dsB (P_t1 c i arg3 arg7 v3 v49 X3 X7 k b) v40 v44 (V_t1 c i arg4 X4 k b)

/-- The queries' gradient the trip carries on. -/
theorem dq_t1 : (trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).1 acc f15 f16 f17 =
    (dqB (dqB (dqB (dqB (dqB (dqB acc (dsbB (D_t1 c i arg3 arg4 arg7 v3 v40 v44 v49 X3 X4 X7 k 0)) (K_t1 c i arg3 X3 k 0)) (dsbB (D_t1 c i arg3 arg4 arg7 v3 v40 v44 v49 X3 X4 X7 k 1)) (K_t1 c i arg3 X3 k 1)) (dsbB (D_t1 c i arg3 arg4 arg7 v3 v40 v44 v49 X3 X4 X7 k 2)) (K_t1 c i arg3 X3 k 2)) (dsbB (D_t1 c i arg3 arg4 arg7 v3 v40 v44 v49 X3 X4 X7 k 3)) (K_t1 c i arg3 X3 k 3)) (dsbB (D_t1 c i arg3 arg4 arg7 v3 v40 v44 v49 X3 X4 X7 k 4)) (K_t1 c i arg3 X3 k 4)) (dsbB (D_t1 c i arg3 arg4 arg7 v3 v40 v44 v49 X3 X4 X7 k 5)) (K_t1 c i arg3 X3 k 5)) := by
  unfold trip_t1
  rfl
/-- The gates', the keys' and the values' blocks it writes. -/
theorem dc_t1 : (trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.1 acc f15 f16 f17 =
    [⟨Rect.unit (s := S1x33x128) (k0_off2 i k (BitVec.ofNat 32 (5 : Fin 6).val)) ![1, 1, 128] (inb2 i k 5), dcB (D_t1 c i arg3 arg4 arg7 v3 v40 v44 v49 X3 X4 X7 k 5) (O15_t1 c i arg15 k f15 5)⟩,
      ⟨Rect.unit (s := S1x33x128) (k0_off2 i k (BitVec.ofNat 32 (4 : Fin 6).val)) ![1, 1, 128] (inb2 i k 4), dcB (D_t1 c i arg3 arg4 arg7 v3 v40 v44 v49 X3 X4 X7 k 4) (O15_t1 c i arg15 k f15 4)⟩,
      ⟨Rect.unit (s := S1x33x128) (k0_off2 i k (BitVec.ofNat 32 (3 : Fin 6).val)) ![1, 1, 128] (inb2 i k 3), dcB (D_t1 c i arg3 arg4 arg7 v3 v40 v44 v49 X3 X4 X7 k 3) (O15_t1 c i arg15 k f15 3)⟩,
      ⟨Rect.unit (s := S1x33x128) (k0_off2 i k (BitVec.ofNat 32 (2 : Fin 6).val)) ![1, 1, 128] (inb2 i k 2), dcB (D_t1 c i arg3 arg4 arg7 v3 v40 v44 v49 X3 X4 X7 k 2) (O15_t1 c i arg15 k f15 2)⟩,
      ⟨Rect.unit (s := S1x33x128) (k0_off2 i k (BitVec.ofNat 32 (1 : Fin 6).val)) ![1, 1, 128] (inb2 i k 1), dcB (D_t1 c i arg3 arg4 arg7 v3 v40 v44 v49 X3 X4 X7 k 1) (O15_t1 c i arg15 k f15 1)⟩,
      ⟨Rect.unit (s := S1x33x128) (k0_off2 i k (BitVec.ofNat 32 (0 : Fin 6).val)) ![1, 1, 128] (inb2 i k 0), dcB (D_t1 c i arg3 arg4 arg7 v3 v40 v44 v49 X3 X4 X7 k 0) (O15_t1 c i arg15 k f15 0)⟩] := by
  unfold trip_t1
  rfl
theorem dk_t1 : (trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.1 acc f15 f16 f17 =
    [⟨Rect.unit (s := S4224x128) (k0_off1 i k (BitVec.ofNat 32 (5 : Fin 6).val)) ![128, 128] (inb1 i k 5), dkB v3 (dsbB (D_t1 c i arg3 arg4 arg7 v3 v40 v44 v49 X3 X4 X7 k 5)) (O16_t1 c i arg16 k f16 5)⟩,
      ⟨Rect.unit (s := S4224x128) (k0_off1 i k (BitVec.ofNat 32 (4 : Fin 6).val)) ![128, 128] (inb1 i k 4), dkB v3 (dsbB (D_t1 c i arg3 arg4 arg7 v3 v40 v44 v49 X3 X4 X7 k 4)) (O16_t1 c i arg16 k f16 4)⟩,
      ⟨Rect.unit (s := S4224x128) (k0_off1 i k (BitVec.ofNat 32 (3 : Fin 6).val)) ![128, 128] (inb1 i k 3), dkB v3 (dsbB (D_t1 c i arg3 arg4 arg7 v3 v40 v44 v49 X3 X4 X7 k 3)) (O16_t1 c i arg16 k f16 3)⟩,
      ⟨Rect.unit (s := S4224x128) (k0_off1 i k (BitVec.ofNat 32 (2 : Fin 6).val)) ![128, 128] (inb1 i k 2), dkB v3 (dsbB (D_t1 c i arg3 arg4 arg7 v3 v40 v44 v49 X3 X4 X7 k 2)) (O16_t1 c i arg16 k f16 2)⟩,
      ⟨Rect.unit (s := S4224x128) (k0_off1 i k (BitVec.ofNat 32 (1 : Fin 6).val)) ![128, 128] (inb1 i k 1), dkB v3 (dsbB (D_t1 c i arg3 arg4 arg7 v3 v40 v44 v49 X3 X4 X7 k 1)) (O16_t1 c i arg16 k f16 1)⟩,
      ⟨Rect.unit (s := S4224x128) (k0_off1 i k (BitVec.ofNat 32 (0 : Fin 6).val)) ![128, 128] (inb1 i k 0), dkB v3 (dsbB (D_t1 c i arg3 arg4 arg7 v3 v40 v44 v49 X3 X4 X7 k 0)) (O16_t1 c i arg16 k f16 0)⟩] := by
  unfold trip_t1
  rfl
theorem dv_t1 : (trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.1 acc f15 f16 f17 =
    [⟨Rect.unit (s := S4224x128) (k0_off1 i k (BitVec.ofNat 32 (5 : Fin 6).val)) ![128, 128] (inb1 i k 5), dvB v40 (P_t1 c i arg3 arg7 v3 v49 X3 X7 k 5) (O17_t1 c i arg17 k f17 5)⟩,
      ⟨Rect.unit (s := S4224x128) (k0_off1 i k (BitVec.ofNat 32 (4 : Fin 6).val)) ![128, 128] (inb1 i k 4), dvB v40 (P_t1 c i arg3 arg7 v3 v49 X3 X7 k 4) (O17_t1 c i arg17 k f17 4)⟩,
      ⟨Rect.unit (s := S4224x128) (k0_off1 i k (BitVec.ofNat 32 (3 : Fin 6).val)) ![128, 128] (inb1 i k 3), dvB v40 (P_t1 c i arg3 arg7 v3 v49 X3 X7 k 3) (O17_t1 c i arg17 k f17 3)⟩,
      ⟨Rect.unit (s := S4224x128) (k0_off1 i k (BitVec.ofNat 32 (2 : Fin 6).val)) ![128, 128] (inb1 i k 2), dvB v40 (P_t1 c i arg3 arg7 v3 v49 X3 X7 k 2) (O17_t1 c i arg17 k f17 2)⟩,
      ⟨Rect.unit (s := S4224x128) (k0_off1 i k (BitVec.ofNat 32 (1 : Fin 6).val)) ![128, 128] (inb1 i k 1), dvB v40 (P_t1 c i arg3 arg7 v3 v49 X3 X7 k 1) (O17_t1 c i arg17 k f17 1)⟩,
      ⟨Rect.unit (s := S4224x128) (k0_off1 i k (BitVec.ofNat 32 (0 : Fin 6).val)) ![128, 128] (inb1 i k 0), dvB v40 (P_t1 c i arg3 arg7 v3 v49 X3 X7 k 0) (O17_t1 c i arg17 k f17 0)⟩] := by
  unfold trip_t1
  rfl

end Cert.KernelIdeal.Fox

end
-- ==== Proof.TermsB.lean ====
/-
  What a trip of the second loop computes, block by block.
-/
module

public import proofs.«01_k».proof.Proof.TripB

public import proofs.«01_k».proof.Proof.Blocks

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole) (arg1 : BitVec 32) (v3 : Vec F S384x128 .bf16) (v40 : FVec F S384x128 .bf16) (v44 : FVec F S384x1 .f32) (v49 : FVec F S384x1 .f32) (v61 : FVec F S384x128 .f32) (v62 : BitVec 32) (v73 : BitVec 1) (v75 : BitVec 1)
  (X3 : Buf (Elt F) (arg3.view.loc (c : Thread nD τ))) (X4 : Buf (Elt F) (arg4.view.loc (c : Thread nD τ))) (X7 : Buf (Elt F) (arg7.view.loc (c : Thread nD τ))) (k : Fin (k0_t3_loop i).trips) (acc : FVec F S384x128 .f32) (f15 : Buf (Elt F) (arg15.view.loc (c : Thread nD τ))) (f16 : Buf (Elt F) (arg16.view.loc (c : Thread nD τ))) (f17 : Buf (Elt F) (arg17.view.loc (c : Thread nD τ)))

/-- Block `b` of the trip: its keys, values and gates, and what the written buffers hold there. -/
abbrev K_t3 (b : Fin 3) : Vec F S128x128 .bf16 := View.readAt (Elt F) arg3.view (Rect.unit (s := S4224x128) (k0_off5 i (BitVec.ofNat 32 b.val)) ![128, 128] (inb5 i k b)).toLoadRect X3
abbrev V_t3 (b : Fin 3) : Vec F S128x128 .bf16 := View.readAt (Elt F) arg4.view (Rect.unit (s := S4224x128) (k0_off5 i (BitVec.ofNat 32 b.val)) ![128, 128] (inb5 i k b)).toLoadRect X4
abbrev C_t3 (b : Fin 3) : Vec F S1x1x128 .f32 := View.readAt (Elt F) arg7.view (Rect.unit (s := S1x33x128) (k0_off6 i (BitVec.ofNat 32 b.val)) ![1, 1, 128] (inb6 i k b)).toLoadRect X7
abbrev O15_t3 (b : Fin 3) : Vec F S1x1x128 .f32 := View.readAt (Elt F) arg15.view (Rect.unit (s := S1x33x128) (k0_off6 i (BitVec.ofNat 32 b.val)) ![1, 1, 128] (inb6 i k b)).toLoadRect f15
abbrev O16_t3 (b : Fin 3) : Vec F S128x128 .f32 := View.readAt (Elt F) arg16.view (Rect.unit (s := S4224x128) (k0_off5 i (BitVec.ofNat 32 b.val)) ![128, 128] (inb5 i k b)).toLoadRect f16
abbrev O17_t3 (b : Fin 3) : Vec F S128x128 .f32 := View.readAt (Elt F) arg17.view (Rect.unit (s := S4224x128) (k0_off5 i (BitVec.ofNat 32 b.val)) ![128, 128] (inb5 i k b)).toLoadRect f17
/-- Its weights and the logits' cotangent. -/
abbrev P_t3 (b : Fin 3) : FVec F S384x128 .f32 := pB (lgB v3 v49 (K_t3 c i arg3 X3 k b) (C_t3 c i arg7 X7 k b))
abbrev D_t3 (b : Fin 3) : FVec F S384x128 .f32 := dsB (P_t3 c i arg3 arg7 v3 v49 X3 X7 k b) v40 v44 (V_t3 c i arg4 X4 k b)

/-- The queries' gradient the trip carries on. -/
theorem dq_t3 : (trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).1 acc f15 f16 f17 =
    (dqB (dqB (dqB acc (dsbB (D_t3 c i arg3 arg4 arg7 v3 v40 v44 v49 X3 X4 X7 k 0)) (K_t3 c i arg3 X3 k 0)) (dsbB (D_t3 c i arg3 arg4 arg7 v3 v40 v44 v49 X3 X4 X7 k 1)) (K_t3 c i arg3 X3 k 1)) (dsbB (D_t3 c i arg3 arg4 arg7 v3 v40 v44 v49 X3 X4 X7 k 2)) (K_t3 c i arg3 X3 k 2)) := by
  unfold trip_t3
  rfl
/-- The gates', the keys' and the values' blocks it writes. -/
theorem dc_t3 : (trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.1 acc f15 f16 f17 =
    [⟨Rect.unit (s := S1x33x128) (k0_off6 i (BitVec.ofNat 32 (2 : Fin 3).val)) ![1, 1, 128] (inb6 i k 2), dcB (D_t3 c i arg3 arg4 arg7 v3 v40 v44 v49 X3 X4 X7 k 2) (O15_t3 c i arg15 k f15 2)⟩,
      ⟨Rect.unit (s := S1x33x128) (k0_off6 i (BitVec.ofNat 32 (1 : Fin 3).val)) ![1, 1, 128] (inb6 i k 1), dcB (D_t3 c i arg3 arg4 arg7 v3 v40 v44 v49 X3 X4 X7 k 1) (O15_t3 c i arg15 k f15 1)⟩,
      ⟨Rect.unit (s := S1x33x128) (k0_off6 i (BitVec.ofNat 32 (0 : Fin 3).val)) ![1, 1, 128] (inb6 i k 0), dcB (D_t3 c i arg3 arg4 arg7 v3 v40 v44 v49 X3 X4 X7 k 0) (O15_t3 c i arg15 k f15 0)⟩] := by
  unfold trip_t3
  rfl
theorem dk_t3 : (trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.1 acc f15 f16 f17 =
    [⟨Rect.unit (s := S4224x128) (k0_off5 i (BitVec.ofNat 32 (2 : Fin 3).val)) ![128, 128] (inb5 i k 2), dkB v3 (dsbB (D_t3 c i arg3 arg4 arg7 v3 v40 v44 v49 X3 X4 X7 k 2)) (O16_t3 c i arg16 k f16 2)⟩,
      ⟨Rect.unit (s := S4224x128) (k0_off5 i (BitVec.ofNat 32 (1 : Fin 3).val)) ![128, 128] (inb5 i k 1), dkB v3 (dsbB (D_t3 c i arg3 arg4 arg7 v3 v40 v44 v49 X3 X4 X7 k 1)) (O16_t3 c i arg16 k f16 1)⟩,
      ⟨Rect.unit (s := S4224x128) (k0_off5 i (BitVec.ofNat 32 (0 : Fin 3).val)) ![128, 128] (inb5 i k 0), dkB v3 (dsbB (D_t3 c i arg3 arg4 arg7 v3 v40 v44 v49 X3 X4 X7 k 0)) (O16_t3 c i arg16 k f16 0)⟩] := by
  unfold trip_t3
  rfl
theorem dv_t3 : (trip_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.1 acc f15 f16 f17 =
    [⟨Rect.unit (s := S4224x128) (k0_off5 i (BitVec.ofNat 32 (2 : Fin 3).val)) ![128, 128] (inb5 i k 2), dvB v40 (P_t3 c i arg3 arg7 v3 v49 X3 X7 k 2) (O17_t3 c i arg17 k f17 2)⟩,
      ⟨Rect.unit (s := S4224x128) (k0_off5 i (BitVec.ofNat 32 (1 : Fin 3).val)) ![128, 128] (inb5 i k 1), dvB v40 (P_t3 c i arg3 arg7 v3 v49 X3 X7 k 1) (O17_t3 c i arg17 k f17 1)⟩,
      ⟨Rect.unit (s := S4224x128) (k0_off5 i (BitVec.ofNat 32 (0 : Fin 3).val)) ![128, 128] (inb5 i k 0), dvB v40 (P_t3 c i arg3 arg7 v3 v49 X3 X7 k 0) (O17_t3 c i arg17 k f17 0)⟩] := by
  unfold trip_t3
  rfl

end Cert.KernelIdeal.Fox

end
-- ==== Proof.BlockReal.lean ====
/-
  One block over the reals: what its operations are at rows and columns that hold one head's data.
-/
module

public import proofs.«01_k».proof.Proof.Blocks
public import proofs.«01_k».proof.Proof.Reals
public import Idealize.ShloMosaic.Lib.WordCmp

@[expose] public section

set_option maxRecDepth 16384

noncomputable section

namespace Cert.KernelIdeal.Fox

open Cert.KernelIdeal Cert.KernelIdeal.Gen Cert.Model
open Idealize.ShloMosaic Idealize.ShloMosaic.TcCoe

variable (H : Head) (hσ : H.σ = scale) (hε : H.ε = eps) (row : Fin 384 → Fin 4224) (col : Fin 128 → Fin 4224)

/-- The logit less the log-sum of its row, as the kernel adds it up. -/
theorem lgB_real {q : Vec Ideal S384x128 .bf16} {cl : FVec Ideal S384x1 .f32} {kb : Vec Ideal S128x128 .bf16} {cb : Vec Ideal S1x1x128 .f32} (hσ : H.σ = scale)
    (hq : ∀ r d, q (ix2 r d) = ((H.Q (row r) d : ℝ) : EReal)) (hcl : ∀ r z, cl (ix2 r z) = ((H.C (row r) - H.lse (row r) : ℝ) : EReal))
    (hk : ∀ j d, kb (ix2 j d) = ((H.K (col j) d : ℝ) : EReal)) (hc : ∀ a b j, cb (ix3 a b j) = ((H.C (col j) : ℝ) : EReal)) (r : Fin 384) (j : Fin 128) :
    lgB q cl kb cb (ix2 r j)
      = (((∑ d, H.Q (row r) d * H.K (col j) d) * H.σ + ((H.C (row r) - H.lse (row r)) - H.C (col j)) : ℝ) : EReal) := by
  pointwise [lgB, hq, hcl, hk, hc, scale_eq]
  simp only [← EReal.coe_mul, coe_sum, ← EReal.coe_add, ← EReal.coe_sub, hσ]

/-- A weight below the diagonal. -/
theorem pB_real {lg : FVec Ideal S384x128 .f32}
    (hl : ∀ r j, lg (ix2 r j) = (((∑ d, H.Q (row r) d * H.K (col j) d) * H.σ + ((H.C (row r) - H.lse (row r)) - H.C (col j)) : ℝ) : EReal))
    (h : ∀ r j, col j ≤ row r) (r : Fin 384) (j : Fin 128) : pB lg (ix2 r j) = ((H.P (row r) (col j) : ℝ) : EReal) := by
  pointwise [pB, hl]
  rw [Ideal.exp_coe, H.exp_sub_lse _ _ (h r j)]

/-- A weight on the diagonal. -/
theorem pM_real {mask : IVec S384x128 1} {lg : FVec Ideal S384x128 .f32}
    (hl : ∀ r j, lg (ix2 r j) = (((∑ d, H.Q (row r) d * H.K (col j) d) * H.σ + ((H.C (row r) - H.lse (row r)) - H.C (col j)) : ℝ) : EReal))
    (hm : ∀ r j, mask (ix2 r j) = if col j ≤ row r then 1#1 else 0#1) (r : Fin 384) (j : Fin 128) :
    pM mask lg (ix2 r j) = ((H.P (row r) (col j) : ℝ) : EReal) := by
  pointwise [pM, hl, hm]
  by_cases h : col j ≤ row r
  · rw [if_pos h]
    refine (if_pos rfl).trans ?_
    rw [Ideal.exp_coe, H.exp_sub_lse _ _ h]
  · rw [if_neg h, H.P_zero _ _ h]
    rfl

/-- The logits' cotangent. -/
theorem dsB_real {p : FVec Ideal S384x128 .f32} {dob : FVec Ideal S384x128 .bf16} {delta : FVec Ideal S384x1 .f32} {vb : Vec Ideal S128x128 .bf16}
    (hp : ∀ r j, p (ix2 r j) = ((H.P (row r) (col j) : ℝ) : EReal)) (hdo : ∀ r d, dob (ix2 r d) = ((H.dO (row r) d : ℝ) : EReal))
    (hde : ∀ r z, delta (ix2 r z) = ((H.δ (row r) : ℝ) : EReal)) (hv : ∀ j d, vb (ix2 j d) = ((H.V (col j) d : ℝ) : EReal)) (r : Fin 384) (j : Fin 128) :
    dsB p dob delta vb (ix2 r j) = ((H.dL (row r) (col j) : ℝ) : EReal) := by
  pointwise [dsB, hp, hdo, hde, hv]
  simp only [← EReal.coe_mul, coe_sum, ← EReal.coe_sub]
  rfl

/-- The same by the scale. -/
theorem dsbB_real {ds : FVec Ideal S384x128 .f32} (hσ : H.σ = scale)
    (hd : ∀ r j, ds (ix2 r j) = ((H.dL (row r) (col j) : ℝ) : EReal)) (r : Fin 384) (j : Fin 128) :
    dsbB ds (ix2 r j) = ((H.dL (row r) (col j) * H.σ : ℝ) : EReal) := by
  pointwise [dsbB, hd, scale_eq]
  simp only [← EReal.coe_mul, hσ]

/-- The block's part of the queries' gradient, added. -/
theorem dqB_real {acc : FVec Ideal S384x128 .f32} {dsb : FVec Ideal S384x128 .bf16} {kb : Vec Ideal S128x128 .bf16} (φ : Fin 384 → Fin 128 → ℝ)
    (ha : ∀ r d, acc (ix2 r d) = ((φ r d : ℝ) : EReal))
    (hd : ∀ r j, dsb (ix2 r j) = ((H.dL (row r) (col j) * H.σ : ℝ) : EReal)) (hk : ∀ j d, kb (ix2 j d) = ((H.K (col j) d : ℝ) : EReal)) (r : Fin 384) (d : Fin 128) :
    dqB acc dsb kb (ix2 r d) = ((φ r d + ∑ j, H.dL (row r) (col j) * H.σ * H.K (col j) d : ℝ) : EReal) := by
  pointwise [dqB, ha, hd, hk]
  simp only [← EReal.coe_mul, coe_sum, ← EReal.coe_add]

/-- The block's part of the keys' gradient, added. -/
theorem dkB_real {q : Vec Ideal S384x128 .bf16} {dsb : FVec Ideal S384x128 .bf16} {old : Vec Ideal S128x128 .f32} (φ : Fin 128 → Fin 128 → ℝ)
    (ho : ∀ j d, old (ix2 j d) = ((φ j d : ℝ) : EReal)) (hq : ∀ r d, q (ix2 r d) = ((H.Q (row r) d : ℝ) : EReal))
    (hd : ∀ r j, dsb (ix2 r j) = ((H.dL (row r) (col j) * H.σ : ℝ) : EReal)) (j d : Fin 128) :
    dkB q dsb old (ix2 j d) = ((φ j d + ∑ r, H.dL (row r) (col j) * H.σ * H.Q (row r) d : ℝ) : EReal) := by
  pointwise [dkB, ho, hd, hq]
  simp only [← EReal.coe_mul, coe_sum, ← EReal.coe_add]

/-- The block's part of the values' gradient, added. -/
theorem dvB_real {dob : FVec Ideal S384x128 .bf16} {p : FVec Ideal S384x128 .f32} {old : Vec Ideal S128x128 .f32} (φ : Fin 128 → Fin 128 → ℝ)
    (ho : ∀ j d, old (ix2 j d) = ((φ j d : ℝ) : EReal)) (hdo : ∀ r d, dob (ix2 r d) = ((H.dO (row r) d : ℝ) : EReal))
    (hp : ∀ r j, p (ix2 r j) = ((H.P (row r) (col j) : ℝ) : EReal)) (j d : Fin 128) :
    dvB dob p old (ix2 j d) = ((φ j d + ∑ r, H.P (row r) (col j) * H.dO (row r) d : ℝ) : EReal) := by
  pointwise [dvB, ho, hdo, hp]
  simp only [← EReal.coe_mul, coe_sum, ← EReal.coe_add]

/-- The block's part of the gates' gradient, taken off. -/
theorem dcB_real {ds : FVec Ideal S384x128 .f32} {old : Vec Ideal S1x1x128 .f32} (φ : Fin 128 → ℝ)
    (ho : ∀ a b j, old (ix3 a b j) = ((φ j : ℝ) : EReal)) (hd : ∀ r j, ds (ix2 r j) = ((H.dL (row r) (col j) : ℝ) : EReal)) (a b : Fin 1) (j : Fin 128) :
    dcB ds old (ix3 a b j) = ((φ j + -∑ r, H.dL (row r) (col j) : ℝ) : EReal) := by
  pointwise [dcB, ho, hd]
  simp only [coe_sum, ← EReal.coe_sub, ← sub_eq_add_neg]

/-! ## The rows' terms -/

/-- One over the root of a row's mean square. -/
theorem pay164_real {o : Vec Ideal S384x128 .f32} (hε : H.ε = eps) (ho : ∀ r d, o (ix2 r d) = ((H.O (row r) d : ℝ) : EReal)) (r : Fin 384) (z : Fin 1) :
    k0_pay164 o (ix2 r z) = ((H.R (row r) : ℝ) : EReal) := by
  pointwise [k0_pay164, k0_pay163, ho, ofBits_128, eps_eq]
  simp only [← EReal.coe_mul, coe_sum]
  rw [coe_div (by norm_num : (128 : ℝ) ≠ 0), ← EReal.coe_add, ← hε]
  exact coe_rsqrt (H.W_pos (row r))
theorem pay165_real {o : Vec Ideal S384x128 .f32} (hε : H.ε = eps) (ho : ∀ r d, o (ix2 r d) = ((H.O (row r) d : ℝ) : EReal)) (r : Fin 384) (d : Fin 128) :
    k0_pay165 o (ix2 r d) = ((H.O (row r) d * H.R (row r) : ℝ) : EReal) := by
  pointwise [k0_pay165, k0_pay163, ho, pay164_real H row hε ho]
  simp only [← EReal.coe_mul]
/-- The cotangent before the norm. -/
theorem pay166_real {o dn : Vec Ideal S384x128 .f32} {g : Vec Ideal S1x1x128 .f32} (hε : H.ε = eps) (ho : ∀ r d, o (ix2 r d) = ((H.O (row r) d : ℝ) : EReal))
    (hg : ∀ a b d, g (ix3 a b d) = ((H.G d : ℝ) : EReal)) (hd : ∀ r d, dn (ix2 r d) = ((H.D (row r) d : ℝ) : EReal)) (r : Fin 384) (d : Fin 128) :
    k0_pay166 o g dn (ix2 r d) = ((H.dO (row r) d : ℝ) : EReal) := by
  pointwise [k0_pay166, pay165_real H row hε ho, pay164_real H row hε ho, hg, hd, ofBits_128]
  simp only [← EReal.coe_mul, coe_sum]
  rw [coe_div (by norm_num : (128 : ℝ) ≠ 0)]
  simp only [← EReal.coe_mul, ← EReal.coe_sub]
  rfl
/-- The gain's gradient, added. -/
theorem pay167_real {o dn : Vec Ideal S384x128 .f32} {old : Vec Ideal S1x1x128 .f32} (φ : Fin 128 → ℝ) (hε : H.ε = eps) (ho : ∀ r d, o (ix2 r d) = ((H.O (row r) d : ℝ) : EReal))
    (hg : ∀ a b d, old (ix3 a b d) = ((φ d : ℝ) : EReal)) (hd : ∀ r d, dn (ix2 r d) = ((H.D (row r) d : ℝ) : EReal)) (a b : Fin 1) (d : Fin 128) :
    k0_pay168 (k0_pay167 o dn old) (ix3 a b d) = ((φ d + ∑ r, H.D (row r) d * (H.O (row r) d * H.R (row r)) : ℝ) : EReal) := by
  pointwise [k0_pay168, k0_pay167, pay165_real H row hε ho, hg, hd]
  simp only [← EReal.coe_mul, coe_sum, ← EReal.coe_add]
/-- The rows' correction. -/
theorem pay170_real {o dO : FVec Ideal S384x128 .f32} (ho : ∀ r d, o (ix2 r d) = ((H.O (row r) d : ℝ) : EReal))
    (hd : ∀ r d, dO (ix2 r d) = ((H.dO (row r) d : ℝ) : EReal)) (r : Fin 384) (z : Fin 1) :
    k0_pay170 (k0_pay163 o) dO (ix2 r z) = ((H.δ (row r) : ℝ) : EReal) := by
  pointwise [k0_pay170, k0_pay169, k0_pay163, ho, hd]
  simp only [← EReal.coe_mul, coe_sum]
  rfl
/-- The gate less the log-sum. -/
theorem pay171_real {x l : Vec Ideal S1x384x1 .f32} (hx : ∀ a r z, x (ix3 a r z) = ((H.C (row r) : ℝ) : EReal))
    (hl : ∀ a r z, l (ix3 a r z) = ((H.lse (row r) : ℝ) : EReal)) (r : Fin 384) (z : Fin 1) :
    k0_pay171 x l (ix2 r z) = ((H.C (row r) - H.lse (row r) : ℝ) : EReal) := by
  pointwise [k0_pay171, hx, hl]
  simp only [← EReal.coe_sub]

/-- Small words compare as their numbers do. -/
theorem toInt_small (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]
theorem cmp_small (j k r : ℕ) (h : j + k < 2 ^ 31) (hr : r < 2 ^ 31) :
    IntOp.cmpi .sle (IntOp.addi (BitVec.ofNat 32 j) (BitVec.ofNat 32 k)) (BitVec.ofNat 32 r) = if j + k ≤ r then 1#1 else 0#1 := by
  have e : IntOp.cmpi .sle (IntOp.addi (BitVec.ofNat 32 j) (BitVec.ofNat 32 k)) (BitVec.ofNat 32 r)
      = BitVec.ofBool (decide ((BitVec.ofNat 32 j + BitVec.ofNat 32 k).toInt ≤ (BitVec.ofNat 32 r).toInt)) := rfl
  rw [e, ← BitVec.ofNat_add, toInt_small _ h, toInt_small _ hr]
  by_cases h : j + k ≤ r
  · rw [if_pos h, decide_eq_true (by exact_mod_cast h)]; rfl
  · rw [if_neg h, decide_eq_false (by exact_mod_cast h)]; rfl

/-- The three masks of the diagonal. -/
theorem pay172_real (r : Fin 384) (j : Fin 128) : k0_pay172 (ix2 r j) = if j.val + 0 ≤ r.val then 1#1 else 0#1 := by
  have := r.isLt
  have := j.isLt
  pointwise [k0_pay172]
  exact cmp_small _ 0 _ (by omega) (by omega)
theorem pay173_real (r : Fin 384) (j : Fin 128) : k0_pay173 (ix2 r j) = if j.val + 128 ≤ r.val then 1#1 else 0#1 := by
  have := r.isLt
  have := j.isLt
  pointwise [k0_pay173]
  exact cmp_small _ 128 _ (by omega) (by omega)
theorem pay174_real (r : Fin 384) (j : Fin 128) : k0_pay174 (ix2 r j) = if j.val + 256 ≤ r.val then 1#1 else 0#1 := by
  have := r.isLt
  have := j.isLt
  pointwise [k0_pay174]
  exact cmp_small _ 256 _ (by omega) (by omega)

/-- Zeros. -/
theorem pay175_real (r : Fin 384) (d : Fin 128) : k0_pay175 (F := Ideal) (ix2 r d) = ((0 : ℝ) : EReal) := by
  pointwise [k0_pay175]
  rfl
theorem pay159_real (r : Fin 4224) (d : Fin 128) : k0_pay159 (F := Ideal) (ix2 r d) = ((0 : ℝ) : EReal) := by
  pointwise [k0_pay159]
  rfl
theorem pay160_real (r : Fin 4224) (d : Fin 128) : k0_pay160 (F := Ideal) (ix2 r d) = ((0 : ℝ) : EReal) := by
  pointwise [k0_pay160]
  rfl
theorem pay161_real (a b : Fin 1) (d : Fin 128) : k0_pay161 (F := Ideal) (ix3 a b d) = ((0 : ℝ) : EReal) := by
  pointwise [k0_pay161]
  rfl
theorem pay162_real (a : Fin 1) (b : Fin 33) (d : Fin 128) : k0_pay162 (F := Ideal) (ix3 a b d) = ((0 : ℝ) : EReal) := by
  pointwise [k0_pay162]
  rfl

end Cert.KernelIdeal.Fox

end
-- ==== Proof.Parts.lean ====
/-
  Key blocks one after another: a query block's sums as far as key block `n`, and the buffers that hold them.
-/
module

public import proofs.«01_k».proof.Proof.BlockReal
public import Idealize.ShloMosaic.Lib.WritesUnit

@[expose] public section

set_option maxRecDepth 16384

noncomputable section

namespace Cert.KernelIdeal.Fox

open Cert.KernelIdeal Cert.KernelIdeal.Gen Cert.Model
open Idealize.ShloMosaic Idealize.ShloMosaic.TcCoe

/-- Row `r` of query block `m`; column `j` of key block `n`. -/
def rowOf (m : Fin 11) (r : Fin 384) : Fin 4224 := ⟨384 * m.val + r.val, by have := m.isLt; have := r.isLt; omega⟩
def colOf (n : Fin 33) (j : Fin 128) : Fin 4224 := ⟨128 * n.val + j.val, by have := n.isLt; have := j.isLt; omega⟩

theorem colOf_le {n : Fin 33} {m : Fin 11} (h : n.val < 3 * m.val) (r : Fin 384) (j : Fin 128) : colOf n j ≤ rowOf m r := by
  show 128 * n.val + j.val ≤ 384 * m.val + r.val
  have := j.isLt
  omega

/-- A sum over the columns, as far as key block `n`. -/
def upTo (f : Fin 4224 → ℝ) (n : ℕ) : ℝ := ∑ s, if s.val < 128 * n then f s else 0

theorem upTo_zero (f : Fin 4224 → ℝ) : upTo f 0 = 0 := by
  unfold upTo
  exact Finset.sum_eq_zero fun s _ => if_neg (by omega)

theorem upTo_succ (f : Fin 4224 → ℝ) (n : Fin 33) : upTo f (n.val + 1) = upTo f n.val + ∑ j, f (colOf n j) := by
  have key : ∀ p : ℕ, upTo f p = ∑ b : Fin 33, if b.val < p then ∑ j, f (colOf b j) else 0 := by
    intro p
    unfold upTo
    rw [Fin.sum_univ_tiles 33 128 rfl fun s : Fin 4224 => if s.val < 128 * p then f s else 0]
    refine Finset.sum_congr rfl fun b _ => ?_
    by_cases hb : b.val < p
    · rw [if_pos hb]
      refine Finset.sum_congr rfl fun j _ => ?_
      have := j.isLt
      rw [if_pos (show b.val * 128 + j.val < 128 * p by omega)]
      exact congrArg f (Fin.ext (show b.val * 128 + j.val = 128 * b.val + j.val by omega))
    · rw [if_neg hb]
      refine Finset.sum_eq_zero fun j _ => ?_
      exact if_neg (show ¬ b.val * 128 + j.val < 128 * p by omega)
  rw [key, key]
  have e : ∀ b : Fin 33, (if b.val < n.val + 1 then ∑ j, f (colOf b j) else 0)
      = (if b.val < n.val then ∑ j, f (colOf b j) else 0) + if b = n then ∑ j, f (colOf b j) else 0 := by
    intro b
    rcases lt_trichotomy b.val n.val with h | h | h
    · rw [if_pos (by omega), if_pos h, if_neg (fun e => by rw [e] at h; omega), add_zero]
    · rw [if_pos (by omega), if_neg (by omega), if_pos (Fin.ext h), zero_add]
    · rw [if_neg (by omega), if_neg (by omega), if_neg (fun e => by rw [e] at h; omega), add_zero]
  rw [Finset.sum_congr rfl fun b _ => e b, Finset.sum_add_distrib, Finset.sum_ite_eq' Finset.univ n, if_pos (Finset.mem_univ n)]

/-- A sum whose terms vanish from key block `n` on is whole there. -/
theorem upTo_whole (f : Fin 4224 → ℝ) (n : ℕ) (h : ∀ s : Fin 4224, 128 * n ≤ s.val → f s = 0) : upTo f n = ∑ s, f s := by
  unfold upTo
  refine Finset.sum_congr rfl fun s _ => ?_
  by_cases hs : s.val < 128 * n
  · rw [if_pos hs]
  · rw [if_neg hs, h s (by omega)]

/-! ## The written buffers -/

/-- A buffer of one row per column: what it held, and the query block's term in the columns as far as key block `n`. -/
def Good2 (v : View sig .tc .vmem S4224x128 .f32) (f : v.ty.Contents (Elt Ideal)) (φ T : Fin 4224 → Fin 128 → ℝ) (n : ℕ) : Prop :=
  ∀ s d, v.read (Elt Ideal) f (ix2 s d) = ((φ s d + (if s.val < 128 * n then T s d else 0) : ℝ) : EReal)
/-- The same of the buffer of one row per key block. -/
def Good3 (v : View sig .tc .vmem S1x33x128 .f32) (f : v.ty.Contents (Elt Ideal)) (φ T : Fin 4224 → ℝ) (n : ℕ) : Prop :=
  ∀ (z : Fin 1) b j, v.read (Elt Ideal) f (ix3 z b j) = ((φ (colOf b j) + (if b.val < n then T (colOf b j) else 0) : ℝ) : EReal)

section Rows
variable {e : EltTy} (v : View sig .tc .vmem S4224x128 e) (n : Fin 33) {off : Fin 2 → ℕ} (inb : ∀ a, off a + (![128, 128] : Fin 2 → ℕ) a ≤ S4224x128.size a)
  (heq : off = ![128 * n.val, 0])
include heq

theorem read_rows (X : v.ty.Contents (Elt Ideal)) (j d : Fin 128) :
    (View.readAt (Elt Ideal) v (Rect.unit (s := S4224x128) off ![128, 128] inb).toLoadRect X : Vec Ideal S128x128 e) (ix2 j d) = v.read (Elt Ideal) X (ix2 (colOf n j) d) := by
  subst heq
  refine congrArg (v.read (Elt Ideal) X) (funext fun a => Fin.ext ?_)
  fin_cases a
  · show 128 * n.val + 1 * j.val = 128 * n.val + j.val
    omega
  · show 0 + 1 * d.val = d.val
    omega
end Rows

section Rows3
variable {e : EltTy} (v : View sig .tc .vmem S1x33x128 e) (n : Fin 33) {off : Fin 3 → ℕ} (inb : ∀ a, off a + (![1, 1, 128] : Fin 3 → ℕ) a ≤ S1x33x128.size a)
  (heq : off = ![0, n.val, 0])
include heq

theorem read_rows3 (X : v.ty.Contents (Elt Ideal)) (a b : Fin 1) (j : Fin 128) :
    (View.readAt (Elt Ideal) v (Rect.unit (s := S1x33x128) off ![1, 1, 128] inb).toLoadRect X : Vec Ideal S1x1x128 e) (ix3 a b j) = v.read (Elt Ideal) X (ix3 a n j) := by
  subst heq
  refine congrArg (v.read (Elt Ideal) X) (funext fun x => Fin.ext ?_)
  fin_cases x
  · show 0 + 1 * a.val = a.val
    omega
  · show n.val + 1 * b.val = n.val
    omega
  · show 0 + 1 * j.val = j.val
    omega
end Rows3

section Good2
variable (v : View sig .tc .vmem S4224x128 .f32) (f : v.ty.Contents (Elt Ideal)) (φ T : Fin 4224 → Fin 128 → ℝ) (n : Fin 33)
  {off : Fin 2 → ℕ} (inb : ∀ a, off a + (![128, 128] : Fin 2 → ℕ) a ≤ S4224x128.size a) (heq : off = ![128 * n.val, 0])
include heq

/-- A block not yet reached holds what was there. -/
theorem old2 {p : ℕ} (h : Good2 v f φ T p) (hp : p ≤ n.val) (j d : Fin 128) :
    (View.readAt (Elt Ideal) v (Rect.unit (s := S4224x128) off ![128, 128] inb).toLoadRect f : Vec Ideal S128x128 .f32) (ix2 j d) = ((φ (colOf n j) d : ℝ) : EReal) := by
  rw [read_rows v n inb heq, h, if_neg (show ¬ (colOf n j).val < 128 * p from show ¬ 128 * n.val + j.val < 128 * p by omega), add_zero]

/-- One more block written. -/
theorem good2_cons (L : List (View.Piece (Elt Ideal) S4224x128 .f32)) (h : Good2 v (v.writes (Elt Ideal) f L) φ T n.val) (w : Vec Ideal S128x128 .f32)
    (hw : ∀ j d, w (ix2 j d) = ((φ (colOf n j) d + T (colOf n j) d : ℝ) : EReal)) :
    Good2 v (v.writes (Elt Ideal) f (⟨Rect.unit (s := S4224x128) off ![128, 128] inb, w⟩ :: L)) φ T (n.val + 1) := by
  intro s d
  by_cases hs : 128 * n.val ≤ s.val ∧ s.val < 128 * n.val + 128
  · have hc : colOf n ⟨s.val - 128 * n.val, by omega⟩ = s := Fin.ext (show 128 * n.val + (s.val - 128 * n.val) = s.val by omega)
    rw [if_pos (by omega)]
    refine (View.read_writes_cons_unit_of_mem v f inb w L (ix2 s d) (ix2 ⟨s.val - 128 * n.val, by omega⟩ d) heq ?_).trans ?_
    · intro a
      fin_cases a
      · show s.val = 128 * n.val + (s.val - 128 * n.val)
        omega
      · show d.val = 0 + d.val
        omega
    · refine (hw ⟨s.val - 128 * n.val, by omega⟩ d).trans ?_
      rw [hc]
  · refine (View.read_writes_cons_unit_of_not_mem v f inb w L (ix2 s d) heq (0 : Fin 2) ?_).trans ?_
    · show s.val < 128 * n.val ∨ 128 * n.val + 128 ≤ s.val
      omega
    · rw [h s d]
      by_cases h1 : s.val < 128 * n.val
      · rw [if_pos h1, if_pos (by omega)]
      · rw [if_neg h1, if_neg (by omega)]
end Good2

section Good3
variable (v : View sig .tc .vmem S1x33x128 .f32) (f : v.ty.Contents (Elt Ideal)) (φ T : Fin 4224 → ℝ) (n : Fin 33)
  {off : Fin 3 → ℕ} (inb : ∀ a, off a + (![1, 1, 128] : Fin 3 → ℕ) a ≤ S1x33x128.size a) (heq : off = ![0, n.val, 0])
include heq

theorem old3 {p : ℕ} (h : Good3 v f φ T p) (hp : p ≤ n.val) (a b : Fin 1) (j : Fin 128) :
    (View.readAt (Elt Ideal) v (Rect.unit (s := S1x33x128) off ![1, 1, 128] inb).toLoadRect f : Vec Ideal S1x1x128 .f32) (ix3 a b j) = ((φ (colOf n j) : ℝ) : EReal) := by
  rw [read_rows3 v n inb heq, h, if_neg (show ¬ n.val < p by omega), add_zero]

theorem good3_cons (L : List (View.Piece (Elt Ideal) S1x33x128 .f32)) (h : Good3 v (v.writes (Elt Ideal) f L) φ T n.val) (w : Vec Ideal S1x1x128 .f32)
    (hw : ∀ a b j, w (ix3 a b j) = ((φ (colOf n j) + T (colOf n j) : ℝ) : EReal)) :
    Good3 v (v.writes (Elt Ideal) f (⟨Rect.unit (s := S1x33x128) off ![1, 1, 128] inb, w⟩ :: L)) φ T (n.val + 1) := by
  intro z b j
  by_cases hb : b = n
  · subst hb
    rw [if_pos (by omega)]
    refine (View.read_writes_cons_unit_of_mem v f inb w L (ix3 z b j) (ix3 z 0 j) heq ?_).trans (hw z 0 j)
    intro a
    fin_cases a
    · show z.val = 0 + z.val
      omega
    · show b.val = b.val + 0
      omega
    · show j.val = 0 + j.val
      omega
  · have hb' : b.val ≠ n.val := fun e => hb (Fin.ext e)
    refine (View.read_writes_cons_unit_of_not_mem v f inb w L (ix3 z b j) heq (1 : Fin 3) ?_).trans ?_
    · show b.val < n.val ∨ n.val + 1 ≤ b.val
      omega
    · rw [h z b j]
      by_cases h1 : b.val < n.val
      · rw [if_pos h1, if_pos (by omega)]
      · rw [if_neg h1, if_neg (by omega)]
end Good3

/-! ## The carried queries' gradient -/

variable (H : Head) (m : Fin 11)

/-- The queries' gradient as far as key block `n`. -/
def GoodQ (acc : FVec Ideal S384x128 .f32) (n : ℕ) : Prop :=
  ∀ r d, acc (ix2 r d) = ((upTo (fun s => H.dL (rowOf m r) s * H.σ * H.K s d) n : ℝ) : EReal)

/-- One query block's terms of the keys', the values' and the gates' gradients. -/
def TK (s : Fin 4224) (d : Fin 128) : ℝ := ∑ r, H.dL (rowOf m r) s * H.σ * H.Q (rowOf m r) d
def TV (s : Fin 4224) (d : Fin 128) : ℝ := ∑ r, H.P (rowOf m r) s * H.dO (rowOf m r) d
def TC (s : Fin 4224) : ℝ := -∑ r, H.dL (rowOf m r) s

/-- The rows' data of a query block. -/
structure Rows (q : Vec Ideal S384x128 .bf16) (dob : FVec Ideal S384x128 .bf16) (delta cl : FVec Ideal S384x1 .f32) : Prop where
  q : ∀ r d, q (ix2 r d) = ((H.Q (rowOf m r) d : ℝ) : EReal)
  dob : ∀ r d, dob (ix2 r d) = ((H.dO (rowOf m r) d : ℝ) : EReal)
  delta : ∀ r z, delta (ix2 r z) = ((H.δ (rowOf m r) : ℝ) : EReal)
  cl : ∀ r z, cl (ix2 r z) = ((H.C (rowOf m r) - H.lse (rowOf m r) : ℝ) : EReal)

/-- The keys, the values and the gates of the head. -/
structure Cols (v3 v4 : View sig .tc .vmem S4224x128 .bf16) (v7 : View sig .tc .vmem S1x33x128 .f32)
    (X3 : v3.ty.Contents (Elt Ideal)) (X4 : v4.ty.Contents (Elt Ideal)) (X7 : v7.ty.Contents (Elt Ideal)) : Prop where
  σ : H.σ = scale
  k : ∀ s d, v3.read (Elt Ideal) X3 (ix2 s d) = ((H.K s d : ℝ) : EReal)
  v : ∀ s d, v4.read (Elt Ideal) X4 (ix2 s d) = ((H.V s d : ℝ) : EReal)
  c : ∀ z b j, v7.read (Elt Ideal) X7 (ix3 z b j) = ((H.C (colOf b j) : ℝ) : EReal)

/-- One block's weights and cotangent. -/
structure Blk (n : Fin 33) (kb : Vec Ideal S128x128 .bf16) (p ds : FVec Ideal S384x128 .f32) : Prop where
  k : ∀ j d, kb (ix2 j d) = ((H.K (colOf n j) d : ℝ) : EReal)
  p : ∀ r j, p (ix2 r j) = ((H.P (rowOf m r) (colOf n j) : ℝ) : EReal)
  d : ∀ r j, ds (ix2 r j) = ((H.dL (rowOf m r) (colOf n j) : ℝ) : EReal)

variable {H m}

section Block
variable {v3 v4 : View sig .tc .vmem S4224x128 .bf16} {v7 : View sig .tc .vmem S1x33x128 .f32}
    {X3 : v3.ty.Contents (Elt Ideal)} {X4 : v4.ty.Contents (Elt Ideal)} {X7 : v7.ty.Contents (Elt Ideal)}
    {q : Vec Ideal S384x128 .bf16} {dob : FVec Ideal S384x128 .bf16} {delta cl : FVec Ideal S384x1 .f32}
    (hR : Rows H m q dob delta cl) (hX : Cols H v3 v4 v7 X3 X4 X7) (n : Fin 33)
    {off : Fin 2 → ℕ} (inb : ∀ a, off a + (![128, 128] : Fin 2 → ℕ) a ≤ S4224x128.size a) (heq : off = ![128 * n.val, 0])
    {off' : Fin 3 → ℕ} (inb' : ∀ a, off' a + (![1, 1, 128] : Fin 3 → ℕ) a ≤ S1x33x128.size a) (heq' : off' = ![0, n.val, 0])
include hR hX heq heq'

/-- A whole block. -/
theorem blkB (h : n.val < 3 * m.val) :
    Blk H m n (View.readAt (Elt Ideal) v3 (Rect.unit (s := S4224x128) off ![128, 128] inb).toLoadRect X3)
      (pB (lgB q cl (View.readAt (Elt Ideal) v3 (Rect.unit (s := S4224x128) off ![128, 128] inb).toLoadRect X3) (View.readAt (Elt Ideal) v7 (Rect.unit (s := S1x33x128) off' ![1, 1, 128] inb').toLoadRect X7)))
      (dsB (pB (lgB q cl (View.readAt (Elt Ideal) v3 (Rect.unit (s := S4224x128) off ![128, 128] inb).toLoadRect X3) (View.readAt (Elt Ideal) v7 (Rect.unit (s := S1x33x128) off' ![1, 1, 128] inb').toLoadRect X7)))
        dob delta (View.readAt (Elt Ideal) v4 (Rect.unit (s := S4224x128) off ![128, 128] inb).toLoadRect X4)) := by
  have hk : ∀ j d, (View.readAt (Elt Ideal) v3 (Rect.unit (s := S4224x128) off ![128, 128] inb).toLoadRect X3 : Vec Ideal S128x128 .bf16) (ix2 j d) = ((H.K (colOf n j) d : ℝ) : EReal) :=
    fun j d => (read_rows v3 n inb heq X3 j d).trans (hX.k _ _)
  have hv : ∀ j d, (View.readAt (Elt Ideal) v4 (Rect.unit (s := S4224x128) off ![128, 128] inb).toLoadRect X4 : Vec Ideal S128x128 .bf16) (ix2 j d) = ((H.V (colOf n j) d : ℝ) : EReal) :=
    fun j d => (read_rows v4 n inb heq X4 j d).trans (hX.v _ _)
  have hc : ∀ a b j, (View.readAt (Elt Ideal) v7 (Rect.unit (s := S1x33x128) off' ![1, 1, 128] inb').toLoadRect X7 : Vec Ideal S1x1x128 .f32) (ix3 a b j) = ((H.C (colOf n j) : ℝ) : EReal) :=
    fun a b j => (read_rows3 v7 n inb' heq' X7 a b j).trans (hX.c _ _ _)
  have hp := pB_real H (rowOf m) (colOf n) (lgB_real H (rowOf m) (colOf n) hX.σ hR.q hR.cl hk hc) (colOf_le h)
  exact ⟨hk, hp, dsB_real H (rowOf m) (colOf n) hp hR.dob hR.delta hv⟩

/-- A masked block. -/
theorem blkM {mask : IVec S384x128 1} (hm : ∀ r j, mask (ix2 r j) = if colOf n j ≤ rowOf m r then 1#1 else 0#1) :
    Blk H m n (View.readAt (Elt Ideal) v3 (Rect.unit (s := S4224x128) off ![128, 128] inb).toLoadRect X3)
      (pM mask (lgB q cl (View.readAt (Elt Ideal) v3 (Rect.unit (s := S4224x128) off ![128, 128] inb).toLoadRect X3) (View.readAt (Elt Ideal) v7 (Rect.unit (s := S1x33x128) off' ![1, 1, 128] inb').toLoadRect X7)))
      (dsB (pM mask (lgB q cl (View.readAt (Elt Ideal) v3 (Rect.unit (s := S4224x128) off ![128, 128] inb).toLoadRect X3) (View.readAt (Elt Ideal) v7 (Rect.unit (s := S1x33x128) off' ![1, 1, 128] inb').toLoadRect X7)))
        dob delta (View.readAt (Elt Ideal) v4 (Rect.unit (s := S4224x128) off ![128, 128] inb).toLoadRect X4)) := by
  have hk : ∀ j d, (View.readAt (Elt Ideal) v3 (Rect.unit (s := S4224x128) off ![128, 128] inb).toLoadRect X3 : Vec Ideal S128x128 .bf16) (ix2 j d) = ((H.K (colOf n j) d : ℝ) : EReal) :=
    fun j d => (read_rows v3 n inb heq X3 j d).trans (hX.k _ _)
  have hv : ∀ j d, (View.readAt (Elt Ideal) v4 (Rect.unit (s := S4224x128) off ![128, 128] inb).toLoadRect X4 : Vec Ideal S128x128 .bf16) (ix2 j d) = ((H.V (colOf n j) d : ℝ) : EReal) :=
    fun j d => (read_rows v4 n inb heq X4 j d).trans (hX.v _ _)
  have hc : ∀ a b j, (View.readAt (Elt Ideal) v7 (Rect.unit (s := S1x33x128) off' ![1, 1, 128] inb').toLoadRect X7 : Vec Ideal S1x1x128 .f32) (ix3 a b j) = ((H.C (colOf n j) : ℝ) : EReal) :=
    fun a b j => (read_rows3 v7 n inb' heq' X7 a b j).trans (hX.c _ _ _)
  have hp := pM_real H (rowOf m) (colOf n) (lgB_real H (rowOf m) (colOf n) hX.σ hR.q hR.cl hk hc) hm
  exact ⟨hk, hp, dsB_real H (rowOf m) (colOf n) hp hR.dob hR.delta hv⟩
end Block

variable {n : Fin 33} {kb : Vec Ideal S128x128 .bf16} {p ds : FVec Ideal S384x128 .f32} (hB : Blk H m n kb p ds) (hσ : H.σ = scale)
include hB

theorem goodQ_step {acc : FVec Ideal S384x128 .f32} (hσ : H.σ = scale) (h : GoodQ H m acc n.val) : GoodQ H m (dqB acc (dsbB ds) kb) (n.val + 1) := by
  intro r d
  refine (dqB_real H (rowOf m) (colOf n) _ h (dsbB_real H (rowOf m) (colOf n) hσ hB.d) hB.k r d).trans ?_
  rw [upTo_succ]

section Writes2
variable {v : View sig .tc .vmem S4224x128 .f32} {f f0 : v.ty.Contents (Elt Ideal)} {φ : Fin 4224 → Fin 128 → ℝ}
  {off : Fin 2 → ℕ} {inb : ∀ a, off a + (![128, 128] : Fin 2 → ℕ) a ≤ S4224x128.size a} (heq : off = ![128 * n.val, 0])
  {L : List (View.Piece (Elt Ideal) S4224x128 .f32)} {p0 : ℕ} (hp : p0 ≤ n.val)
include heq hp

theorem goodK_step {q : Vec Ideal S384x128 .bf16} (hσ : H.σ = scale) (hq : ∀ r d, q (ix2 r d) = ((H.Q (rowOf m r) d : ℝ) : EReal))
    (h0 : Good2 v f0 φ (TK H m) p0) (h : Good2 v (v.writes (Elt Ideal) f L) φ (TK H m) n.val) :
    Good2 v (v.writes (Elt Ideal) f (⟨Rect.unit (s := S4224x128) off ![128, 128] inb, dkB q (dsbB ds) (View.readAt (Elt Ideal) v (Rect.unit (s := S4224x128) off ![128, 128] inb).toLoadRect f0)⟩ :: L)) φ (TK H m) (n.val + 1) :=
  good2_cons v f φ (TK H m) n inb heq L h _
    (dkB_real H (rowOf m) (colOf n) (fun j d => φ (colOf n j) d) (old2 v f0 φ (TK H m) n inb heq h0 hp) hq (dsbB_real H (rowOf m) (colOf n) hσ hB.d))

theorem goodV_step {dob : FVec Ideal S384x128 .bf16} (hdo : ∀ r d, dob (ix2 r d) = ((H.dO (rowOf m r) d : ℝ) : EReal))
    (h0 : Good2 v f0 φ (TV H m) p0) (h : Good2 v (v.writes (Elt Ideal) f L) φ (TV H m) n.val) :
    Good2 v (v.writes (Elt Ideal) f (⟨Rect.unit (s := S4224x128) off ![128, 128] inb, dvB dob p (View.readAt (Elt Ideal) v (Rect.unit (s := S4224x128) off ![128, 128] inb).toLoadRect f0)⟩ :: L)) φ (TV H m) (n.val + 1) :=
  good2_cons v f φ (TV H m) n inb heq L h _
    (dvB_real H (rowOf m) (colOf n) (fun j d => φ (colOf n j) d) (old2 v f0 φ (TV H m) n inb heq h0 hp) hdo hB.p)
end Writes2

theorem goodC_step {v : View sig .tc .vmem S1x33x128 .f32} {f f0 : v.ty.Contents (Elt Ideal)} {φ : Fin 4224 → ℝ}
    {off : Fin 3 → ℕ} {inb : ∀ a, off a + (![1, 1, 128] : Fin 3 → ℕ) a ≤ S1x33x128.size a} (heq : off = ![0, n.val, 0])
    {L : List (View.Piece (Elt Ideal) S1x33x128 .f32)} {p0 : ℕ} (hp : p0 ≤ n.val)
    (h0 : Good3 v f0 φ (TC H m) p0) (h : Good3 v (v.writes (Elt Ideal) f L) φ (TC H m) n.val) :
    Good3 v (v.writes (Elt Ideal) f (⟨Rect.unit (s := S1x33x128) off ![1, 1, 128] inb, dcB ds (View.readAt (Elt Ideal) v (Rect.unit (s := S1x33x128) off ![1, 1, 128] inb).toLoadRect f0)⟩ :: L)) φ (TC H m) (n.val + 1) :=
  good3_cons v f φ (TC H m) n inb heq L h _
    (dcB_real H (rowOf m) (colOf n) (fun j => φ (colOf n j)) (old3 v f0 φ (TC H m) n inb heq h0 hp) hB.d)

end Cert.KernelIdeal.Fox

end
-- ==== Proof.Trips.lean ====
/-
  The loops over the key blocks below the diagonal: each trip extends the sums by its blocks.
-/
module

public import proofs.«01_k».proof.Proof.TermsA

public import proofs.«01_k».proof.Proof.TermsB
public import proofs.«01_k».proof.Proof.Parts

@[expose] public section

set_option maxRecDepth 16384
set_option maxHeartbeats 1600000

noncomputable section

namespace Cert.KernelIdeal.Fox

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The key block that the trip takes as its block `b`. -/
def n_t1 (i : grid0.Coords) (k : Fin (k0_t1_loop i).trips) (b : Fin 6) : Fin 33 :=
  ⟨6 * k.val + b.val, by have := k.isLt.trans_eq (t1_trips i); have : (i 1).val < 11 := (i 1).isLt; have := b.isLt; omega⟩

/-- The key block that the trip takes as its block `b`. -/
def n_t3 (i : grid0.Coords) (k : Fin (k0_t3_loop i).trips) (b : Fin 3) : Fin 33 :=
  ⟨6 * ((i 1).val / 2) + b.val, by have := k.isLt.trans_eq (t3_trips i); have : (i 1).val < 11 := (i 1).isLt; have := b.isLt; omega⟩

variable (H : Head) (m : Fin 11)

/-- What the loops carry: the queries' gradient and the three buffers, as far as key block `n`. -/
structure St (v15 : View sig .tc .vmem S1x33x128 .f32) (v16 v17 : View sig .tc .vmem S4224x128 .f32)
    (s : FVec Ideal S384x128 .f32 × v15.ty.Contents (Elt Ideal) × v16.ty.Contents (Elt Ideal) × v17.ty.Contents (Elt Ideal))
    (φC : Fin 4224 → ℝ) (φK φV : Fin 4224 → Fin 128 → ℝ) (n : ℕ) : Prop where
  q : GoodQ H m s.1 n
  c : Good3 v15 s.2.1 φC (TC H m) n
  k : Good2 v16 s.2.2.1 φK (TK H m) n
  v : Good2 v17 s.2.2.2 φV (TV H m) n

variable {H m}
variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole) (arg1 : BitVec 32) (v3 : Vec Ideal S384x128 .bf16) (v40 : FVec Ideal S384x128 .bf16) (v44 : FVec Ideal S384x1 .f32) (v49 : FVec Ideal S384x1 .f32) (v61 : FVec Ideal S384x128 .f32) (v62 : BitVec 32) (v73 : BitVec 1) (v75 : BitVec 1)
  (X3 : Buf (Elt Ideal) (arg3.view.loc (c : Thread nD τ))) (X4 : Buf (Elt Ideal) (arg4.view.loc (c : Thread nD τ))) (X7 : Buf (Elt Ideal) (arg7.view.loc (c : Thread nD τ))) (acc : FVec Ideal S384x128 .f32) (f15 : Buf (Elt Ideal) (arg15.view.loc (c : Thread nD τ))) (f16 : Buf (Elt Ideal) (arg16.view.loc (c : Thread nD τ))) (f17 : Buf (Elt Ideal) (arg17.view.loc (c : Thread nD τ)))
  (φC : Fin 4224 → ℝ) (φK φV : Fin 4224 → Fin 128 → ℝ)
  (hi : (i 1).val = m.val) (hR : Rows H m v3 v40 v44 v49) (hX : Cols H arg3.view arg4.view arg7.view X3 X4 X7)

include hi hR hX in
theorem blk_t1 (k : Fin (k0_t1_loop i).trips) (b : Fin 6) :
    Blk H m (n_t1 i k b) (K_t1 c i arg3 X3 k b) (P_t1 c i arg3 arg7 v3 v49 X3 X7 k b) (D_t1 c i arg3 arg4 arg7 v3 v40 v44 v49 X3 X4 X7 k b) :=
  blkB hR hX (n_t1 i k b) (inb1 i k b) (by rw [off1_eq]; show ![768 * k.val + 128 * b.val, 0] = ![128 * (6 * k.val + b.val), 0]; congr 1; omega)
    (inb2 i k b) (by rw [off2_eq]; rfl)
    (by show 6 * k.val + b.val < 3 * m.val; have := k.isLt.trans_eq (t1_trips i); have := b.isLt; omega)

include hi hR hX in
/-- One trip. -/
theorem real_t1 (k : Fin (k0_t1_loop i).trips) (h : St H m arg15.view arg16.view arg17.view (acc, f15, f16, f17) φC φK φV (6 * k.val)) :
    St H m arg15.view arg16.view arg17.view ((trip_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).1 acc f15 f16 f17, arg15.view.writes (Elt Ideal) f15 ((trip_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.1 acc f15 f16 f17),
      arg16.view.writes (Elt Ideal) f16 ((trip_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.1 acc f15 f16 f17), arg17.view.writes (Elt Ideal) f17 ((trip_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.1 acc f15 f16 f17)) φC φK φV (6 * k.val + 6) := by
  have hB := blk_t1 (H := H) (m := m) c i arg3 arg4 arg7 v3 v40 v44 v49 X3 X4 X7 hi hR hX k
  have e2 : ∀ b : Fin 6, k0_off1 i k (BitVec.ofNat 32 b.val) = ![128 * (n_t1 i k b).val, 0] := fun b => by
    rw [off1_eq]; show ![768 * k.val + 128 * b.val, 0] = ![128 * (6 * k.val + b.val), 0]; congr 1; omega
  have e3 : ∀ b : Fin 6, k0_off2 i k (BitVec.ofNat 32 b.val) = ![0, (n_t1 i k b).val, 0] := fun b => by
    rw [off2_eq]; rfl
  have hn : ∀ b : Fin 6, 6 * k.val ≤ (n_t1 i k b).val := fun b => Nat.le_add_right _ _
  rw [dq_t1, dc_t1, dk_t1, dv_t1]
  refine ⟨?_, ?_, ?_, ?_⟩
  · exact goodQ_step (hB 5) hX.σ (goodQ_step (hB 4) hX.σ (goodQ_step (hB 3) hX.σ (goodQ_step (hB 2) hX.σ (goodQ_step (hB 1) hX.σ (goodQ_step (hB 0) hX.σ (h.q))))))
  · exact goodC_step (hB 5) (e3 5) (hn 5) h.c (goodC_step (hB 4) (e3 4) (hn 4) h.c (goodC_step (hB 3) (e3 3) (hn 3) h.c (goodC_step (hB 2) (e3 2) (hn 2) h.c (goodC_step (hB 1) (e3 1) (hn 1) h.c (goodC_step (hB 0) (e3 0) (hn 0) h.c (h.c))))))
  · exact goodK_step (hB 5) (e2 5) (hn 5) hX.σ hR.q h.k (goodK_step (hB 4) (e2 4) (hn 4) hX.σ hR.q h.k (goodK_step (hB 3) (e2 3) (hn 3) hX.σ hR.q h.k (goodK_step (hB 2) (e2 2) (hn 2) hX.σ hR.q h.k (goodK_step (hB 1) (e2 1) (hn 1) hX.σ hR.q h.k (goodK_step (hB 0) (e2 0) (hn 0) hX.σ hR.q h.k (h.k))))))
  · exact goodV_step (hB 5) (e2 5) (hn 5) hR.dob h.v (goodV_step (hB 4) (e2 4) (hn 4) hR.dob h.v (goodV_step (hB 3) (e2 3) (hn 3) hR.dob h.v (goodV_step (hB 2) (e2 2) (hn 2) hR.dob h.v (goodV_step (hB 1) (e2 1) (hn 1) hR.dob h.v (goodV_step (hB 0) (e2 0) (hn 0) hR.dob h.v (h.v))))))

include hi hR hX in
theorem blk_t3 (k : Fin (k0_t3_loop i).trips) (b : Fin 3) :
    Blk H m (n_t3 i k b) (K_t3 c i arg3 X3 k b) (P_t3 c i arg3 arg7 v3 v49 X3 X7 k b) (D_t3 c i arg3 arg4 arg7 v3 v40 v44 v49 X3 X4 X7 k b) :=
  blkB hR hX (n_t3 i k b) (inb5 i k b) (by rw [off5_eq]; show ![768 * ((i 1).val / 2) + 128 * b.val, 0] = ![128 * (6 * ((i 1).val / 2) + b.val), 0]; congr 1; omega)
    (inb6 i k b) (by rw [off6_eq]; rfl)
    (by show 6 * ((i 1).val / 2) + b.val < 3 * m.val; have := k.isLt.trans_eq (t3_trips i); have := b.isLt; omega)

include hi hR hX in
/-- One trip. -/
theorem real_t3 (k : Fin (k0_t3_loop i).trips) (h : St H m arg15.view arg16.view arg17.view (acc, f15, f16, f17) φC φK φV (6 * ((i 1).val / 2))) :
    St H m arg15.view arg16.view arg17.view ((trip_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).1 acc f15 f16 f17, arg15.view.writes (Elt Ideal) f15 ((trip_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.1 acc f15 f16 f17),
      arg16.view.writes (Elt Ideal) f16 ((trip_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.1 acc f15 f16 f17), arg17.view.writes (Elt Ideal) f17 ((trip_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 k).2.2.2.1 acc f15 f16 f17)) φC φK φV (6 * ((i 1).val / 2) + 3) := by
  have hB := blk_t3 (H := H) (m := m) c i arg3 arg4 arg7 v3 v40 v44 v49 X3 X4 X7 hi hR hX k
  have e2 : ∀ b : Fin 3, k0_off5 i (BitVec.ofNat 32 b.val) = ![128 * (n_t3 i k b).val, 0] := fun b => by
    rw [off5_eq]; show ![768 * ((i 1).val / 2) + 128 * b.val, 0] = ![128 * (6 * ((i 1).val / 2) + b.val), 0]; congr 1; omega
  have e3 : ∀ b : Fin 3, k0_off6 i (BitVec.ofNat 32 b.val) = ![0, (n_t3 i k b).val, 0] := fun b => by
    rw [off6_eq]; rfl
  have hn : ∀ b : Fin 3, 6 * ((i 1).val / 2) ≤ (n_t3 i k b).val := fun b => Nat.le_add_right _ _
  rw [dq_t3, dc_t3, dk_t3, dv_t3]
  refine ⟨?_, ?_, ?_, ?_⟩
  · exact goodQ_step (hB 2) hX.σ (goodQ_step (hB 1) hX.σ (goodQ_step (hB 0) hX.σ (h.q)))
  · exact goodC_step (hB 2) (e3 2) (hn 2) h.c (goodC_step (hB 1) (e3 1) (hn 1) h.c (goodC_step (hB 0) (e3 0) (hn 0) h.c (h.c)))
  · exact goodK_step (hB 2) (e2 2) (hn 2) hX.σ hR.q h.k (goodK_step (hB 1) (e2 1) (hn 1) hX.σ hR.q h.k (goodK_step (hB 0) (e2 0) (hn 0) hX.σ hR.q h.k (h.k)))
  · exact goodV_step (hB 2) (e2 2) (hn 2) hR.dob h.v (goodV_step (hB 1) (e2 1) (hn 1) hR.dob h.v (goodV_step (hB 0) (e2 0) (hn 0) hR.dob h.v (h.v)))

include hi hR hX in
/-- All trips of the loop. -/
theorem out_t1_real (s : FVec Ideal S384x128 .f32 × Buf (Elt Ideal) (arg15.view.loc (c : Thread nD τ)) × Buf (Elt Ideal) (arg16.view.loc (c : Thread nD τ)) × Buf (Elt Ideal) (arg17.view.loc (c : Thread nD τ))) (h : St H m arg15.view arg16.view arg17.view s φC φK φV (0)) :
    St H m arg15.view arg16.view arg17.view (out_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s) φC φK φV (6 * ((i 1).val / 2)) := by
  have key : ∀ k : ℕ, k ≤ (k0_t1_loop i).trips →
      St H m arg15.view arg16.view arg17.view (st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k) φC φK φV (6 * k) := by
    intro k
    induction k with
    | zero => intro _; exact h
    | succ k ih =>
      intro hk
      have ih' := ih (by omega)
      have e := st_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s ⟨k, hk⟩
      have e' : st_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k + 1) = _ := e
      rw [e']

      exact real_t1 (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 _ _ _ _ φC φK φV hi hR hX ⟨k, hk⟩ ih'
  have e : 6 * (k0_t1_loop i).trips = 6 * ((i 1).val / 2) := by rw [t1_trips]
  rw [out_t1_eq, ← e]
  exact key _ le_rfl

include hi hR hX in
/-- All trips of the loop. -/
theorem out_t3_real (s : FVec Ideal S384x128 .f32 × Buf (Elt Ideal) (arg15.view.loc (c : Thread nD τ)) × Buf (Elt Ideal) (arg16.view.loc (c : Thread nD τ)) × Buf (Elt Ideal) (arg17.view.loc (c : Thread nD τ))) (h : St H m arg15.view arg16.view arg17.view s φC φK φV (6 * ((i 1).val / 2))) :
    St H m arg15.view arg16.view arg17.view (out_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s) φC φK φV (3 * (i 1).val) := by
  have key : ∀ k : ℕ, k ≤ (k0_t3_loop i).trips →
      St H m arg15.view arg16.view arg17.view (st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s k) φC φK φV (6 * ((i 1).val / 2) + 3 * k) := by
    intro k
    induction k with
    | zero => intro _; exact h
    | succ k ih =>
      intro hk
      have ih' := ih (by omega)
      have e := st_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s ⟨k, hk⟩
      have e' : st_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 s (k + 1) = _ := e
      rw [e']
      have hk0 : k = 0 := by have := t3_trips i; omega
      subst hk0
      exact real_t3 (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v40 v44 v49 v61 v62 v73 v75 X3 X4 X7 _ _ _ _ φC φK φV hi hR hX ⟨0, hk⟩ ih'
  have e : 6 * ((i 1).val / 2) + 3 * (k0_t3_loop i).trips = 3 * (i 1).val := by rw [t3_trips]; omega
  rw [out_t3_eq, ← e]
  exact key _ le_rfl

end Cert.KernelIdeal.Fox

end
-- ==== Proof.PointReal.lean ====
/-
  A point over the reals: its rows' data, the loops and the diagonal.
-/
module

public import proofs.«01_k».proof.Proof.PointBase

public import proofs.«01_k».proof.Proof.Trips

@[expose] public section

set_option maxRecDepth 16384
set_option maxHeartbeats 1600000

noncomputable section

namespace Cert.KernelIdeal.Fox

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Whole
variable {sh : Shape} {e : EltTy} (v : View sig .tc .vmem sh e) {off : Fin sh.rank → ℕ} (inb : ∀ a, off a + sh.size a ≤ sh.size a) (h : ∀ a, off a = 0)
include h

/-- A load of the whole reads what is there. -/
theorem read_all (X : v.ty.Contents (Elt Ideal)) (x : sh.Idx) :
    (View.readAt (Elt Ideal) v (Rect.unit off sh.size inb).toLoadRect X : Vec Ideal sh e) x = v.read (Elt Ideal) X x := by
  refine congrArg (v.read (Elt Ideal) X) (funext fun a => Fin.ext ?_)
  show off a + 1 * (x a).val = (x a).val
  rw [h a]
  omega
/-- After a store of the whole its payload is there. -/
theorem written_all (f : v.ty.Contents (Elt Ideal)) (w : Vec Ideal sh e) (L : List (View.Piece (Elt Ideal) sh e)) (x : sh.Idx) :
    v.read (Elt Ideal) (v.writes (Elt Ideal) f (⟨Rect.unit off sh.size inb, w⟩ :: L)) x = w x :=
  View.read_writes_cons_unit_of_mem v f inb w L x x rfl fun a => by rw [h a]; omega
end Whole

/-- Diagonal block `b`'s key block. -/
def n_d (m : Fin 11) (b : Fin 3) : Fin 33 := ⟨3 * m.val + b.val, by have := m.isLt; have := b.isLt; omega⟩

variable (H : Head) (m : Fin 11)

/-- One query block's terms of the gain's gradient. -/
def TG (d : Fin 128) : ℝ := ∑ r, H.D (rowOf m r) d * (H.O (rowOf m r) d * H.R (rowOf m r))

/-- A point's input blocks hold its head's data, in its query block's rows. -/
structure Data (Y2 : Vec Ideal S384x128 .bf16) (Y3 : Vec Ideal S4224x128 .bf16) (Y4 : Vec Ideal S4224x128 .bf16) (Y5 : Vec Ideal S1x1x128 .f32) (Y6 : Vec Ideal S1x384x1 .f32) (Y7 : Vec Ideal S1x33x128 .f32) (Y8 : Vec Ideal S384x128 .f32) (Y9 : Vec Ideal S384x128 .f32) (Y10 : Vec Ideal S1x384x1 .f32) : Prop where
  σ : H.σ = scale
  ε : H.ε = eps
  q : ∀ r d, Y2 (ix2 r d) = ((H.Q (rowOf m r) d : ℝ) : EReal)
  k : ∀ s d, Y3 (ix2 s d) = ((H.K s d : ℝ) : EReal)
  v : ∀ s d, Y4 (ix2 s d) = ((H.V s d : ℝ) : EReal)
  g : ∀ a b d, Y5 (ix3 a b d) = ((H.G d : ℝ) : EReal)
  x : ∀ a r z, Y6 (ix3 a r z) = ((H.C (rowOf m r) : ℝ) : EReal)
  c : ∀ z b j, Y7 (ix3 z b j) = ((H.C (colOf b j) : ℝ) : EReal)
  o : ∀ r d, Y8 (ix2 r d) = ((H.O (rowOf m r) d : ℝ) : EReal)
  d : ∀ r d, Y9 (ix2 r d) = ((H.D (rowOf m r) d : ℝ) : EReal)
  l : ∀ a r z, Y10 (ix3 a r z) = ((H.lse (rowOf m r) : ℝ) : EReal)

/-- What a head carries from point to point. -/
structure Carried (s : Vec Ideal S1x1x128 .f32 × Vec Ideal S1x33x128 .f32 × Vec Ideal S4224x128 .f32 × Vec Ideal S4224x128 .f32)
    (φG : Fin 128 → ℝ) (φC : Fin 4224 → ℝ) (φK φV : Fin 4224 → Fin 128 → ℝ) : Prop where
  g : ∀ a b d, s.1 (ix3 a b d) = ((φG d : ℝ) : EReal)
  c : ∀ z b j, s.2.1 (ix3 z b j) = ((φC (colOf b j) : ℝ) : EReal)
  k : ∀ t d, s.2.2.1 (ix2 t d) = ((φK t d : ℝ) : EReal)
  v : ∀ t d, s.2.2.2 (ix2 t d) = ((φV t d : ℝ) : EReal)

variable {H m}
variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (X2 : Buf (Elt Ideal) (arg2.view.loc (c : Thread nD τ))) (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ)))
  (Y2 : Vec Ideal S384x128 .bf16) (Y3 : Vec Ideal S4224x128 .bf16) (Y4 : Vec Ideal S4224x128 .bf16) (Y5 : Vec Ideal S1x1x128 .f32) (Y6 : Vec Ideal S1x384x1 .f32) (Y7 : Vec Ideal S1x33x128 .f32) (Y8 : Vec Ideal S384x128 .f32) (Y9 : Vec Ideal S384x128 .f32) (Y10 : Vec Ideal S1x384x1 .f32)

section Inputs
variable (hD : Data H m Y2 Y3 Y4 Y5 Y6 Y7 Y8 Y9 Y10)
include hD

theorem oP_real (r : Fin 384) (d : Fin 128) : oP c arg8 (harg8.unread Y8) (ix2 r d) = ((H.O (rowOf m r) d : ℝ) : EReal) := by
  refine (read_all arg8.view inb_S384x128_S384x128_0_0 (by decide) _ (ix2 r d)).trans ?_
  rw [harg8.read_unread]; exact hD.o r d
theorem dP_real (r : Fin 384) (d : Fin 128) : dP c arg9 (harg9.unread Y9) (ix2 r d) = ((H.D (rowOf m r) d : ℝ) : EReal) := by
  refine (read_all arg9.view inb_S384x128_S384x128_0_0 (by decide) _ (ix2 r d)).trans ?_
  rw [harg9.read_unread]; exact hD.d r d
theorem doP_real (r : Fin 384) (d : Fin 128) : doP c arg5 arg8 arg9 (harg5.unread Y5) (harg8.unread Y8) (harg9.unread Y9) (ix2 r d) = ((H.dO (rowOf m r) d : ℝ) : EReal) := by
  refine pay166_real H (rowOf m) hD.ε (oP_real (H := H) (m := m) c arg8 harg8 Y2 Y3 Y4 Y5 Y6 Y7 Y8 Y9 Y10 hD) (fun a b d => ?_) (dP_real (H := H) (m := m) c arg9 harg9 Y2 Y3 Y4 Y5 Y6 Y7 Y8 Y9 Y10 hD) r d
  refine (read_all arg5.view inb_S1x1x128_S1x1x128_0_0_0 (by decide) _ (ix3 a b d)).trans ?_
  rw [harg5.read_unread]; exact hD.g a b d

/-- The rows' data that the loops read. -/
theorem rows_real : Rows H m (qP c arg2 (harg2.unread Y2)) (dobP c arg5 arg8 arg9 (harg5.unread Y5) (harg8.unread Y8) (harg9.unread Y9))
    (deltaP c arg5 arg8 arg9 (harg5.unread Y5) (harg8.unread Y8) (harg9.unread Y9)) (clP c arg6 arg10 (harg6.unread Y6) (harg10.unread Y10)) := by
  refine ⟨fun r d => ?_, fun r d => ?_, fun r z => ?_, fun r z => ?_⟩
  · refine (read_all arg2.view inb_S384x128_S384x128_0_0 (by decide) _ (ix2 r d)).trans ?_
    rw [harg2.read_unread]; exact hD.q r d
  · exact doP_real (H := H) (m := m) c arg5 harg5 arg8 harg8 arg9 harg9 Y2 Y3 Y4 Y5 Y6 Y7 Y8 Y9 Y10 hD r d
  · exact pay170_real H (rowOf m) (oP_real (H := H) (m := m) c arg8 harg8 Y2 Y3 Y4 Y5 Y6 Y7 Y8 Y9 Y10 hD) (doP_real (H := H) (m := m) c arg5 harg5 arg8 harg8 arg9 harg9 Y2 Y3 Y4 Y5 Y6 Y7 Y8 Y9 Y10 hD) r z
  · refine pay171_real H (rowOf m) (fun a r z => ?_) (fun a r z => ?_) r z
    · refine (read_all arg6.view inb_S1x384x1_S1x384x1_0_0_0 (by decide) _ (ix3 a r z)).trans ?_
      rw [harg6.read_unread]; exact hD.x a r z
    · refine (read_all arg10.view inb_S1x384x1_S1x384x1_0_0_0 (by decide) _ (ix3 a r z)).trans ?_
      rw [harg10.read_unread]; exact hD.l a r z

/-- The keys, the values and the gates. -/
theorem cols_real : Cols H arg3.view arg4.view arg7.view (harg3.unread Y3) (harg4.unread Y4) (harg7.unread Y7) := by
  refine ⟨hD.σ, fun s d => ?_, fun s d => ?_, fun z b j => ?_⟩
  · rw [harg3.read_unread]; exact hD.k s d
  · rw [harg4.read_unread]; exact hD.v s d
  · rw [harg7.read_unread]; exact hD.c z b j
end Inputs

variable (φC : Fin 4224 → ℝ) (φK φV : Fin 4224 → Fin 128 → ℝ) (hi : (i 1).val = m.val)
  (hR : Rows H m (qP c arg2 X2) (dobP c arg5 arg8 arg9 X5 X8 X9) (deltaP c arg5 arg8 arg9 X5 X8 X9) (clP c arg6 arg10 X6 X10))
  (hX : Cols H arg3.view arg4.view arg7.view X3 X4 X7)

include hi hR hX in
/-- After both loops. -/
theorem afterB_real (v62 : BitVec 32) (v73 : BitVec 1) (v75 : BitVec 1) (f15 : Buf (Elt Ideal) (arg15.view.loc (c : Thread nD τ))) (f16 : Buf (Elt Ideal) (arg16.view.loc (c : Thread nD τ))) (f17 : Buf (Elt Ideal) (arg17.view.loc (c : Thread nD τ)))
    (h15 : ∀ (z : Fin 1) b j, arg15.view.read (Elt Ideal) f15 (ix3 z b j) = ((φC (colOf b j) : ℝ) : EReal))
    (h16 : ∀ s d, arg16.view.read (Elt Ideal) f16 (ix2 s d) = ((φK s d : ℝ) : EReal)) (h17 : ∀ s d, arg17.view.read (Elt Ideal) f17 (ix2 s d) = ((φV s d : ℝ) : EReal)) :
    St H m arg15.view arg16.view arg17.view (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 v62 v73 v75 f15 f16 f17) φC φK φV (3 * (i 1).val) := by
  rw [afterB_eq, afterA_eq]
  refine out_t3_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ X3 X4 X7 φC φK φV hi hR hX _ ?_
  refine out_t1_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ X3 X4 X7 φC φK φV hi hR hX _ ?_
  refine ⟨fun r d => ?_, fun z b j => ?_, fun s d => ?_, fun s d => ?_⟩
  · rw [upTo_zero]; exact pay175_real r d
  · rw [if_neg (Nat.not_lt_zero _), add_zero]; exact h15 z b j
  · rw [if_neg (Nat.not_lt_zero _), add_zero]; exact h16 s d
  · rw [if_neg (Nat.not_lt_zero _), add_zero]; exact h17 s d

theorem mask_real (b : Fin 3) (r : Fin 384) (j : Fin 128) : Md b (ix2 r j) = if colOf (n_d m b) j ≤ rowOf m r then 1#1 else 0#1 := by
  have key : ∀ k : ℕ, k = 128 * b.val → (if j.val + k ≤ r.val then 1#1 else 0#1 : BitVec 1) = if colOf (n_d m b) j ≤ rowOf m r then 1#1 else 0#1 := by
    intro k hk
    refine if_congr ?_ rfl rfl
    show _ ↔ 128 * (3 * m.val + b.val) + j.val ≤ 384 * m.val + r.val
    omega
  fin_cases b
  · exact (pay172_real r j).trans (key 0 rfl)
  · exact (pay173_real r j).trans (key 128 rfl)
  · exact (pay174_real r j).trans (key 256 rfl)

include hi in
theorem e9 (b : Fin 3) : k0_off9 i (BitVec.ofNat 32 b.val) = ![128 * (n_d m b).val, 0] := by
  rw [off9_eq, hi]; show ![384 * m.val + 128 * b.val, 0] = ![128 * (3 * m.val + b.val), 0]; congr 1; omega
include hi in
theorem e10 (b : Fin 3) : k0_off10 i (BitVec.ofNat 32 b.val) = ![0, (n_d m b).val, 0] := by
  rw [off10_eq, hi]; rfl

include hi hR hX in
theorem blk_d (b : Fin 3) : Blk H m (n_d m b) (Kd c i arg3 X3 b) (Pd c i arg2 arg3 arg6 arg7 arg10 X2 X3 X6 X7 X10 b) (Dd c i arg2 arg3 arg4 arg5 arg6 arg7 arg8 arg9 arg10 X2 X3 X4 X5 X6 X7 X8 X9 X10 b) :=
  blkM hR hX (n_d m b) (inb9 i b) (e9 i hi b) (inb10 i b) (e10 i hi b) (mask_real b)

include hi hR hX in
/-- After the three blocks of the diagonal. -/
theorem diag_real (s : FVec Ideal S384x128 .f32 × Buf (Elt Ideal) (arg15.view.loc (c : Thread nD τ)) × Buf (Elt Ideal) (arg16.view.loc (c : Thread nD τ)) × Buf (Elt Ideal) (arg17.view.loc (c : Thread nD τ))) (h : St H m arg15.view arg16.view arg17.view s φC φK φV (3 * (i 1).val)) :
    St H m arg15.view arg16.view arg17.view ((dqB (dqB (dqB s.1 (dsbB (Dd c i arg2 arg3 arg4 arg5 arg6 arg7 arg8 arg9 arg10 X2 X3 X4 X5 X6 X7 X8 X9 X10 0)) (Kd c i arg3 X3 0)) (dsbB (Dd c i arg2 arg3 arg4 arg5 arg6 arg7 arg8 arg9 arg10 X2 X3 X4 X5 X6 X7 X8 X9 X10 1)) (Kd c i arg3 X3 1)) (dsbB (Dd c i arg2 arg3 arg4 arg5 arg6 arg7 arg8 arg9 arg10 X2 X3 X4 X5 X6 X7 X8 X9 X10 2)) (Kd c i arg3 X3 2)),
      arg15.view.writes (Elt Ideal) s.2.1 [⟨Rect.unit (s := S1x33x128) (k0_off10 i (BitVec.ofNat 32 (2 : Fin 3).val)) ![1, 1, 128] (inb10 i 2), dcB (Dd c i arg2 arg3 arg4 arg5 arg6 arg7 arg8 arg9 arg10 X2 X3 X4 X5 X6 X7 X8 X9 X10 2) (View.readAt (Elt Ideal) arg15.view (Rect.unit (s := S1x33x128) (k0_off10 i (BitVec.ofNat 32 (2 : Fin 3).val)) ![1, 1, 128] (inb10 i 2)).toLoadRect s.2.1)⟩,
      ⟨Rect.unit (s := S1x33x128) (k0_off10 i (BitVec.ofNat 32 (1 : Fin 3).val)) ![1, 1, 128] (inb10 i 1), dcB (Dd c i arg2 arg3 arg4 arg5 arg6 arg7 arg8 arg9 arg10 X2 X3 X4 X5 X6 X7 X8 X9 X10 1) (View.readAt (Elt Ideal) arg15.view (Rect.unit (s := S1x33x128) (k0_off10 i (BitVec.ofNat 32 (1 : Fin 3).val)) ![1, 1, 128] (inb10 i 1)).toLoadRect s.2.1)⟩,
      ⟨Rect.unit (s := S1x33x128) (k0_off10 i (BitVec.ofNat 32 (0 : Fin 3).val)) ![1, 1, 128] (inb10 i 0), dcB (Dd c i arg2 arg3 arg4 arg5 arg6 arg7 arg8 arg9 arg10 X2 X3 X4 X5 X6 X7 X8 X9 X10 0) (View.readAt (Elt Ideal) arg15.view (Rect.unit (s := S1x33x128) (k0_off10 i (BitVec.ofNat 32 (0 : Fin 3).val)) ![1, 1, 128] (inb10 i 0)).toLoadRect s.2.1)⟩],
      arg16.view.writes (Elt Ideal) s.2.2.1 [⟨Rect.unit (s := S4224x128) (k0_off9 i (BitVec.ofNat 32 (2 : Fin 3).val)) ![128, 128] (inb9 i 2), dkB (qP c arg2 X2) (dsbB (Dd c i arg2 arg3 arg4 arg5 arg6 arg7 arg8 arg9 arg10 X2 X3 X4 X5 X6 X7 X8 X9 X10 2)) (View.readAt (Elt Ideal) arg16.view (Rect.unit (s := S4224x128) (k0_off9 i (BitVec.ofNat 32 (2 : Fin 3).val)) ![128, 128] (inb9 i 2)).toLoadRect s.2.2.1)⟩,
      ⟨Rect.unit (s := S4224x128) (k0_off9 i (BitVec.ofNat 32 (1 : Fin 3).val)) ![128, 128] (inb9 i 1), dkB (qP c arg2 X2) (dsbB (Dd c i arg2 arg3 arg4 arg5 arg6 arg7 arg8 arg9 arg10 X2 X3 X4 X5 X6 X7 X8 X9 X10 1)) (View.readAt (Elt Ideal) arg16.view (Rect.unit (s := S4224x128) (k0_off9 i (BitVec.ofNat 32 (1 : Fin 3).val)) ![128, 128] (inb9 i 1)).toLoadRect s.2.2.1)⟩,
      ⟨Rect.unit (s := S4224x128) (k0_off9 i (BitVec.ofNat 32 (0 : Fin 3).val)) ![128, 128] (inb9 i 0), dkB (qP c arg2 X2) (dsbB (Dd c i arg2 arg3 arg4 arg5 arg6 arg7 arg8 arg9 arg10 X2 X3 X4 X5 X6 X7 X8 X9 X10 0)) (View.readAt (Elt Ideal) arg16.view (Rect.unit (s := S4224x128) (k0_off9 i (BitVec.ofNat 32 (0 : Fin 3).val)) ![128, 128] (inb9 i 0)).toLoadRect s.2.2.1)⟩],
      arg17.view.writes (Elt Ideal) s.2.2.2 [⟨Rect.unit (s := S4224x128) (k0_off9 i (BitVec.ofNat 32 (2 : Fin 3).val)) ![128, 128] (inb9 i 2), dvB (dobP c arg5 arg8 arg9 X5 X8 X9) (Pd c i arg2 arg3 arg6 arg7 arg10 X2 X3 X6 X7 X10 2) (View.readAt (Elt Ideal) arg17.view (Rect.unit (s := S4224x128) (k0_off9 i (BitVec.ofNat 32 (2 : Fin 3).val)) ![128, 128] (inb9 i 2)).toLoadRect s.2.2.2)⟩,
      ⟨Rect.unit (s := S4224x128) (k0_off9 i (BitVec.ofNat 32 (1 : Fin 3).val)) ![128, 128] (inb9 i 1), dvB (dobP c arg5 arg8 arg9 X5 X8 X9) (Pd c i arg2 arg3 arg6 arg7 arg10 X2 X3 X6 X7 X10 1) (View.readAt (Elt Ideal) arg17.view (Rect.unit (s := S4224x128) (k0_off9 i (BitVec.ofNat 32 (1 : Fin 3).val)) ![128, 128] (inb9 i 1)).toLoadRect s.2.2.2)⟩,
      ⟨Rect.unit (s := S4224x128) (k0_off9 i (BitVec.ofNat 32 (0 : Fin 3).val)) ![128, 128] (inb9 i 0), dvB (dobP c arg5 arg8 arg9 X5 X8 X9) (Pd c i arg2 arg3 arg6 arg7 arg10 X2 X3 X6 X7 X10 0) (View.readAt (Elt Ideal) arg17.view (Rect.unit (s := S4224x128) (k0_off9 i (BitVec.ofNat 32 (0 : Fin 3).val)) ![128, 128] (inb9 i 0)).toLoadRect s.2.2.2)⟩]) φC φK φV (3 * m.val + 3) := by
  have hB := blk_d (H := H) (m := m) c i arg2 arg3 arg4 arg5 arg6 arg7 arg8 arg9 arg10 X2 X3 X4 X5 X6 X7 X8 X9 X10 hi hR hX
  have e2 := e9 (m := m) i hi
  have e3 := e10 (m := m) i hi
  rw [hi] at h
  have hn : ∀ b : Fin 3, 3 * m.val ≤ (n_d m b).val := fun b => Nat.le_add_right _ _
  refine ⟨?_, ?_, ?_, ?_⟩
  · exact goodQ_step (hB 2) hX.σ (goodQ_step (hB 1) hX.σ (goodQ_step (hB 0) hX.σ (h.q)))
  · exact goodC_step (hB 2) (e3 2) (hn 2) h.c (goodC_step (hB 1) (e3 1) (hn 1) h.c (goodC_step (hB 0) (e3 0) (hn 0) h.c (h.c)))
  · exact goodK_step (hB 2) (e2 2) (hn 2) hX.σ hR.q h.k (goodK_step (hB 1) (e2 1) (hn 1) hX.σ hR.q h.k (goodK_step (hB 0) (e2 0) (hn 0) hX.σ hR.q h.k (h.k)))
  · exact goodV_step (hB 2) (e2 2) (hn 2) hR.dob h.v (goodV_step (hB 1) (e2 1) (hn 1) hR.dob h.v (goodV_step (hB 0) (e2 0) (hn 0) hR.dob h.v (h.v)))

/-- A column past the diagonal's blocks is above every row's diagonal. -/
theorem past {t : Fin 4224} (ht : ¬ t.val < 128 * (3 * m.val + 3)) (r : Fin 384) : ¬ t ≤ rowOf m r := by
  show ¬ t.val ≤ 384 * m.val + r.val
  have := r.isLt
  omega

section Final
variable {v15 : View sig .tc .vmem S1x33x128 .f32} {v16 v17 : View sig .tc .vmem S4224x128 .f32}
    {s : FVec Ideal S384x128 .f32 × v15.ty.Contents (Elt Ideal) × v16.ty.Contents (Elt Ideal) × v17.ty.Contents (Elt Ideal)} {φC : Fin 4224 → ℝ} {φK φV : Fin 4224 → Fin 128 → ℝ}
    (h : St H m v15 v16 v17 s φC φK φV (3 * m.val + 3))
include h

theorem final_q (r : Fin 384) (d : Fin 128) : s.1 (ix2 r d) = ((H.dQ (rowOf m r) d : ℝ) : EReal) := by
  rw [h.q r d, upTo_whole]
  · rfl
  · intro t ht
    rw [H.dL_zero _ _ (past (by omega) r), zero_mul, zero_mul]

theorem final_c (z : Fin 1) (b : Fin 33) (j : Fin 128) : v15.read (Elt Ideal) s.2.1 (ix3 z b j) = ((φC (colOf b j) + TC H m (colOf b j) : ℝ) : EReal) := by
  rw [h.c z b j]
  by_cases hb : b.val < 3 * m.val + 3
  · rw [if_pos hb]
  · rw [if_neg hb]
    have e : TC H m (colOf b j) = 0 := by
      unfold TC
      rw [Finset.sum_eq_zero fun r _ => H.dL_zero _ _ (past (by show ¬ 128 * b.val + j.val < _; omega) r), neg_zero]
    rw [e]

theorem final_k (t : Fin 4224) (d : Fin 128) : v16.read (Elt Ideal) s.2.2.1 (ix2 t d) = ((φK t d + TK H m t d : ℝ) : EReal) := by
  rw [h.k t d]
  by_cases hb : t.val < 128 * (3 * m.val + 3)
  · rw [if_pos hb]
  · rw [if_neg hb]
    have e : TK H m t d = 0 := Finset.sum_eq_zero fun r _ => by rw [H.dL_zero _ _ (past hb r), zero_mul, zero_mul]
    rw [e]

theorem final_v (t : Fin 4224) (d : Fin 128) : v17.read (Elt Ideal) s.2.2.2 (ix2 t d) = ((φV t d + TV H m t d : ℝ) : EReal) := by
  rw [h.v t d]
  by_cases hb : t.val < 128 * (3 * m.val + 3)
  · rw [if_pos hb]
  · rw [if_neg hb]
    have e : TV H m t d = 0 := Finset.sum_eq_zero fun r _ => by rw [H.P_zero _ _ (past hb r), zero_mul]
    rw [e]
end Final

end Cert.KernelIdeal.Fox

end
-- ==== Proof.Windows.lean ====
/-
  A point's blocks of the input arrays: its head's data, in its query block's rows.
-/
module

public import proofs.«01_k».proof.Proof.KHost
public import proofs.«01_k».proof.Proof.PointReal
public import proofs.«01_k».proof.Proof.Run
public import Idealize.ShloMosaic.Lib.Pipeline.ValueKit.Geometry

@[expose] public section

set_option maxRecDepth 16384

noncomputable section

namespace Cert.KernelIdeal.Fox

open Idealize.ShloMosaic Idealize.ShloMosaic.TcCoe Idealize.SL.Sem Idealize.ShloMosaic.StableHlo
open Cert.KernelIdeal Cert.KernelIdeal.Gen Cert.Model

/-- A point's head and its query block. -/
def eT (t : Fin cfg0.N) : Fin 8 := ⟨t.val / 11, by have h := t.isLt; have e : cfg0.N = 88 := N_0; omega⟩
def mT (t : Fin cfg0.N) : Fin 11 := ⟨t.val % 11, by omega⟩

theorem coord1 : ∀ t : Fin cfg0.N, (grid0.coords t 1).val = t.val % 11 :=
  (by decide +kernel : ∀ t : Fin grid0.N, (grid0.coords t 1).val = t.val % 11)

variable (m : (ℓ : Loc nD τ sig) → Buf (Elt Ideal) ℓ) (c : Dev nD) (A : Arrs)

/-- The arrays the region finds, at finite arguments. -/
structure Found : Prop where
  q : ∀ (a : Fin 4224) (b : Fin 6144), (V m c main_arg0 : FVec Ideal S4224x6144 .bf16) (ix2 a b) = ((A.q a b : ℝ) : EReal)
  g : ∀ (e : Fin 8) (z : Fin 1) (b : Fin 128), (V m c main_v48 : FVec Ideal S8x1x128 .f32) (ix3 e z b) = ((A.g e b : ℝ) : EReal)
  x : ∀ (e : Fin 8) (t : Fin 4224) (z : Fin 1), (V m c main_v49 : FVec Ideal S8x4224x1 .f32) (ix3 e t z) = ((A.c e t : ℝ) : EReal)
  w : ∀ (e : Fin 8) (b : Fin 33) (j : Fin 128), (V m c main_v50 : FVec Ideal S8x33x128 .f32) (ix3 e b j) = ((A.c e (colOf b j) : ℝ) : EReal)
  o : ∀ (t : Fin 4224) (n : Fin 1024), (V m c main_v51 : FVec Ideal S4224x1024 .f32) (ix2 t n) = (((A.head (hd n)).O t (md n) : ℝ) : EReal)
  d : ∀ (t : Fin 4224) (n : Fin 1024), (V m c main_arg3 : FVec Ideal S4224x1024 .f32) (ix2 t n) = ((A.d t n : ℝ) : EReal)
  l : ∀ (e : Fin 8) (t : Fin 4224) (z : Fin 1), (V m c main_v47 : FVec Ideal S8x4224x1 .f32) (ix3 e t z) = (((A.head e).lse t : ℝ) : EReal)

variable {m c A}

/-! ## The windows' block indices -/

theorem ix0 : ∀ t : Fin cfg0.N, win0_0.index t = ![t.val % 11, 24 + t.val / 11] := (by decide +kernel : ∀ t : Fin grid0.N, _)
theorem ix1 : ∀ t : Fin cfg0.N, win0_1.index t = ![0, 32 + t.val / 11] := (by decide +kernel : ∀ t : Fin grid0.N, _)
theorem ix2' : ∀ t : Fin cfg0.N, win0_2.index t = ![0, 40 + t.val / 11] := (by decide +kernel : ∀ t : Fin grid0.N, _)
theorem ix3' : ∀ t : Fin cfg0.N, win0_3.index t = ![t.val / 11, 0, 0] := (by decide +kernel : ∀ t : Fin grid0.N, _)
theorem ix4 : ∀ t : Fin cfg0.N, win0_4.index t = ![t.val / 11, t.val % 11, 0] := (by decide +kernel : ∀ t : Fin grid0.N, _)
theorem ix5 : ∀ t : Fin cfg0.N, win0_5.index t = ![t.val / 11, 0, 0] := (by decide +kernel : ∀ t : Fin grid0.N, _)
theorem ix6 : ∀ t : Fin cfg0.N, win0_6.index t = ![t.val % 11, t.val / 11] := (by decide +kernel : ∀ t : Fin grid0.N, _)
theorem ix7 : ∀ t : Fin cfg0.N, win0_7.index t = ![t.val % 11, t.val / 11] := (by decide +kernel : ∀ t : Fin grid0.N, _)
theorem ix8 : ∀ t : Fin cfg0.N, win0_8.index t = ![t.val / 11, t.val % 11, 0] := (by decide +kernel : ∀ t : Fin grid0.N, _)

theorem colOf_div (b : Fin 33) (j : Fin 128) : (colOf b j).val = 128 * b.val + j.val := rfl

/-! ## A read through a block, of any array -/

section Reads
variable (t : Fin cfg0.N)

theorem rd0 (Z : FVec Ideal S4224x6144 .bf16) (r : Fin 384) (d : Fin 128) :
    (((cfg0.win 0).blk t).view.read (Elt Ideal) (Z : Buf (Elt Ideal) ((c : Thread nD τ).loc main_arg0)) : Vec Ideal S384x128 .bf16) (ix2 r d) = Z (ix2 (rowOf (mT t) r) ⟨3072 + ((eT t).val * 128 + d.val), by have := (eT t).isLt; have := d.isLt; omega⟩) := by
  show Z ((win0_0.blk t).view.emb (ix2 r d)) = _
  refine congrArg Z ?_
  blk_ext [ix0, eT, mT, rowOf]
theorem rd1 (Z : FVec Ideal S4224x6144 .bf16) (r : Fin 4224) (d : Fin 128) :
    (((cfg0.win 1).blk t).view.read (Elt Ideal) (Z : Buf (Elt Ideal) ((c : Thread nD τ).loc main_arg0)) : Vec Ideal S4224x128 .bf16) (ix2 r d) = Z (ix2 r ⟨4096 + ((eT t).val * 128 + d.val), by have := (eT t).isLt; have := d.isLt; omega⟩) := by
  show Z ((win0_1.blk t).view.emb (ix2 r d)) = _
  refine congrArg Z ?_
  blk_ext [ix1, eT, mT, rowOf]
theorem rd2 (Z : FVec Ideal S4224x6144 .bf16) (r : Fin 4224) (d : Fin 128) :
    (((cfg0.win 2).blk t).view.read (Elt Ideal) (Z : Buf (Elt Ideal) ((c : Thread nD τ).loc main_arg0)) : Vec Ideal S4224x128 .bf16) (ix2 r d) = Z (ix2 r ⟨5120 + ((eT t).val * 128 + d.val), by have := (eT t).isLt; have := d.isLt; omega⟩) := by
  show Z ((win0_2.blk t).view.emb (ix2 r d)) = _
  refine congrArg Z ?_
  blk_ext [ix2', eT, mT, rowOf]
theorem rd3 (Z : FVec Ideal S8x1x128 .f32) (a b : Fin 1) (d : Fin 128) :
    (((cfg0.win 3).blk t).view.read (Elt Ideal) (Z : Buf (Elt Ideal) ((c : Thread nD τ).loc main_v48)) : Vec Ideal S1x1x128 .f32) (ix3 a b d) = Z (ix3 (eT t) b d) := by
  show Z ((win0_3.blk t).view.emb (ix3 a b d)) = _
  refine congrArg Z ?_
  blk_ext [ix3', eT, mT, rowOf]
theorem rd4 (Z : FVec Ideal S8x4224x1 .f32) (a : Fin 1) (r : Fin 384) (z : Fin 1) :
    (((cfg0.win 4).blk t).view.read (Elt Ideal) (Z : Buf (Elt Ideal) ((c : Thread nD τ).loc main_v49)) : Vec Ideal S1x384x1 .f32) (ix3 a r z) = Z (ix3 (eT t) (rowOf (mT t) r) z) := by
  show Z ((win0_4.blk t).view.emb (ix3 a r z)) = _
  refine congrArg Z ?_
  blk_ext [ix4, eT, mT, rowOf]
theorem rd5 (Z : FVec Ideal S8x33x128 .f32) (z : Fin 1) (b : Fin 33) (j : Fin 128) :
    (((cfg0.win 5).blk t).view.read (Elt Ideal) (Z : Buf (Elt Ideal) ((c : Thread nD τ).loc main_v50)) : Vec Ideal S1x33x128 .f32) (ix3 z b j) = Z (ix3 (eT t) b j) := by
  show Z ((win0_5.blk t).view.emb (ix3 z b j)) = _
  refine congrArg Z ?_
  blk_ext [ix5, eT, mT, rowOf]
theorem rd6 (Z : FVec Ideal S4224x1024 .f32) (r : Fin 384) (d : Fin 128) :
    (((cfg0.win 6).blk t).view.read (Elt Ideal) (Z : Buf (Elt Ideal) ((c : Thread nD τ).loc main_v51)) : Vec Ideal S384x128 .f32) (ix2 r d) = Z (ix2 (rowOf (mT t) r) ⟨(eT t).val * 128 + d.val, by have := (eT t).isLt; have := d.isLt; omega⟩) := by
  show Z ((win0_6.blk t).view.emb (ix2 r d)) = _
  refine congrArg Z ?_
  blk_ext [ix6, eT, mT, rowOf]
theorem rd7 (Z : FVec Ideal S4224x1024 .f32) (r : Fin 384) (d : Fin 128) :
    (((cfg0.win 7).blk t).view.read (Elt Ideal) (Z : Buf (Elt Ideal) ((c : Thread nD τ).loc main_arg3)) : Vec Ideal S384x128 .f32) (ix2 r d) = Z (ix2 (rowOf (mT t) r) ⟨(eT t).val * 128 + d.val, by have := (eT t).isLt; have := d.isLt; omega⟩) := by
  show Z ((win0_7.blk t).view.emb (ix2 r d)) = _
  refine congrArg Z ?_
  blk_ext [ix7, eT, mT, rowOf]
theorem rd8 (Z : FVec Ideal S8x4224x1 .f32) (a : Fin 1) (r : Fin 384) (z : Fin 1) :
    (((cfg0.win 8).blk t).view.read (Elt Ideal) (Z : Buf (Elt Ideal) ((c : Thread nD τ).loc main_v47)) : Vec Ideal S1x384x1 .f32) (ix3 a r z) = Z (ix3 (eT t) (rowOf (mT t) r) z) := by
  show Z ((win0_8.blk t).view.emb (ix3 a r z)) = _
  refine congrArg Z ?_
  blk_ext [ix8, eT, mT, rowOf]

end Reads

/-! ## The blocks -/

section Blocks
variable (X : Found m c A) (t : Fin cfg0.N)
include X

theorem in_q (r : Fin 384) (d : Fin 128) : (iblk m c 0 t : Vec Ideal S384x128 .bf16) (ix2 r d) = (((A.head (eT t)).Q (rowOf (mT t) r) d : ℝ) : EReal) := by
  exact (rd0 t (V m c main_arg0) r d).trans (X.q _ _)

theorem in_k (r : Fin 4224) (d : Fin 128) : (iblk m c 1 t : Vec Ideal S4224x128 .bf16) (ix2 r d) = (((A.head (eT t)).K r d : ℝ) : EReal) := by
  exact (rd1 t (V m c main_arg0) r d).trans (X.q _ _)

theorem in_v (r : Fin 4224) (d : Fin 128) : (iblk m c 2 t : Vec Ideal S4224x128 .bf16) (ix2 r d) = (((A.head (eT t)).V r d : ℝ) : EReal) := by
  exact (rd2 t (V m c main_arg0) r d).trans (X.q _ _)

theorem in_g (a b : Fin 1) (d : Fin 128) : (iblk m c 3 t : Vec Ideal S1x1x128 .f32) (ix3 a b d) = (((A.head (eT t)).G d : ℝ) : EReal) := by
  exact (rd3 t (V m c main_v48) a b d).trans (X.g _ _ _)

theorem in_x (a : Fin 1) (r : Fin 384) (z : Fin 1) : (iblk m c 4 t : Vec Ideal S1x384x1 .f32) (ix3 a r z) = (((A.head (eT t)).C (rowOf (mT t) r) : ℝ) : EReal) := by
  exact (rd4 t (V m c main_v49) a r z).trans (X.x _ _ _)

theorem in_c (z : Fin 1) (b : Fin 33) (j : Fin 128) : (iblk m c 5 t : Vec Ideal S1x33x128 .f32) (ix3 z b j) = (((A.head (eT t)).C (colOf b j) : ℝ) : EReal) := by
  exact (rd5 t (V m c main_v50) z b j).trans (X.w _ _ _)

theorem in_o (r : Fin 384) (d : Fin 128) : (iblk m c 6 t : Vec Ideal S384x128 .f32) (ix2 r d) = (((A.head (eT t)).O (rowOf (mT t) r) d : ℝ) : EReal) := by
  have hn : (eT t).val * 128 + d.val < 1024 := by have := (eT t).isLt; have := d.isLt; omega
  have e := X.o (rowOf (mT t) r) ⟨(eT t).val * 128 + d.val, hn⟩
  have e1 : hd ⟨(eT t).val * 128 + d.val, hn⟩ = eT t := Fin.ext (by have := d.isLt; show ((eT t).val * 128 + d.val) / 128 = _; omega)
  have e2 : md ⟨(eT t).val * 128 + d.val, hn⟩ = d := Fin.ext (by have := d.isLt; show ((eT t).val * 128 + d.val) % 128 = _; omega)
  rw [e1, e2] at e
  exact (rd6 t (V m c main_v51) r d).trans e

theorem in_d (r : Fin 384) (d : Fin 128) : (iblk m c 7 t : Vec Ideal S384x128 .f32) (ix2 r d) = (((A.head (eT t)).D (rowOf (mT t) r) d : ℝ) : EReal) := by
  exact (rd7 t (V m c main_arg3) r d).trans (X.d _ _)

theorem in_l (a : Fin 1) (r : Fin 384) (z : Fin 1) : (iblk m c 8 t : Vec Ideal S1x384x1 .f32) (ix3 a r z) = (((A.head (eT t)).lse (rowOf (mT t) r) : ℝ) : EReal) := by
  exact (rd8 t (V m c main_v47) a r z).trans (X.l _ _ _)

/-- The point's blocks hold its head's data. -/
theorem data : Data (A.head (eT t)) (mT t) (iblk m c 0 t) (iblk m c 1 t) (iblk m c 2 t) (iblk m c 3 t) (iblk m c 4 t) (iblk m c 5 t) (iblk m c 6 t) (iblk m c 7 t) (iblk m c 8 t) where
  σ := rfl
  ε := rfl
  q := in_q X t
  k := in_k X t
  v := in_v X t
  g := in_g X t
  x := in_x X t
  c := in_c X t
  o := in_o X t
  d := in_d X t
  l := in_l X t

end Blocks

end Cert.KernelIdeal.Fox

end
-- ==== Proof.TermsFirst.lean ====
/-
  What the first query block of a head computes, block by block.
-/
module

public import proofs.«01_k».proof.Proof.PointBase

public import proofs.«01_k».proof.Proof.Body

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))

variable (h1 : first i = 1#1) (h2 : ¬ k0_cond2 i = 1#1)

/-- The queries' gradient block. -/
theorem dq_first : (run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).1  = [⟨Rect.unit (s := S384x128) ![0, 0] S384x128.size inb_S384x128_S384x128_0_0, truncf .bf16 (dqB (dqB (dqB (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).1 (dsbB (Dd c i arg2 arg3 arg4 arg5 arg6 arg7 arg8 arg9 arg10 X2 X3 X4 X5 X6 X7 X8 X9 X10 0)) (Kd c i arg3 X3 0)) (dsbB (Dd c i arg2 arg3 arg4 arg5 arg6 arg7 arg8 arg9 arg10 X2 X3 X4 X5 X6 X7 X8 X9 X10 1)) (Kd c i arg3 X3 1)) (dsbB (Dd c i arg2 arg3 arg4 arg5 arg6 arg7 arg8 arg9 arg10 X2 X3 X4 X5 X6 X7 X8 X9 X10 2)) (Kd c i arg3 X3 2)) bitsLt_bf16_f32⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)
  rw [afterA_eq] at e
  rw [e]
  unfold run_first
  rfl

/-- The gates', the keys' and the values' gradient so far. -/
theorem dc_first : (run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.1  = arg15.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.1 [⟨Rect.unit (s := S1x33x128) (k0_off10 i (BitVec.ofNat 32 (2 : Fin 3).val)) ![1, 1, 128] (inb10 i 2), dcB (Dd c i arg2 arg3 arg4 arg5 arg6 arg7 arg8 arg9 arg10 X2 X3 X4 X5 X6 X7 X8 X9 X10 2) (View.readAt (Elt F) arg15.view (Rect.unit (s := S1x33x128) (k0_off10 i (BitVec.ofNat 32 (2 : Fin 3).val)) ![1, 1, 128] (inb10 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.1)⟩,
      ⟨Rect.unit (s := S1x33x128) (k0_off10 i (BitVec.ofNat 32 (1 : Fin 3).val)) ![1, 1, 128] (inb10 i 1), dcB (Dd c i arg2 arg3 arg4 arg5 arg6 arg7 arg8 arg9 arg10 X2 X3 X4 X5 X6 X7 X8 X9 X10 1) (View.readAt (Elt F) arg15.view (Rect.unit (s := S1x33x128) (k0_off10 i (BitVec.ofNat 32 (1 : Fin 3).val)) ![1, 1, 128] (inb10 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.1)⟩,
      ⟨Rect.unit (s := S1x33x128) (k0_off10 i (BitVec.ofNat 32 (0 : Fin 3).val)) ![1, 1, 128] (inb10 i 0), dcB (Dd c i arg2 arg3 arg4 arg5 arg6 arg7 arg8 arg9 arg10 X2 X3 X4 X5 X6 X7 X8 X9 X10 0) (View.readAt (Elt F) arg15.view (Rect.unit (s := S1x33x128) (k0_off10 i (BitVec.ofNat 32 (0 : Fin 3).val)) ![1, 1, 128] (inb10 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.1)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)
  rw [afterA_eq] at e
  rw [e]
  unfold run_first
  rfl

theorem dk_first : (run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.1  = arg16.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.1 [⟨Rect.unit (s := S4224x128) (k0_off9 i (BitVec.ofNat 32 (2 : Fin 3).val)) ![128, 128] (inb9 i 2), dkB (qP c arg2 X2) (dsbB (Dd c i arg2 arg3 arg4 arg5 arg6 arg7 arg8 arg9 arg10 X2 X3 X4 X5 X6 X7 X8 X9 X10 2)) (View.readAt (Elt F) arg16.view (Rect.unit (s := S4224x128) (k0_off9 i (BitVec.ofNat 32 (2 : Fin 3).val)) ![128, 128] (inb9 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.1)⟩,
      ⟨Rect.unit (s := S4224x128) (k0_off9 i (BitVec.ofNat 32 (1 : Fin 3).val)) ![128, 128] (inb9 i 1), dkB (qP c arg2 X2) (dsbB (Dd c i arg2 arg3 arg4 arg5 arg6 arg7 arg8 arg9 arg10 X2 X3 X4 X5 X6 X7 X8 X9 X10 1)) (View.readAt (Elt F) arg16.view (Rect.unit (s := S4224x128) (k0_off9 i (BitVec.ofNat 32 (1 : Fin 3).val)) ![128, 128] (inb9 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.1)⟩,
      ⟨Rect.unit (s := S4224x128) (k0_off9 i (BitVec.ofNat 32 (0 : Fin 3).val)) ![128, 128] (inb9 i 0), dkB (qP c arg2 X2) (dsbB (Dd c i arg2 arg3 arg4 arg5 arg6 arg7 arg8 arg9 arg10 X2 X3 X4 X5 X6 X7 X8 X9 X10 0)) (View.readAt (Elt F) arg16.view (Rect.unit (s := S4224x128) (k0_off9 i (BitVec.ofNat 32 (0 : Fin 3).val)) ![128, 128] (inb9 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.1)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)
  rw [afterA_eq] at e
  rw [e]
  unfold run_first
  rfl

theorem dv_first : (run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.2.1  = arg17.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.2 [⟨Rect.unit (s := S4224x128) (k0_off9 i (BitVec.ofNat 32 (2 : Fin 3).val)) ![128, 128] (inb9 i 2), dvB (dobP c arg5 arg8 arg9 X5 X8 X9) (Pd c i arg2 arg3 arg6 arg7 arg10 X2 X3 X6 X7 X10 2) (View.readAt (Elt F) arg17.view (Rect.unit (s := S4224x128) (k0_off9 i (BitVec.ofNat 32 (2 : Fin 3).val)) ![128, 128] (inb9 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.2)⟩,
      ⟨Rect.unit (s := S4224x128) (k0_off9 i (BitVec.ofNat 32 (1 : Fin 3).val)) ![128, 128] (inb9 i 1), dvB (dobP c arg5 arg8 arg9 X5 X8 X9) (Pd c i arg2 arg3 arg6 arg7 arg10 X2 X3 X6 X7 X10 1) (View.readAt (Elt F) arg17.view (Rect.unit (s := S4224x128) (k0_off9 i (BitVec.ofNat 32 (1 : Fin 3).val)) ![128, 128] (inb9 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.2)⟩,
      ⟨Rect.unit (s := S4224x128) (k0_off9 i (BitVec.ofNat 32 (0 : Fin 3).val)) ![128, 128] (inb9 i 0), dvB (dobP c arg5 arg8 arg9 X5 X8 X9) (Pd c i arg2 arg3 arg6 arg7 arg10 X2 X3 X6 X7 X10 0) (View.readAt (Elt F) arg17.view (Rect.unit (s := S4224x128) (k0_off9 i (BitVec.ofNat 32 (0 : Fin 3).val)) ![128, 128] (inb9 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)).2.2.2)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_first.sl.v62 i) (run_first.sl.v73 i) (run_first.sl.v75 i) (arg15.view.writes (Elt F) arg15.view.junk run_first.sl.H15_1) (arg16.view.writes (Elt F) arg16.view.junk run_first.sl.H16_1) (arg17.view.writes (Elt F) arg17.view.junk run_first.sl.H17_1)
  rw [afterA_eq] at e
  rw [e]
  unfold run_first
  rfl

end Cert.KernelIdeal.Fox

end
-- ==== Proof.TermsG.lean ====
/-
  What the points leave in the gain's gradient, what the first one starts from, and what the last one hands out.
-/
module

public import proofs.«01_k».proof.Proof.Body

public import proofs.«01_k».proof.Proof.PointBase

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ)))

/-- The gain's gradient after the first point. -/
theorem dg_first (h1 :  first i = 1#1) (h2 : ¬ k0_cond2 i = 1#1) :
  (run_first (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.1  = arg14.view.writes (Elt F) arg14.view.junk [⟨Rect.unit (s := S1x1x128) ![0, 0, 0] S1x1x128.size inb_S1x1x128_S1x1x128_0_0_0, k0_pay168 (k0_pay167 (oP c arg8 X8) (dP c arg9 X9) (View.readAt (Elt F) arg14.view (Rect.unit (s := S1x1x128) ![0, 0, 0] S1x1x128.size inb_S1x1x128_S1x1x128_0_0_0).toLoadRect (arg14.view.writes (Elt F) arg14.view.junk [⟨Rect.unit (s := S1x1x128) ![0, 0, 0] S1x1x128.size inb_S1x1x128_S1x1x128_0_0_0, k0_pay161⟩])))⟩, ⟨Rect.unit (s := S1x1x128) ![0, 0, 0] S1x1x128.size inb_S1x1x128_S1x1x128_0_0_0, k0_pay161⟩] := by
  unfold run_first
  rfl

/-- The gain's gradient after the mid point. -/
theorem dg_mid (h1 : ¬ first i = 1#1) (h2 : ¬ k0_cond2 i = 1#1) :
  (run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.1 f14 f15 f16 f17 = arg14.view.writes (Elt F) arg14.view.junk [⟨Rect.unit (s := S1x1x128) ![0, 0, 0] S1x1x128.size inb_S1x1x128_S1x1x128_0_0_0, k0_pay168 (k0_pay167 (oP c arg8 X8) (dP c arg9 X9) (View.readAt (Elt F) arg14.view (Rect.unit (s := S1x1x128) ![0, 0, 0] S1x1x128.size inb_S1x1x128_S1x1x128_0_0_0).toLoadRect f14))⟩] := by
  unfold run_mid
  rfl

/-- The gain's gradient after the last point. -/
theorem dg_last (h1 : ¬ first i = 1#1) (h2 :  k0_cond2 i = 1#1) :
  (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.1 f14 f15 f16 f17 = arg14.view.writes (Elt F) arg14.view.junk [⟨Rect.unit (s := S1x1x128) ![0, 0, 0] S1x1x128.size inb_S1x1x128_S1x1x128_0_0_0, k0_pay168 (k0_pay167 (oP c arg8 X8) (dP c arg9 X9) (View.readAt (Elt F) arg14.view (Rect.unit (s := S1x1x128) ![0, 0, 0] S1x1x128.size inb_S1x1x128_S1x1x128_0_0_0).toLoadRect f14))⟩] := by
  unfold run_last
  rfl

/-- What the last point hands out. -/
theorem dkout_last (h1 : ¬ first i = 1#1) (h2 : k0_cond2 i = 1#1) :
  (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.1 f14 f15 f16 f17 = [⟨Rect.unit (s := S4224x128) ![0, 0] S4224x128.size inb_S4224x128_S4224x128_0_0, k0_pay3 (View.readAt (Elt F) arg16.view (Rect.unit (s := S4224x128) ![0, 0] S4224x128.size inb_S4224x128_S4224x128_0_0).toLoadRect ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.2.2.1 f14 f15 f16 f17))⟩] := by
  unfold run_last
  rfl

/-- What the last point hands out. -/
theorem dvout_last (h1 : ¬ first i = 1#1) (h2 : k0_cond2 i = 1#1) :
  (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.1 f14 f15 f16 f17 = [⟨Rect.unit (s := S4224x128) ![0, 0] S4224x128.size inb_S4224x128_S4224x128_0_0, k0_pay4 (View.readAt (Elt F) arg17.view (Rect.unit (s := S4224x128) ![0, 0] S4224x128.size inb_S4224x128_S4224x128_0_0).toLoadRect ((run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.2.2.2.1 f14 f15 f16 f17))⟩] := by
  unfold run_last
  rfl

/-- What the first point starts from: zeros. -/
theorem zero16 : run_first.sl.H16_1 (F := F) = [⟨Rect.unit (s := S4224x128) ![0, 0] S4224x128.size inb_S4224x128_S4224x128_0_0, k0_pay159⟩] := rfl
theorem zero17 : run_first.sl.H17_1 (F := F) = [⟨Rect.unit (s := S4224x128) ![0, 0] S4224x128.size inb_S4224x128_S4224x128_0_0, k0_pay160⟩] := rfl
theorem zero15 : run_first.sl.H15_1 (F := F) = [⟨Rect.unit (s := S1x33x128) ![0, 0, 0] S1x33x128.size inb_S1x33x128_S1x33x128_0_0_0, k0_pay162⟩] := rfl

end Cert.KernelIdeal.Fox

end
-- ==== Proof.RealFirst.lean ====
/-
  What the first point leaves, over the reals.
-/
module

public import proofs.«01_k».proof.Proof.PointReal

public import proofs.«01_k».proof.Proof.TermsFirst
public import proofs.«01_k».proof.Proof.TermsG
public import proofs.«01_k».proof.Proof.PointFirst
public import Idealize.ShloMosaic.Lib.Pipeline.ValueKit.Basic

@[expose] public section

set_option maxRecDepth 16384
set_option maxHeartbeats 1600000

noncomputable section

namespace Cert.KernelIdeal.Fox

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable {H : Head} {m : Fin 11}
variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (Y2 : Vec Ideal S384x128 .bf16) (Y3 : Vec Ideal S4224x128 .bf16) (Y4 : Vec Ideal S4224x128 .bf16) (Y5 : Vec Ideal S1x1x128 .f32) (Y6 : Vec Ideal S1x384x1 .f32) (Y7 : Vec Ideal S1x33x128 .f32) (Y8 : Vec Ideal S384x128 .f32) (Y9 : Vec Ideal S384x128 .f32) (Y10 : Vec Ideal S1x384x1 .f32) (h1 : first i = 1#1) (h2 : ¬ k0_cond2 i = 1#1)
  (hi : (i 1).val = m.val) (hD : Data H m Y2 Y3 Y4 Y5 Y6 Y7 Y8 Y9 Y10)

include hi hD

/-- The queries' gradient. -/
theorem q_first (r : Fin 384) (d : Fin 128) : first_11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2  (ix2 r d) = ((H.dQ (rowOf m r) d : ℝ) : EReal) := by
  rw [first_11_eq, dq_first]
  refine (congrFun (View.canon_cons_unit_lit inb_S384x128_S384x128_0_0 _ [] (by decide)) (ix2 r d)).trans ?_
  exact final_q (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_first.sl.v62 i) (run_first.sl.v73 i) (run_first.sl.v75 i) (arg15.view.writes (Elt Ideal) arg15.view.junk run_first.sl.H15_1) (arg16.view.writes (Elt Ideal) arg16.view.junk run_first.sl.H16_1) (arg17.view.writes (Elt Ideal) arg17.view.junk run_first.sl.H17_1))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [zero15]; exact (written_all arg15.view inb_S1x33x128_S1x33x128_0_0_0 (by decide) _ _ _ (ix3 z b j)).trans (pay162_real z b j)) (fun s d => by rw [zero16]; exact (written_all arg16.view inb_S4224x128_S4224x128_0_0 (by decide) _ _ _ (ix2 s d)).trans (pay159_real s d)) (fun s d => by rw [zero17]; exact (written_all arg17.view inb_S4224x128_S4224x128_0_0 (by decide) _ _ _ (ix2 s d)).trans (pay160_real s d)))) r d
/-- What the head carries on. -/
theorem carried_first : Carried (first_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 , first_15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 , first_16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 , first_17 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 )
    (fun d => (fun _ => 0) d + TG H m d) (fun s => (fun _ => 0) s + TC H m s) (fun s d => (fun _ _ => 0) s d + TK H m s d) (fun s d => (fun _ _ => 0) s d + TV H m s d) := by
  refine ⟨fun a b d => ?_, fun z b j => ?_, fun s d => ?_, fun s d => ?_⟩
  · show first_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2  (ix3 a b d) = _
    rw [first_14_eq, dg_first]
    refine (written_all arg14.view inb_S1x1x128_S1x1x128_0_0_0 (by decide) _ _ _ (ix3 a b d)).trans ?_
    refine pay167_real H (rowOf m) (fun _ => 0) hD.ε (oP_real (H := H) (m := m) c arg8 harg8 Y2 Y3 Y4 Y5 Y6 Y7 Y8 Y9 Y10 hD) (fun a b d => ?_) (dP_real (H := H) (m := m) c arg9 harg9 Y2 Y3 Y4 Y5 Y6 Y7 Y8 Y9 Y10 hD) a b d
    refine (read_all arg14.view inb_S1x1x128_S1x1x128_0_0_0 (by decide) _ (ix3 a b d)).trans ?_
    exact (written_all arg14.view inb_S1x1x128_S1x1x128_0_0_0 (by decide) _ _ _ (ix3 a b d)).trans (pay161_real a b d)
  · show first_15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2  (ix3 z b j) = _
    rw [first_15_eq, dc_first]
    exact final_c (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_first.sl.v62 i) (run_first.sl.v73 i) (run_first.sl.v75 i) (arg15.view.writes (Elt Ideal) arg15.view.junk run_first.sl.H15_1) (arg16.view.writes (Elt Ideal) arg16.view.junk run_first.sl.H16_1) (arg17.view.writes (Elt Ideal) arg17.view.junk run_first.sl.H17_1))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [zero15]; exact (written_all arg15.view inb_S1x33x128_S1x33x128_0_0_0 (by decide) _ _ _ (ix3 z b j)).trans (pay162_real z b j)) (fun s d => by rw [zero16]; exact (written_all arg16.view inb_S4224x128_S4224x128_0_0 (by decide) _ _ _ (ix2 s d)).trans (pay159_real s d)) (fun s d => by rw [zero17]; exact (written_all arg17.view inb_S4224x128_S4224x128_0_0 (by decide) _ _ _ (ix2 s d)).trans (pay160_real s d)))) z b j
  · show first_16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2  (ix2 s d) = _
    rw [first_16_eq, dk_first]
    exact final_k (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_first.sl.v62 i) (run_first.sl.v73 i) (run_first.sl.v75 i) (arg15.view.writes (Elt Ideal) arg15.view.junk run_first.sl.H15_1) (arg16.view.writes (Elt Ideal) arg16.view.junk run_first.sl.H16_1) (arg17.view.writes (Elt Ideal) arg17.view.junk run_first.sl.H17_1))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [zero15]; exact (written_all arg15.view inb_S1x33x128_S1x33x128_0_0_0 (by decide) _ _ _ (ix3 z b j)).trans (pay162_real z b j)) (fun s d => by rw [zero16]; exact (written_all arg16.view inb_S4224x128_S4224x128_0_0 (by decide) _ _ _ (ix2 s d)).trans (pay159_real s d)) (fun s d => by rw [zero17]; exact (written_all arg17.view inb_S4224x128_S4224x128_0_0 (by decide) _ _ _ (ix2 s d)).trans (pay160_real s d)))) s d
  · show first_17 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2  (ix2 s d) = _
    rw [first_17_eq, dv_first]
    exact final_v (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_first.sl.v62 i) (run_first.sl.v73 i) (run_first.sl.v75 i) (arg15.view.writes (Elt Ideal) arg15.view.junk run_first.sl.H15_1) (arg16.view.writes (Elt Ideal) arg16.view.junk run_first.sl.H16_1) (arg17.view.writes (Elt Ideal) arg17.view.junk run_first.sl.H17_1))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (fun _ => 0) (fun _ _ => 0) (fun _ _ => 0) hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [zero15]; exact (written_all arg15.view inb_S1x33x128_S1x33x128_0_0_0 (by decide) _ _ _ (ix3 z b j)).trans (pay162_real z b j)) (fun s d => by rw [zero16]; exact (written_all arg16.view inb_S4224x128_S4224x128_0_0 (by decide) _ _ _ (ix2 s d)).trans (pay159_real s d)) (fun s d => by rw [zero17]; exact (written_all arg17.view inb_S4224x128_S4224x128_0_0 (by decide) _ _ _ (ix2 s d)).trans (pay160_real s d)))) s d

end Cert.KernelIdeal.Fox

end
-- ==== Proof.TermsMid.lean ====
/-
  What the mid query block of a head computes, block by block.
-/
module

public import proofs.«01_k».proof.Proof.PointBase

public import proofs.«01_k».proof.Proof.Body

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))

variable (h1 : ¬ first i = 1#1) (h2 : ¬ k0_cond2 i = 1#1) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ)))

/-- The queries' gradient block. -/
theorem dq_mid : (run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).1 f14 f15 f16 f17 = [⟨Rect.unit (s := S384x128) ![0, 0] S384x128.size inb_S384x128_S384x128_0_0, truncf .bf16 (dqB (dqB (dqB (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).1 (dsbB (Dd c i arg2 arg3 arg4 arg5 arg6 arg7 arg8 arg9 arg10 X2 X3 X4 X5 X6 X7 X8 X9 X10 0)) (Kd c i arg3 X3 0)) (dsbB (Dd c i arg2 arg3 arg4 arg5 arg6 arg7 arg8 arg9 arg10 X2 X3 X4 X5 X6 X7 X8 X9 X10 1)) (Kd c i arg3 X3 1)) (dsbB (Dd c i arg2 arg3 arg4 arg5 arg6 arg7 arg8 arg9 arg10 X2 X3 X4 X5 X6 X7 X8 X9 X10 2)) (Kd c i arg3 X3 2)) bitsLt_bf16_f32⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17
  rw [afterA_eq] at e
  rw [e]
  unfold run_mid
  rfl

/-- The gates', the keys' and the values' gradient so far. -/
theorem dc_mid : (run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.1 f14 f15 f16 f17 = arg15.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.1 [⟨Rect.unit (s := S1x33x128) (k0_off10 i (BitVec.ofNat 32 (2 : Fin 3).val)) ![1, 1, 128] (inb10 i 2), dcB (Dd c i arg2 arg3 arg4 arg5 arg6 arg7 arg8 arg9 arg10 X2 X3 X4 X5 X6 X7 X8 X9 X10 2) (View.readAt (Elt F) arg15.view (Rect.unit (s := S1x33x128) (k0_off10 i (BitVec.ofNat 32 (2 : Fin 3).val)) ![1, 1, 128] (inb10 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.1)⟩,
      ⟨Rect.unit (s := S1x33x128) (k0_off10 i (BitVec.ofNat 32 (1 : Fin 3).val)) ![1, 1, 128] (inb10 i 1), dcB (Dd c i arg2 arg3 arg4 arg5 arg6 arg7 arg8 arg9 arg10 X2 X3 X4 X5 X6 X7 X8 X9 X10 1) (View.readAt (Elt F) arg15.view (Rect.unit (s := S1x33x128) (k0_off10 i (BitVec.ofNat 32 (1 : Fin 3).val)) ![1, 1, 128] (inb10 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.1)⟩,
      ⟨Rect.unit (s := S1x33x128) (k0_off10 i (BitVec.ofNat 32 (0 : Fin 3).val)) ![1, 1, 128] (inb10 i 0), dcB (Dd c i arg2 arg3 arg4 arg5 arg6 arg7 arg8 arg9 arg10 X2 X3 X4 X5 X6 X7 X8 X9 X10 0) (View.readAt (Elt F) arg15.view (Rect.unit (s := S1x33x128) (k0_off10 i (BitVec.ofNat 32 (0 : Fin 3).val)) ![1, 1, 128] (inb10 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.1)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17
  rw [afterA_eq] at e
  rw [e]
  unfold run_mid
  rfl

theorem dk_mid : (run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.1 f14 f15 f16 f17 = arg16.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.1 [⟨Rect.unit (s := S4224x128) (k0_off9 i (BitVec.ofNat 32 (2 : Fin 3).val)) ![128, 128] (inb9 i 2), dkB (qP c arg2 X2) (dsbB (Dd c i arg2 arg3 arg4 arg5 arg6 arg7 arg8 arg9 arg10 X2 X3 X4 X5 X6 X7 X8 X9 X10 2)) (View.readAt (Elt F) arg16.view (Rect.unit (s := S4224x128) (k0_off9 i (BitVec.ofNat 32 (2 : Fin 3).val)) ![128, 128] (inb9 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.1)⟩,
      ⟨Rect.unit (s := S4224x128) (k0_off9 i (BitVec.ofNat 32 (1 : Fin 3).val)) ![128, 128] (inb9 i 1), dkB (qP c arg2 X2) (dsbB (Dd c i arg2 arg3 arg4 arg5 arg6 arg7 arg8 arg9 arg10 X2 X3 X4 X5 X6 X7 X8 X9 X10 1)) (View.readAt (Elt F) arg16.view (Rect.unit (s := S4224x128) (k0_off9 i (BitVec.ofNat 32 (1 : Fin 3).val)) ![128, 128] (inb9 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.1)⟩,
      ⟨Rect.unit (s := S4224x128) (k0_off9 i (BitVec.ofNat 32 (0 : Fin 3).val)) ![128, 128] (inb9 i 0), dkB (qP c arg2 X2) (dsbB (Dd c i arg2 arg3 arg4 arg5 arg6 arg7 arg8 arg9 arg10 X2 X3 X4 X5 X6 X7 X8 X9 X10 0)) (View.readAt (Elt F) arg16.view (Rect.unit (s := S4224x128) (k0_off9 i (BitVec.ofNat 32 (0 : Fin 3).val)) ![128, 128] (inb9 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.1)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17
  rw [afterA_eq] at e
  rw [e]
  unfold run_mid
  rfl

theorem dv_mid : (run_mid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.2.1 f14 f15 f16 f17 = arg17.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.2 [⟨Rect.unit (s := S4224x128) (k0_off9 i (BitVec.ofNat 32 (2 : Fin 3).val)) ![128, 128] (inb9 i 2), dvB (dobP c arg5 arg8 arg9 X5 X8 X9) (Pd c i arg2 arg3 arg6 arg7 arg10 X2 X3 X6 X7 X10 2) (View.readAt (Elt F) arg17.view (Rect.unit (s := S4224x128) (k0_off9 i (BitVec.ofNat 32 (2 : Fin 3).val)) ![128, 128] (inb9 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.2)⟩,
      ⟨Rect.unit (s := S4224x128) (k0_off9 i (BitVec.ofNat 32 (1 : Fin 3).val)) ![128, 128] (inb9 i 1), dvB (dobP c arg5 arg8 arg9 X5 X8 X9) (Pd c i arg2 arg3 arg6 arg7 arg10 X2 X3 X6 X7 X10 1) (View.readAt (Elt F) arg17.view (Rect.unit (s := S4224x128) (k0_off9 i (BitVec.ofNat 32 (1 : Fin 3).val)) ![128, 128] (inb9 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.2)⟩,
      ⟨Rect.unit (s := S4224x128) (k0_off9 i (BitVec.ofNat 32 (0 : Fin 3).val)) ![128, 128] (inb9 i 0), dvB (dobP c arg5 arg8 arg9 X5 X8 X9) (Pd c i arg2 arg3 arg6 arg7 arg10 X2 X3 X6 X7 X10 0) (View.readAt (Elt F) arg17.view (Rect.unit (s := S4224x128) (k0_off9 i (BitVec.ofNat 32 (0 : Fin 3).val)) ![128, 128] (inb9 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17).2.2.2)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_mid.sl.v62 i) (run_mid.sl.v73 i) (run_mid.sl.v75 i) f15 f16 f17
  rw [afterA_eq] at e
  rw [e]
  unfold run_mid
  rfl

end Cert.KernelIdeal.Fox

end
-- ==== Proof.RealMid.lean ====
/-
  What the mid point leaves, over the reals.
-/
module

public import proofs.«01_k».proof.Proof.PointReal

public import proofs.«01_k».proof.Proof.TermsMid
public import proofs.«01_k».proof.Proof.TermsG
public import proofs.«01_k».proof.Proof.PointMid
public import Idealize.ShloMosaic.Lib.Pipeline.ValueKit.Basic

@[expose] public section

set_option maxRecDepth 16384
set_option maxHeartbeats 1600000

noncomputable section

namespace Cert.KernelIdeal.Fox

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable {H : Head} {m : Fin 11}
variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (Y2 : Vec Ideal S384x128 .bf16) (Y3 : Vec Ideal S4224x128 .bf16) (Y4 : Vec Ideal S4224x128 .bf16) (Y5 : Vec Ideal S1x1x128 .f32) (Y6 : Vec Ideal S1x384x1 .f32) (Y7 : Vec Ideal S1x33x128 .f32) (Y8 : Vec Ideal S384x128 .f32) (Y9 : Vec Ideal S384x128 .f32) (Y10 : Vec Ideal S1x384x1 .f32) (h1 : ¬ first i = 1#1) (h2 : ¬ k0_cond2 i = 1#1)
  (hi : (i 1).val = m.val) (hD : Data H m Y2 Y3 Y4 Y5 Y6 Y7 Y8 Y9 Y10)
  (d14 : Vec Ideal S1x1x128 .f32) (d15 : Vec Ideal S1x33x128 .f32) (d16 : Vec Ideal S4224x128 .f32) (d17 : Vec Ideal S4224x128 .f32)
  {φG : Fin 128 → ℝ} {φC : Fin 4224 → ℝ} {φK φV : Fin 4224 → Fin 128 → ℝ} (hs : Carried (d14, d15, d16, d17) φG φC φK φV)

include hi hD hs

/-- The queries' gradient. -/
theorem q_mid (r : Fin 384) (d : Fin 128) : mid_11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 r d) = ((H.dQ (rowOf m r) d : ℝ) : EReal) := by
  rw [mid_11_eq, dq_mid]
  refine (congrFun (View.canon_cons_unit_lit inb_S384x128_S384x128_0_0 _ [] (by decide)) (ix2 r d)).trans ?_
  exact final_q (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_mid.sl.v62 i) (run_mid.sl.v73 i) (run_mid.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) r d
/-- What the head carries on. -/
theorem carried_mid : Carried (mid_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17, mid_15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17, mid_16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17, mid_17 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17)
    (fun d => φG d + TG H m d) (fun s => φC s + TC H m s) (fun s d => φK s d + TK H m s d) (fun s d => φV s d + TV H m s d) := by
  refine ⟨fun a b d => ?_, fun z b j => ?_, fun s d => ?_, fun s d => ?_⟩
  · show mid_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix3 a b d) = _
    rw [mid_14_eq, dg_mid]
    refine (written_all arg14.view inb_S1x1x128_S1x1x128_0_0_0 (by decide) _ _ _ (ix3 a b d)).trans ?_
    refine pay167_real H (rowOf m) φG hD.ε (oP_real (H := H) (m := m) c arg8 harg8 Y2 Y3 Y4 Y5 Y6 Y7 Y8 Y9 Y10 hD) (fun a b d => ?_) (dP_real (H := H) (m := m) c arg9 harg9 Y2 Y3 Y4 Y5 Y6 Y7 Y8 Y9 Y10 hD) a b d
    refine (read_all arg14.view inb_S1x1x128_S1x1x128_0_0_0 (by decide) _ (ix3 a b d)).trans ?_
    exact by rw [harg14.read_unread]; exact hs.g a b d
  · show mid_15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix3 z b j) = _
    rw [mid_15_eq, dc_mid]
    exact final_c (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_mid.sl.v62 i) (run_mid.sl.v73 i) (run_mid.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) z b j
  · show mid_16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 s d) = _
    rw [mid_16_eq, dk_mid]
    exact final_k (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_mid.sl.v62 i) (run_mid.sl.v73 i) (run_mid.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) s d
  · show mid_17 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 s d) = _
    rw [mid_17_eq, dv_mid]
    exact final_v (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_mid.sl.v62 i) (run_mid.sl.v73 i) (run_mid.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) s d

end Cert.KernelIdeal.Fox

end
-- ==== Proof.TermsLast.lean ====
/-
  What the last query block of a head computes, block by block.
-/
module

public import proofs.«01_k».proof.Proof.PointBase

public import proofs.«01_k».proof.Proof.Body

@[expose] public section

set_option maxRecDepth 16384
set_option maxHeartbeats 1600000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ)))

variable (h1 : ¬ first i = 1#1) (h2 : k0_cond2 i = 1#1) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ)))

/-- The queries' gradient block. -/
theorem dq_last : (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).1 f14 f15 f16 f17 = [⟨Rect.unit (s := S384x128) ![0, 0] S384x128.size inb_S384x128_S384x128_0_0, truncf .bf16 (dqB (dqB (dqB (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).1 (dsbB (Dd c i arg2 arg3 arg4 arg5 arg6 arg7 arg8 arg9 arg10 X2 X3 X4 X5 X6 X7 X8 X9 X10 0)) (Kd c i arg3 X3 0)) (dsbB (Dd c i arg2 arg3 arg4 arg5 arg6 arg7 arg8 arg9 arg10 X2 X3 X4 X5 X6 X7 X8 X9 X10 1)) (Kd c i arg3 X3 1)) (dsbB (Dd c i arg2 arg3 arg4 arg5 arg6 arg7 arg8 arg9 arg10 X2 X3 X4 X5 X6 X7 X8 X9 X10 2)) (Kd c i arg3 X3 2)) bitsLt_bf16_f32⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17
  rw [afterA_eq] at e
  rw [e]
  unfold run_last
  rfl

/-- The gates', the keys' and the values' gradient so far. -/
theorem dc_last : (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.2.1 f14 f15 f16 f17 = arg15.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.1 [⟨Rect.unit (s := S1x33x128) (k0_off10 i (BitVec.ofNat 32 (2 : Fin 3).val)) ![1, 1, 128] (inb10 i 2), dcB (Dd c i arg2 arg3 arg4 arg5 arg6 arg7 arg8 arg9 arg10 X2 X3 X4 X5 X6 X7 X8 X9 X10 2) (View.readAt (Elt F) arg15.view (Rect.unit (s := S1x33x128) (k0_off10 i (BitVec.ofNat 32 (2 : Fin 3).val)) ![1, 1, 128] (inb10 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.1)⟩,
      ⟨Rect.unit (s := S1x33x128) (k0_off10 i (BitVec.ofNat 32 (1 : Fin 3).val)) ![1, 1, 128] (inb10 i 1), dcB (Dd c i arg2 arg3 arg4 arg5 arg6 arg7 arg8 arg9 arg10 X2 X3 X4 X5 X6 X7 X8 X9 X10 1) (View.readAt (Elt F) arg15.view (Rect.unit (s := S1x33x128) (k0_off10 i (BitVec.ofNat 32 (1 : Fin 3).val)) ![1, 1, 128] (inb10 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.1)⟩,
      ⟨Rect.unit (s := S1x33x128) (k0_off10 i (BitVec.ofNat 32 (0 : Fin 3).val)) ![1, 1, 128] (inb10 i 0), dcB (Dd c i arg2 arg3 arg4 arg5 arg6 arg7 arg8 arg9 arg10 X2 X3 X4 X5 X6 X7 X8 X9 X10 0) (View.readAt (Elt F) arg15.view (Rect.unit (s := S1x33x128) (k0_off10 i (BitVec.ofNat 32 (0 : Fin 3).val)) ![1, 1, 128] (inb10 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.1)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17
  rw [afterA_eq] at e
  rw [e]
  unfold run_last
  rfl

theorem dk_last : (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.2.2.1 f14 f15 f16 f17 = arg16.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.1 [⟨Rect.unit (s := S4224x128) (k0_off9 i (BitVec.ofNat 32 (2 : Fin 3).val)) ![128, 128] (inb9 i 2), dkB (qP c arg2 X2) (dsbB (Dd c i arg2 arg3 arg4 arg5 arg6 arg7 arg8 arg9 arg10 X2 X3 X4 X5 X6 X7 X8 X9 X10 2)) (View.readAt (Elt F) arg16.view (Rect.unit (s := S4224x128) (k0_off9 i (BitVec.ofNat 32 (2 : Fin 3).val)) ![128, 128] (inb9 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.1)⟩,
      ⟨Rect.unit (s := S4224x128) (k0_off9 i (BitVec.ofNat 32 (1 : Fin 3).val)) ![128, 128] (inb9 i 1), dkB (qP c arg2 X2) (dsbB (Dd c i arg2 arg3 arg4 arg5 arg6 arg7 arg8 arg9 arg10 X2 X3 X4 X5 X6 X7 X8 X9 X10 1)) (View.readAt (Elt F) arg16.view (Rect.unit (s := S4224x128) (k0_off9 i (BitVec.ofNat 32 (1 : Fin 3).val)) ![128, 128] (inb9 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.1)⟩,
      ⟨Rect.unit (s := S4224x128) (k0_off9 i (BitVec.ofNat 32 (0 : Fin 3).val)) ![128, 128] (inb9 i 0), dkB (qP c arg2 X2) (dsbB (Dd c i arg2 arg3 arg4 arg5 arg6 arg7 arg8 arg9 arg10 X2 X3 X4 X5 X6 X7 X8 X9 X10 0)) (View.readAt (Elt F) arg16.view (Rect.unit (s := S4224x128) (k0_off9 i (BitVec.ofNat 32 (0 : Fin 3).val)) ![128, 128] (inb9 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.1)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17
  rw [afterA_eq] at e
  rw [e]
  unfold run_last
  rfl

theorem dv_last : (run_last (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 h1 h2).2.2.2.2.2.2.1 f14 f15 f16 f17 = arg17.view.writes (Elt F) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.2 [⟨Rect.unit (s := S4224x128) (k0_off9 i (BitVec.ofNat 32 (2 : Fin 3).val)) ![128, 128] (inb9 i 2), dvB (dobP c arg5 arg8 arg9 X5 X8 X9) (Pd c i arg2 arg3 arg6 arg7 arg10 X2 X3 X6 X7 X10 2) (View.readAt (Elt F) arg17.view (Rect.unit (s := S4224x128) (k0_off9 i (BitVec.ofNat 32 (2 : Fin 3).val)) ![128, 128] (inb9 i 2)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.2)⟩,
      ⟨Rect.unit (s := S4224x128) (k0_off9 i (BitVec.ofNat 32 (1 : Fin 3).val)) ![128, 128] (inb9 i 1), dvB (dobP c arg5 arg8 arg9 X5 X8 X9) (Pd c i arg2 arg3 arg6 arg7 arg10 X2 X3 X6 X7 X10 1) (View.readAt (Elt F) arg17.view (Rect.unit (s := S4224x128) (k0_off9 i (BitVec.ofNat 32 (1 : Fin 3).val)) ![128, 128] (inb9 i 1)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.2)⟩,
      ⟨Rect.unit (s := S4224x128) (k0_off9 i (BitVec.ofNat 32 (0 : Fin 3).val)) ![128, 128] (inb9 i 0), dvB (dobP c arg5 arg8 arg9 X5 X8 X9) (Pd c i arg2 arg3 arg6 arg7 arg10 X2 X3 X6 X7 X10 0) (View.readAt (Elt F) arg17.view (Rect.unit (s := S4224x128) (k0_off9 i (BitVec.ofNat 32 (0 : Fin 3).val)) ![128, 128] (inb9 i 0)).toLoadRect (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17).2.2.2)⟩] := by
  have e := afterB_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 (run_last.sl.v62 i) (run_last.sl.v73 i) (run_last.sl.v75 i) f15 f16 f17
  rw [afterA_eq] at e
  rw [e]
  unfold run_last
  rfl

end Cert.KernelIdeal.Fox

end
-- ==== Proof.RealLast.lean ====
/-
  What the last point leaves, over the reals.
-/
module

public import proofs.«01_k».proof.Proof.PointReal

public import proofs.«01_k».proof.Proof.TermsLast
public import proofs.«01_k».proof.Proof.TermsG
public import proofs.«01_k».proof.Proof.PointLast
public import Idealize.ShloMosaic.Lib.Pipeline.ValueKit.Basic

@[expose] public section

set_option maxRecDepth 16384
set_option maxHeartbeats 1600000

noncomputable section

namespace Cert.KernelIdeal.Fox

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable {H : Head} {m : Fin 11}
variable (𝒱 : Variants) (c : Dev nD) (bd : Option 𝒱.V) (i : grid0.Coords) (arg2 : Memref sig .tc .vmem S384x128 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S1x1x128 .f32) (harg5 : arg5.IsWhole) (arg6 : Memref sig .tc .vmem S1x384x1 .f32) (harg6 : arg6.IsWhole) (arg7 : Memref sig .tc .vmem S1x33x128 .f32) (harg7 : arg7.IsWhole) (arg8 : Memref sig .tc .vmem S384x128 .f32) (harg8 : arg8.IsWhole) (arg9 : Memref sig .tc .vmem S384x128 .f32) (harg9 : arg9.IsWhole) (arg10 : Memref sig .tc .vmem S1x384x1 .f32) (harg10 : arg10.IsWhole) (arg11 : Memref sig .tc .vmem S384x128 .bf16) (harg11 : arg11.IsWhole) (arg12 : Memref sig .tc .vmem S4224x128 .bf16) (harg12 : arg12.IsWhole) (arg13 : Memref sig .tc .vmem S4224x128 .bf16) (harg13 : arg13.IsWhole) (arg14 : Memref sig .tc .vmem S1x1x128 .f32) (harg14 : arg14.IsWhole) (arg15 : Memref sig .tc .vmem S1x33x128 .f32) (harg15 : arg15.IsWhole) (arg16 : Memref sig .tc .vmem S4224x128 .f32) (harg16 : arg16.IsWhole) (arg17 : Memref sig .tc .vmem S4224x128 .f32) (harg17 : arg17.IsWhole)
  (Y2 : Vec Ideal S384x128 .bf16) (Y3 : Vec Ideal S4224x128 .bf16) (Y4 : Vec Ideal S4224x128 .bf16) (Y5 : Vec Ideal S1x1x128 .f32) (Y6 : Vec Ideal S1x384x1 .f32) (Y7 : Vec Ideal S1x33x128 .f32) (Y8 : Vec Ideal S384x128 .f32) (Y9 : Vec Ideal S384x128 .f32) (Y10 : Vec Ideal S1x384x1 .f32) (h1 : ¬ first i = 1#1) (h2 : k0_cond2 i = 1#1)
  (hi : (i 1).val = m.val) (hD : Data H m Y2 Y3 Y4 Y5 Y6 Y7 Y8 Y9 Y10)
  (d14 : Vec Ideal S1x1x128 .f32) (d15 : Vec Ideal S1x33x128 .f32) (d16 : Vec Ideal S4224x128 .f32) (d17 : Vec Ideal S4224x128 .f32)
  {φG : Fin 128 → ℝ} {φC : Fin 4224 → ℝ} {φK φV : Fin 4224 → Fin 128 → ℝ} (hs : Carried (d14, d15, d16, d17) φG φC φK φV)

include hi hD hs

/-- The queries' gradient. -/
theorem q_last (r : Fin 384) (d : Fin 128) : last_11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 r d) = ((H.dQ (rowOf m r) d : ℝ) : EReal) := by
  rw [last_11_eq, dq_last]
  refine (congrFun (View.canon_cons_unit_lit inb_S384x128_S384x128_0_0 _ [] (by decide)) (ix2 r d)).trans ?_
  exact final_q (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_last.sl.v62 i) (run_last.sl.v73 i) (run_last.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) r d
/-- What the head carries on. -/
theorem carried_last : Carried (last_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17, last_15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17, last_16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17, last_17 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17)
    (fun d => φG d + TG H m d) (fun s => φC s + TC H m s) (fun s d => φK s d + TK H m s d) (fun s d => φV s d + TV H m s d) := by
  refine ⟨fun a b d => ?_, fun z b j => ?_, fun s d => ?_, fun s d => ?_⟩
  · show last_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix3 a b d) = _
    rw [last_14_eq, dg_last]
    refine (written_all arg14.view inb_S1x1x128_S1x1x128_0_0_0 (by decide) _ _ _ (ix3 a b d)).trans ?_
    refine pay167_real H (rowOf m) φG hD.ε (oP_real (H := H) (m := m) c arg8 harg8 Y2 Y3 Y4 Y5 Y6 Y7 Y8 Y9 Y10 hD) (fun a b d => ?_) (dP_real (H := H) (m := m) c arg9 harg9 Y2 Y3 Y4 Y5 Y6 Y7 Y8 Y9 Y10 hD) a b d
    refine (read_all arg14.view inb_S1x1x128_S1x1x128_0_0_0 (by decide) _ (ix3 a b d)).trans ?_
    exact by rw [harg14.read_unread]; exact hs.g a b d
  · show last_15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix3 z b j) = _
    rw [last_15_eq, dc_last]
    exact final_c (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_last.sl.v62 i) (run_last.sl.v73 i) (run_last.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) z b j
  · show last_16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 s d) = _
    rw [last_16_eq, dk_last]
    exact final_k (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_last.sl.v62 i) (run_last.sl.v73 i) (run_last.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) s d
  · show last_17 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 s d) = _
    rw [last_17_eq, dv_last]
    exact final_v (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_last.sl.v62 i) (run_last.sl.v73 i) (run_last.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) s d

/-- What the last point hands out. -/
theorem dk_out (s : Fin 4224) (d : Fin 128) : last_12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 s d) = ((φK s d + TK H m s d : ℝ) : EReal) := by
  rw [last_12_eq, dkout_last]
  refine (congrFun (View.canon_cons_unit_lit inb_S4224x128_S4224x128_0_0 _ [] (by decide)) (ix2 s d)).trans ?_
  rw [dk_last]
  refine (read_all arg16.view inb_S4224x128_S4224x128_0_0 (by decide) _ (ix2 s d)).trans ?_
  exact final_k (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_last.sl.v62 i) (run_last.sl.v73 i) (run_last.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) s d

/-- What the last point hands out. -/
theorem dv_out (s : Fin 4224) (d : Fin 128) : last_13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y2 Y3 Y4 Y5 Y6 Y7 Y8 Y9 Y10 h1 h2 d14 d15 d16 d17 (ix2 s d) = ((φV s d + TV H m s d : ℝ) : EReal) := by
  rw [last_13_eq, dvout_last]
  refine (congrFun (View.canon_cons_unit_lit inb_S4224x128_S4224x128_0_0 _ [] (by decide)) (ix2 s d)).trans ?_
  rw [dv_last]
  refine (read_all arg17.view inb_S4224x128_S4224x128_0_0 (by decide) _ (ix2 s d)).trans ?_
  exact final_v (diag_real (H := H) (m := m) c i arg2 arg3 arg4 arg5 arg6 arg7 arg8 arg9 arg10 arg15 arg16 arg17 (harg2.unread Y2) (harg3.unread Y3) (harg4.unread Y4) (harg5.unread Y5) (harg6.unread Y6) (harg7.unread Y7) (harg8.unread Y8) (harg9.unread Y9) (harg10.unread Y10) φC φK φV hi
    (rows_real (H := H) (m := m) c arg2 harg2 arg5 harg5 arg6 harg6 arg8 harg8 arg9 harg9 arg10 harg10 Y2 Y3 Y4 Y5 Y6 Y7 Y8 Y9 Y10 hD)
    (cols_real (H := H) (m := m) arg3 harg3 arg4 harg4 arg7 harg7 Y2 Y3 Y4 Y5 Y6 Y7 Y8 Y9 Y10 hD) (afterB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) (run_last.sl.v62 i) (run_last.sl.v73 i) (run_last.sl.v75 i) (harg15.unread d15) (harg16.unread d16) (harg17.unread d17))
    (afterB_real (H := H) (m := m) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg2.unread Y2) (harg3.unread Y3) (harg4.unread Y4) (harg5.unread Y5) (harg6.unread Y6) (harg7.unread Y7) (harg8.unread Y8) (harg9.unread Y9) (harg10.unread Y10) φC φK φV hi
      (rows_real (H := H) (m := m) c arg2 harg2 arg5 harg5 arg6 harg6 arg8 harg8 arg9 harg9 arg10 harg10 Y2 Y3 Y4 Y5 Y6 Y7 Y8 Y9 Y10 hD)
      (cols_real (H := H) (m := m) arg3 harg3 arg4 harg4 arg7 harg7 Y2 Y3 Y4 Y5 Y6 Y7 Y8 Y9 Y10 hD) _ _ _ _ _ _
      (fun z b j => by rw [harg15.read_unread]; exact hs.c z b j) (fun s d => by rw [harg16.read_unread]; exact hs.k s d) (fun s d => by rw [harg17.read_unread]; exact hs.v s d))) s d

end Cert.KernelIdeal.Fox

end
-- ==== Proof.Carry.lean ====
/-
  What a head carries from point to point, over the reals: the sums over the query blocks so far.
-/
module

public import proofs.«01_k».proof.Proof.Windows
public import proofs.«01_k».proof.Proof.RealFirst
public import proofs.«01_k».proof.Proof.RealMid
public import proofs.«01_k».proof.Proof.RealLast

@[expose] public section

set_option maxRecDepth 16384

noncomputable section

namespace Cert.KernelIdeal.Fox

open Idealize.ShloMosaic Idealize.ShloMosaic.TcCoe Idealize.SL.Sem Idealize.ShloMosaic.StableHlo
open Cert.KernelIdeal Cert.KernelIdeal.Gen Cert.Model

/-! ## Sums over the first blocks -/

/-- The sum over the first `n` query blocks. -/
def first₁₁ (f : Fin 11 → ℝ) (n : ℕ) : ℝ := ∑ j ∈ Finset.range n, if h : j < 11 then f ⟨j, h⟩ else 0

theorem first₁₁_one (f : Fin 11 → ℝ) (b : Fin 11) (hb : b.val = 0) : first₁₁ f (b.val + 1) = 0 + f b := by
  unfold first₁₁
  rw [Finset.sum_range_succ, dif_pos b.isLt]
  refine congrArg (· + f b) ?_
  rw [hb, Finset.sum_range_zero]
theorem first₁₁_succ (f : Fin 11 → ℝ) (b : Fin 11) : first₁₁ f (b.val + 1) = first₁₁ f b.val + f b := by
  unfold first₁₁
  rw [Finset.sum_range_succ, dif_pos b.isLt]
theorem first₁₁_all (f : Fin 11 → ℝ) : first₁₁ f 11 = ∑ b, f b := by
  unfold first₁₁
  rw [Finset.sum_range]
  exact Finset.sum_congr rfl fun b _ => dif_pos b.isLt

/-- A sum over the rows is the sum over the query blocks of the sums over a block's rows. -/
theorem sum_rows (f : Fin 4224 → ℝ) : ∑ b : Fin 11, ∑ r : Fin 384, f (rowOf b r) = ∑ t, f t := by
  rw [Fin.sum_univ_tiles 11 384 rfl f]
  exact Finset.sum_congr rfl fun b _ => Finset.sum_congr rfl fun r _ => congrArg f (Fin.ext (by show 384 * b.val + r.val = b.val * 384 + r.val; omega))

theorem sum_TG (H : Head) (d : Fin 128) : ∑ b, TG H b d = H.dG d := sum_rows fun t => H.D t d * (H.O t d * H.R t)
theorem sum_TK (H : Head) (s : Fin 4224) (d : Fin 128) : ∑ b, TK H b s d = H.dK s d := sum_rows fun t => H.dL t s * H.σ * H.Q t d
theorem sum_TV (H : Head) (s : Fin 4224) (d : Fin 128) : ∑ b, TV H b s d = H.dV s d := sum_rows fun t => H.P t s * H.dO t d
theorem sum_TC (H : Head) (s : Fin 4224) : ∑ b, TC H b s = H.dC s := by
  unfold TC Head.dC
  rw [Finset.sum_neg_distrib, sum_rows fun t => H.dL t s]

/-- What a head carries after its first `n` query blocks. -/
def After (H : Head) (n : ℕ) (s : Carry Ideal) : Prop :=
  Carried s (fun d => first₁₁ (fun b => TG H b d) n) (fun t => first₁₁ (fun b => TC H b t) n)
    (fun t d => first₁₁ (fun b => TK H b t d) n) (fun t d => first₁₁ (fun b => TV H b t d) n)

/-! ## One point -/

variable {m : (ℓ : Loc nD τ sig) → Buf (Elt Ideal) ℓ} {c : Dev nD} {A : Arrs} (X : Found m c A) (t : Fin cfg0.N)
include X

theorem q_at_first (s : Carry Ideal) (h1 : first (grid0.coords t) = 1#1) (h2 : ¬ k0_cond2 (grid0.coords t) = 1#1) (r : Fin 384) (d : Fin 128) :
    (next m c t s).1 (ix2 r d) = (((A.head (eT t)).dQ (rowOf (mT t) r) d : ℝ) : EReal) := by
  rw [next_first m c t s h1 h2]
  exact q_first Variants.none c none (grid0.coords t) _ _ _ _ _ _ _ _ _ _ _ _ _ _ _ _ _ _ _ _ _ _ _ _ _ _ _ _ _ _ _ _ _ _ _ _ _ _ _ _ _ h1 h2 (coord1 t) (data X t) r d
theorem carried_at_first (s : Carry Ideal) (h1 : first (grid0.coords t) = 1#1) (h2 : ¬ k0_cond2 (grid0.coords t) = 1#1) (h0 : (mT t).val = 0) : After (A.head (eT t)) ((mT t).val + 1) (next m c t s).2.2.2 := by
  rw [next_first m c t s h1 h2]
  unfold After
  simp only [first₁₁_one _ _ h0]
  exact carried_first Variants.none c none (grid0.coords t) _ _ _ _ _ _ _ _ _ _ _ _ _ _ _ _ _ _ _ _ _ _ _ _ _ _ _ _ _ _ _ _ _ _ _ _ _ _ _ _ _ h1 h2 (coord1 t) (data X t)
theorem q_at_mid (s : Carry Ideal) (h1 : ¬ first (grid0.coords t) = 1#1) (h2 : ¬ k0_cond2 (grid0.coords t) = 1#1) (hs : After (A.head (eT t)) (mT t).val s) (r : Fin 384) (d : Fin 128) :
    (next m c t s).1 (ix2 r d) = (((A.head (eT t)).dQ (rowOf (mT t) r) d : ℝ) : EReal) := by
  rw [next_mid m c t s h1 h2]
  exact q_mid Variants.none c none (grid0.coords t) _ _ _ _ _ _ _ _ _ _ _ _ _ _ _ _ _ _ _ _ _ _ _ _ _ _ _ _ _ _ _ _ _ _ _ _ _ _ _ _ _ h1 h2 (coord1 t) (data X t) _ _ _ _ hs r d
theorem carried_at_mid (s : Carry Ideal) (h1 : ¬ first (grid0.coords t) = 1#1) (h2 : ¬ k0_cond2 (grid0.coords t) = 1#1) (hs : After (A.head (eT t)) (mT t).val s) : After (A.head (eT t)) ((mT t).val + 1) (next m c t s).2.2.2 := by
  rw [next_mid m c t s h1 h2]
  unfold After
  simp only [first₁₁_succ]
  exact carried_mid Variants.none c none (grid0.coords t) _ _ _ _ _ _ _ _ _ _ _ _ _ _ _ _ _ _ _ _ _ _ _ _ _ _ _ _ _ _ _ _ _ _ _ _ _ _ _ _ _ h1 h2 (coord1 t) (data X t) _ _ _ _ hs
theorem q_at_last (s : Carry Ideal) (h1 : ¬ first (grid0.coords t) = 1#1) (h2 : k0_cond2 (grid0.coords t) = 1#1) (hs : After (A.head (eT t)) (mT t).val s) (r : Fin 384) (d : Fin 128) :
    (next m c t s).1 (ix2 r d) = (((A.head (eT t)).dQ (rowOf (mT t) r) d : ℝ) : EReal) := by
  rw [next_last m c t s h1 h2]
  exact q_last Variants.none c none (grid0.coords t) _ _ _ _ _ _ _ _ _ _ _ _ _ _ _ _ _ _ _ _ _ _ _ _ _ _ _ _ _ _ _ _ _ _ _ _ _ _ _ _ _ h1 h2 (coord1 t) (data X t) _ _ _ _ hs r d
theorem carried_at_last (s : Carry Ideal) (h1 : ¬ first (grid0.coords t) = 1#1) (h2 : k0_cond2 (grid0.coords t) = 1#1) (hs : After (A.head (eT t)) (mT t).val s) : After (A.head (eT t)) ((mT t).val + 1) (next m c t s).2.2.2 := by
  rw [next_last m c t s h1 h2]
  unfold After
  simp only [first₁₁_succ]
  exact carried_last Variants.none c none (grid0.coords t) _ _ _ _ _ _ _ _ _ _ _ _ _ _ _ _ _ _ _ _ _ _ _ _ _ _ _ _ _ _ _ _ _ _ _ _ _ _ _ _ _ h1 h2 (coord1 t) (data X t) _ _ _ _ hs
theorem dk_at_last (s : Carry Ideal) (h1 : ¬ first (grid0.coords t) = 1#1) (h2 : k0_cond2 (grid0.coords t) = 1#1) (hs : After (A.head (eT t)) (mT t).val s) (r : Fin 4224) (d : Fin 128) :
    (next m c t s).2.1 (ix2 r d) = ((first₁₁ (fun b => TK (A.head (eT t)) b r d) ((mT t).val + 1) : ℝ) : EReal) := by
  rw [next_last m c t s h1 h2, first₁₁_succ]
  exact dk_out Variants.none c none (grid0.coords t) _ _ _ _ _ _ _ _ _ _ _ _ _ _ _ _ _ _ _ _ _ _ _ _ _ _ _ _ _ _ _ _ _ _ _ _ _ _ _ _ _ h1 h2 (coord1 t) (data X t) _ _ _ _ hs r d
theorem dv_at_last (s : Carry Ideal) (h1 : ¬ first (grid0.coords t) = 1#1) (h2 : k0_cond2 (grid0.coords t) = 1#1) (hs : After (A.head (eT t)) (mT t).val s) (r : Fin 4224) (d : Fin 128) :
    (next m c t s).2.2.1 (ix2 r d) = ((first₁₁ (fun b => TV (A.head (eT t)) b r d) ((mT t).val + 1) : ℝ) : EReal) := by
  rw [next_last m c t s h1 h2, first₁₁_succ]
  exact dv_out Variants.none c none (grid0.coords t) _ _ _ _ _ _ _ _ _ _ _ _ _ _ _ _ _ _ _ _ _ _ _ _ _ _ _ _ _ _ _ _ _ _ _ _ _ _ _ _ _ h1 h2 (coord1 t) (data X t) _ _ _ _ hs r d

/-! ## Every point -/

/-- Before every point but a head's first: the sums over the blocks so far. -/
theorem before_point : ∀ (n : ℕ) (t : Fin cfg0.N), t.val = n → t.val % 11 ≠ 0 → After (A.head (eT t)) (mT t).val (carry m c t.val) := by
  intro n
  induction n with
  | zero => intro t h0 h; rw [h0] at h; exact absurd rfl h
  | succ n ih =>
    intro t hn h
    have ht := t.isLt
    let t' : Fin cfg0.N := ⟨n, by omega⟩
    have hv : t.val = t'.val + 1 := hn
    have e1 : eT t = eT t' := Fin.ext (by show t.val / 11 = n / 11; omega)
    have e2 : (mT t).val = (mT t').val + 1 := by show t.val % 11 = n % 11 + 1; omega
    rw [e1, e2, hv, carry_succ m c t']
    have h2 : ¬ k0_cond2 (grid0.coords t') = 1#1 := fun h' => by have h3 : n % 11 = 10 := (last_iff t').mp h'; omega
    by_cases h0 : n % 11 = 0
    · exact carried_at_first X t' _ ((first_iff t').mpr h0) h2 h0
    · exact carried_at_mid X t' _ (fun h' => h0 ((first_iff t').mp h')) h2 (ih t' rfl h0)

/-- The queries' gradient, at every point. -/
theorem q_point (r : Fin 384) (d : Fin 128) :
    (next m c t (carry m c t.val)).1 (ix2 r d) = (((A.head (eT t)).dQ (rowOf (mT t) r) d : ℝ) : EReal) := by
  by_cases h0 : t.val % 11 = 0
  · exact q_at_first X t _ ((first_iff t).mpr h0) (fun h' => by have h3 := (last_iff t).mp h'; omega) r d
  · have h1 : ¬ first (grid0.coords t) = 1#1 := fun h' => h0 ((first_iff t).mp h')
    have hs := before_point X _ t rfl h0
    by_cases h2 : t.val % 11 = 10
    · exact q_at_last X t _ h1 ((last_iff t).mpr h2) hs r d
    · exact q_at_mid X t _ h1 (fun h' => h2 ((last_iff t).mp h')) hs r d

section Last
variable (hl : t.val % 11 = 10)
include hl

theorem not_first : ¬ first (grid0.coords t) = 1#1 := fun h' => by have h3 := (first_iff t).mp h'; omega
omit X in
theorem eleven : (mT t).val + 1 = 11 := by show t.val % 11 + 1 = 11; omega

/-- At a head's last point: the gradients of the keys and the values, of the gain and of the gates. -/
theorem k_point (r : Fin 4224) (d : Fin 128) : (next m c t (carry m c t.val)).2.1 (ix2 r d) = (((A.head (eT t)).dK r d : ℝ) : EReal) := by
  rw [dk_at_last X t _ (not_first X t hl) ((last_iff t).mpr hl) (before_point X _ t rfl (by omega)) r d, eleven t hl, first₁₁_all, sum_TK]
theorem v_point (r : Fin 4224) (d : Fin 128) : (next m c t (carry m c t.val)).2.2.1 (ix2 r d) = (((A.head (eT t)).dV r d : ℝ) : EReal) := by
  rw [dv_at_last X t _ (not_first X t hl) ((last_iff t).mpr hl) (before_point X _ t rfl (by omega)) r d, eleven t hl, first₁₁_all, sum_TV]
theorem g_point (a b : Fin 1) (d : Fin 128) : (next m c t (carry m c t.val)).2.2.2.1 (ix3 a b d) = (((A.head (eT t)).dG d : ℝ) : EReal) := by
  have h := carried_at_last X t _ (not_first X t hl) ((last_iff t).mpr hl) (before_point X _ t rfl (by omega))
  rw [h.g a b d, eleven t hl, first₁₁_all, sum_TG]
theorem c_point (z : Fin 1) (b : Fin 33) (j : Fin 128) : (next m c t (carry m c t.val)).2.2.2.2.1 (ix3 z b j) = (((A.head (eT t)).dC (colOf b j) : ℝ) : EReal) := by
  have h := carried_at_last X t _ (not_first X t hl) ((last_iff t).mpr hl) (before_point X _ t rfl (by omega))
  rw [h.c z b j, eleven t hl, first₁₁_all, sum_TC]

end Last

end Cert.KernelIdeal.Fox

end
-- ==== Proof.Outputs.lean ====
/-
  The result arrays, over the reals: each is the gradient it holds, by head.
-/
module

public import proofs.«01_k».proof.Proof.Carry

@[expose] public section

set_option maxRecDepth 16384

noncomputable section

namespace Cert.KernelIdeal.Fox

open Idealize.ShloMosaic Idealize.ShloMosaic.TcCoe Idealize.SL.Sem Idealize.ShloMosaic.StableHlo
open Cert.KernelIdeal Cert.KernelIdeal.Gen Cert.Model

/-! ## The arrays -/

/-- The gradients as arrays: of the queries, the keys and the values (a head's columns side by side), the gain, the gates. -/
def arrQ (A : Arrs) : FVec Ideal S4224x1024 .bf16 := fun i => (((A.head (hd (i 1))).dQ (i 0) (md (i 1)) : ℝ) : EReal)
def arrK (A : Arrs) : FVec Ideal S4224x1024 .bf16 := fun i => (((A.head (hd (i 1))).dK (i 0) (md (i 1)) : ℝ) : EReal)
def arrV (A : Arrs) : FVec Ideal S4224x1024 .bf16 := fun i => (((A.head (hd (i 1))).dV (i 0) (md (i 1)) : ℝ) : EReal)
def arrG (A : Arrs) : FVec Ideal S8x1x128 .f32 := fun i => (((A.head (i 0)).dG (i 2) : ℝ) : EReal)
def arrC (A : Arrs) : FVec Ideal S8x33x128 .f32 := fun i => (((A.head (i 0)).dC (colOf (i 1) (i 2)) : ℝ) : EReal)

theorem col_lt (e : Fin 8) (d : Fin 128) : e.val * 128 + d.val < 1024 := by have := e.isLt; have := d.isLt; omega
theorem hd_col (e : Fin 8) (d : Fin 128) : hd ⟨e.val * 128 + d.val, col_lt e d⟩ = e := Fin.ext (by have := d.isLt; show (e.val * 128 + d.val) / 128 = _; omega)
theorem md_col (e : Fin 8) (d : Fin 128) : md ⟨e.val * 128 + d.val, col_lt e d⟩ = d := Fin.ext (by have := d.isLt; show (e.val * 128 + d.val) % 128 = _; omega)

theorem arrQ_at (A : Arrs) (e : Fin 8) (t : Fin 4224) (d : Fin 128) : arrQ A (ix2 t ⟨e.val * 128 + d.val, col_lt e d⟩) = (((A.head e).dQ t d : ℝ) : EReal) := by
  show (((A.head (hd ⟨e.val * 128 + d.val, col_lt e d⟩)).dQ t (md ⟨e.val * 128 + d.val, col_lt e d⟩) : ℝ) : EReal) = _
  rw [hd_col, md_col]
theorem arrK_at (A : Arrs) (e : Fin 8) (t : Fin 4224) (d : Fin 128) : arrK A (ix2 t ⟨e.val * 128 + d.val, col_lt e d⟩) = (((A.head e).dK t d : ℝ) : EReal) := by
  show (((A.head (hd ⟨e.val * 128 + d.val, col_lt e d⟩)).dK t (md ⟨e.val * 128 + d.val, col_lt e d⟩) : ℝ) : EReal) = _
  rw [hd_col, md_col]
theorem arrV_at (A : Arrs) (e : Fin 8) (t : Fin 4224) (d : Fin 128) : arrV A (ix2 t ⟨e.val * 128 + d.val, col_lt e d⟩) = (((A.head e).dV t d : ℝ) : EReal) := by
  show (((A.head (hd ⟨e.val * 128 + d.val, col_lt e d⟩)).dV t (md ⟨e.val * 128 + d.val, col_lt e d⟩) : ℝ) : EReal) = _
  rw [hd_col, md_col]

/-! ## The blocks' places -/

theorem ix9 : ∀ t : Fin cfg0.N, win0_9.index t = ![t.val % 11, t.val / 11] := (by decide +kernel : ∀ t : Fin grid0.N, _)
theorem ix10 : ∀ t : Fin cfg0.N, win0_10.index t = ![0, t.val / 11] := (by decide +kernel : ∀ t : Fin grid0.N, _)
theorem ix11 : ∀ t : Fin cfg0.N, win0_11.index t = ![0, t.val / 11] := (by decide +kernel : ∀ t : Fin grid0.N, _)
theorem ix12 : ∀ t : Fin cfg0.N, win0_12.index t = ![t.val / 11, 0, 0] := (by decide +kernel : ∀ t : Fin grid0.N, _)
theorem ix13 : ∀ t : Fin cfg0.N, win0_13.index t = ![t.val / 11, 0, 0] := (by decide +kernel : ∀ t : Fin grid0.N, _)

theorem place9 (t : Fin cfg0.N) (r : Fin 384) (d : Fin 128) :
    (win0_9.blk t).view.emb (ix2 r d) = (ix2 (rowOf (mT t) r) ⟨(eT t).val * 128 + d.val, col_lt (eT t) d⟩ : S4224x1024.Idx) := by
  blk_ext [ix9, eT, mT, rowOf]
theorem place10 (t : Fin cfg0.N) (r : Fin 4224) (d : Fin 128) :
    (win0_10.blk t).view.emb (ix2 r d) = (ix2 r ⟨(eT t).val * 128 + d.val, col_lt (eT t) d⟩ : S4224x1024.Idx) := by
  blk_ext [ix10, eT]
theorem place11 (t : Fin cfg0.N) (r : Fin 4224) (d : Fin 128) :
    (win0_11.blk t).view.emb (ix2 r d) = (ix2 r ⟨(eT t).val * 128 + d.val, col_lt (eT t) d⟩ : S4224x1024.Idx) := by
  blk_ext [ix11, eT]
theorem place12 (t : Fin cfg0.N) (a b : Fin 1) (d : Fin 128) :
    (win0_12.blk t).view.emb (ix3 a b d) = (ix3 (eT t) b d : S8x1x128.Idx) := by
  blk_ext [ix12, eT]
theorem place13 (t : Fin cfg0.N) (z : Fin 1) (b : Fin 33) (j : Fin 128) :
    (win0_13.blk t).view.emb (ix3 z b j) = (ix3 (eT t) b j : S8x33x128.Idx) := by
  blk_ext [ix13, eT]

/-! ## After the run -/

variable {m : (ℓ : Loc nD τ sig) → Buf (Elt Ideal) ℓ} {c : Dev nD} {A : Arrs} (X : Found m c A)
include X

theorem out_q : (dats m 0 c).arrAt 9 cfg0.N = arrQ A := by
  refine (dats m 0 c).arrAt_eq_of_covers 9 (arrQ A) (by decide +kernel) fun t hf y => ?_
  show (dats m 0 c).after 9 t y = arrQ A ((win0_9.blk t).view.emb y)
  rw [after_9]
  have hy : y = (ix2 (y 0) (y 1) : S384x128.Idx) := eq_ix2 (y : S384x128.Idx)
  rw [hy]
  refine (q_point X t (y 0) (y 1)).trans ?_
  exact ((congrArg (arrQ A) (place9 t (y 0) (y 1))).trans (arrQ_at A (eT t) _ _)).symm

theorem out_k : (dats m 0 c).arrAt 10 cfg0.N = arrK A := by
  refine (dats m 0 c).arrAt_eq_of_covers 10 (arrK A) (by decide +kernel) fun t hf y => ?_
  show (dats m 0 c).after 10 t y = arrK A ((win0_10.blk t).view.emb y)
  rw [after_10]
  have hy : y = (ix2 (y 0) (y 1) : S4224x128.Idx) := eq_ix2 (y : S4224x128.Idx)
  rw [hy]
  refine (k_point X t ((flush0_10 t).mp hf) (y 0) (y 1)).trans ?_
  exact ((congrArg (arrK A) (place10 t (y 0) (y 1))).trans (arrK_at A (eT t) _ _)).symm

theorem out_v : (dats m 0 c).arrAt 11 cfg0.N = arrV A := by
  refine (dats m 0 c).arrAt_eq_of_covers 11 (arrV A) (by decide +kernel) fun t hf y => ?_
  show (dats m 0 c).after 11 t y = arrV A ((win0_11.blk t).view.emb y)
  rw [after_11]
  have hy : y = (ix2 (y 0) (y 1) : S4224x128.Idx) := eq_ix2 (y : S4224x128.Idx)
  rw [hy]
  refine (v_point X t ((flush0_11 t).mp hf) (y 0) (y 1)).trans ?_
  exact ((congrArg (arrV A) (place11 t (y 0) (y 1))).trans (arrV_at A (eT t) _ _)).symm

theorem out_g : (dats m 0 c).arrAt 12 cfg0.N = arrG A := by
  refine (dats m 0 c).arrAt_eq_of_covers 12 (arrG A) (by decide +kernel) fun t hf y => ?_
  show (dats m 0 c).after 12 t y = arrG A ((win0_12.blk t).view.emb y)
  rw [after_12]
  have hy : y = (ix3 (y 0) (y 1) (y 2) : S1x1x128.Idx) := eq_ix3 (y : S1x1x128.Idx)
  rw [hy]
  refine (g_point X t ((flush0_12 t).mp hf) (y 0) (y 1) (y 2)).trans ?_
  exact (congrArg (arrG A) (place12 t (y 0) (y 1) (y 2))).symm

theorem out_c : (dats m 0 c).arrAt 13 cfg0.N = arrC A := by
  refine (dats m 0 c).arrAt_eq_of_covers 13 (arrC A) (by decide +kernel) fun t hf y => ?_
  show (dats m 0 c).after 13 t y = arrC A ((win0_13.blk t).view.emb y)
  rw [after_13]
  have hy : y = (ix3 (y 0) (y 1) (y 2) : S1x33x128.Idx) := eq_ix3 (y : S1x33x128.Idx)
  rw [hy]
  refine (c_point X t ((flush0_13 t).mp hf) (y 0) (y 1) (y 2)).trans ?_
  exact (congrArg (arrC A) (place13 t (y 0) (y 1) (y 2))).symm

end Cert.KernelIdeal.Fox

end
-- ==== Proof.Value.lean ====
/-
  The two programs' results over the reals: at finite arguments both hold the gradients of the attention.
-/
module

public import proofs.«01_k».proof.Defs
public import proofs.«01_k».proof.Proof.Outputs
public import proofs.«01_k».proof.Proof.RefValue
public import proofs.«01_k».proof.Proof.Gen.ReferenceIdeal.Run

@[expose] public section

set_option maxRecDepth 16384

noncomputable section

namespace Cert.Values

open Idealize.ShloMosaic Idealize.ShloMosaic.TcCoe Idealize.SL.Sem Idealize.ShloMosaic.StableHlo
open Cert.Model
open Cert.KernelIdeal Cert.KernelIdeal.Gen Cert.KernelIdeal.Fox

/-! ## Finite entries -/

/-- An extended real whose absolute value is below infinity is a real. -/
theorem real_of_lt (a : EReal) (h : Ideal.cmp .olt (max a (-a)) ⊤ = 1#1) : a = ((a.toReal : ℝ) : EReal) := by
  have h' : max a (-a) < ⊤ := by
    by_contra hn
    have e : Ideal.cmp .olt (max a (-a)) ⊤ = 0#1 := by rw [Ideal.cmp_olt, decide_eq_false hn]; rfl
    rw [e] at h
    exact absurd h (by decide)
  induction a using EReal.rec with
  | bot => exact absurd h' (by simp)
  | top => exact absurd h' (by simp)
  | coe r => rw [EReal.toReal_coe]

theorem real_f32 {S : Shape} (hb : Cert.Pre_finite.S_.BroadcastsInDim S (![] : Fin 0 → Fin S.rank)) (x : FVec Ideal S .f32)
    (h : cmpf .olt (Host.absf x) (broadcastInDim S ![] hb (constant Cert.Pre_finite.S_ .f32 0x7F800000#32 : FVec Ideal Cert.Pre_finite.S_ .f32)) = fun _ => 1#1) (i : S.Idx) :
    (x i : EReal) = (((x i : EReal).toReal : ℝ) : EReal) := by
  refine real_of_lt (x i) ?_
  rw [← ofBits_inf]
  exact congrFun h i

theorem real_bf16 {S : Shape} (hb : Cert.Pre_finite.S_.BroadcastsInDim S (![] : Fin 0 → Fin S.rank)) (x : FVec Ideal S .bf16)
    (h : cmpf .olt (Host.absf x) (broadcastInDim S ![] hb (constant Cert.Pre_finite.S_ .bf16 0x7F80#16 : FVec Ideal Cert.Pre_finite.S_ .bf16)) = fun _ => 1#1) (i : S.Idx) :
    (x i : EReal) = (((x i : EReal).toReal : ℝ) : EReal) := by
  refine real_of_lt (x i) ?_
  rw [← ofBits_inf_bf16]
  exact congrFun h i

/-! ## Layouts of the gain and the gates -/

theorem gain_at (x : FVec Ideal S8x128 .f32) (e : Fin 8) (z : Fin 1) (b : Fin 128) :
    (broadcastInDim S8x1x128 ![0, 2] bcast_S8x128_S8x1x128_0_2 x : FVec Ideal S8x1x128 .f32) (ix3 e z b) = x (ix2 e b) := by
  pointwise []
theorem gate_col_at (x : FVec Ideal S8x4224 .f32) (e : Fin 8) (t : Fin 4224) (z : Fin 1) :
    (broadcastInDim S8x4224x1 ![0, 1] bcast_S8x4224_S8x4224x1_0_1 x : FVec Ideal S8x4224x1 .f32) (ix3 e t z) = x (ix2 e t) := by
  pointwise []
theorem gate_row_at (x : FVec Ideal S8x4224 .f32) (e : Fin 8) (b : Fin 33) (j : Fin 128) :
    (shapeCast S8x33x128 x shapeCasts_S8x4224_S8x33x128 : FVec Ideal S8x33x128 .f32) (ix3 e b j) = x (ix2 e (colOf b j)) := by
  pointwise []
  exact congrArg (fun k => x (ix2 e k)) (Fin.ext (by show b.val * 128 + j.val = 128 * b.val + j.val; omega))

/-! ## One device -/

section Device

variable (m : (ℓ : Loc nD τ sig) → Buf (Elt Ideal) ℓ) (c : Dev nD)

/-- The argument arrays of a device, as the program takes them. -/
abbrev x0 : FVec Ideal S4224x6144 .bf16 := m ((c : Thread nD τ).loc main_arg0)
abbrev x1 : FVec Ideal S8x128 .f32 := m ((c : Thread nD τ).loc main_arg1)
abbrev x2 : FVec Ideal S8x4224 .f32 := m ((c : Thread nD τ).loc main_arg2)
abbrev x3 : FVec Ideal S4224x1024 .f32 := m ((c : Thread nD τ).loc main_arg3)

/-- The arguments' real entries. -/
def reals : Arrs where
  q a b := (x0 m c (ix2 a b) : EReal).toReal
  g a b := (x1 m c (ix2 a b) : EReal).toReal
  c a b := (x2 m c (ix2 a b) : EReal).toReal
  d a b := (x3 m c (ix2 a b) : EReal).toReal

/-- Every entry is finite. -/
structure Finite : Prop where
  q : ∀ i, (x0 m c i : EReal) = (((x0 m c i : EReal).toReal : ℝ) : EReal)
  g : ∀ i, (x1 m c i : EReal) = (((x1 m c i : EReal).toReal : ℝ) : EReal)
  w : ∀ i, (x2 m c i : EReal) = (((x2 m c i : EReal).toReal : ℝ) : EReal)
  d : ∀ i, (x3 m c i : EReal) = (((x3 m c i : EReal).toReal : ℝ) : EReal)

variable {m c} (R : Valuation Cert.ReferenceIdeal.τ Cert.ReferenceIdeal.sig (Elt Ideal))

/-- The reference's argument buffers are the kernel's. -/
structure Same (m : (ℓ : Loc nD τ sig) → Buf (Elt Ideal) ℓ) (c : Dev nD) : Prop where
  a0 : (R (Proc.devRef .tc Cert.ReferenceIdeal.main_arg0) : FVec Ideal S4224x6144 .bf16) = x0 m c
  a1 : (R (Proc.devRef .tc Cert.ReferenceIdeal.main_arg1) : FVec Ideal S8x128 .f32) = x1 m c
  a2 : (R (Proc.devRef .tc Cert.ReferenceIdeal.main_arg2) : FVec Ideal S8x4224 .f32) = x2 m c
  a3 : (R (Proc.devRef .tc Cert.ReferenceIdeal.main_arg3) : FVec Ideal S4224x1024 .f32) = x3 m c

variable {R} (F : Finite m c) (S : Same R m c)
include F S

/-- The reference reads the arguments' real entries. -/
theorem reads : Cert.ReferenceIdeal.Real.Reads R (reals m c) where
  q a b := (congrFun S.a0 (ix2 a b)).trans (F.q (ix2 a b))
  g a b := (congrFun S.a1 (ix2 a b)).trans (F.g (ix2 a b))
  c a b := (congrFun S.a2 (ix2 a b)).trans (F.w (ix2 a b))
  d a b := (congrFun S.a3 (ix2 a b)).trans (F.d (ix2 a b))

omit F in
theorem agree : Agree (fun b => m (c, b)) R := ⟨S.a0, S.a2⟩

/-- The arrays that the kernel's region finds. -/
theorem found : Found m c (reals m c) where
  q a b := (congrFun (V_main_arg0 m c) (ix2 a b)).trans (F.q (ix2 a b))
  g e z b := (congrFun (host_g (fun b => m (c, b))) (ix3 e z b)).trans ((gain_at (x1 m c) e z b).trans (F.g (ix2 e b)))
  x e t z := (congrFun (host_ccol (fun b => m (c, b))) (ix3 e t z)).trans ((gate_col_at (x2 m c) e t z).trans (F.w (ix2 e t)))
  w e b j := (congrFun (host_crow (fun b => m (c, b))) (ix3 e b j)).trans ((gate_row_at (x2 m c) e b j).trans (F.w (ix2 e (colOf b j))))
  o t n := o_real (reads F S) (agree S) t n
  d t n := (congrFun (V_main_arg3 m c) (ix2 t n)).trans (F.d (ix2 t n))
  l e t z := lse_real (reads F S) (agree S) e t z

end Device

/-! ## The claim -/

variable [hPre_finite : Cert.Pre_finite.Facts]

theorem finite_of (m : (ℓ : Loc nD τ sig) → Buf (Elt Ideal) ℓ) (h : Cert.Pre_KernelIdeal_finite m) (c : Dev nD) : Finite m c where
  q := real_bf16 hPre_finite.bcast_S_S4224x6144 (x0 m c) (h c).1
  g := real_f32 hPre_finite.bcast_S_S8x128 (x1 m c) (h c).2.1
  w := real_f32 hPre_finite.bcast_S_S8x4224 (x2 m c) (h c).2.2.1
  d := real_f32 hPre_finite.bcast_S_S4224x1024 (x3 m c) (h c).2.2.2

set_option maxHeartbeats 1600000 in
/-- Run from the same finite arguments, the two programs end with the same five results, and with their arguments
    unchanged. -/
theorem algebraic : Cert.algebraic_KernelIdeal_ReferenceIdeal_pre_finite := by
  intro m g m' g' hp hs
  have F : ∀ c, Finite m c := finite_of m hp
  have S : ∀ c : Dev nD, Same (launchContents m' c) m c := fun c => ⟨(hs c).1, (hs c).2.1, (hs c).2.2.1, (hs c).2.2.2⟩
  refine ⟨fun c => arrQ (reals m c), fun c => arrK (reals m c), fun c => arrV (reals m c), fun c => arrG (reals m c),
    fun c => arrC (reals m c), ?_, ?_⟩
  · refine (θ_run defs _ _).mono (fun r h c => ?_) (run_main m g)
    have X := found (F c) (S c)
    exact ⟨((h.1 c).1 9).trans (out_q X), ((h.1 c).1 10).trans (out_k X), ((h.1 c).1 11).trans (out_v X),
      ((h.1 c).1 12).trans (out_g X), ((h.1 c).1 13).trans (out_c X),
      ((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 7).trans (((dats m 0 c).arrAt_in 7 rfl _).trans ((A_eq m c 7).trans (V_main_arg3 m c)))⟩
  · refine (θ_run Cert.ReferenceIdeal.defs _ _).mono (fun r h c => ?_) (Cert.ReferenceIdeal.Value.run (F := Ideal) m' g')
    have H := reads (F c) (S c)
    obtain ⟨e0, e1, e2, e3, e4, ea⟩ := h c
    refine ⟨e0.trans (funext fun i => ?_), e1.trans (funext fun i => ?_), e2.trans (funext fun i => ?_),
      e3.trans (funext fun i => ?_), e4.trans (funext fun i => ?_), ea⟩
    · rw [eq_ix2 (i : S4224x1024.Idx)]; exact Cert.ReferenceIdeal.Real.r128 H _ _
    · rw [eq_ix2 (i : S4224x1024.Idx)]; exact Cert.ReferenceIdeal.Real.r129 H _ _
    · rw [eq_ix2 (i : S4224x1024.Idx)]; exact Cert.ReferenceIdeal.Real.r130 H _ _
    · rw [eq_ix3 (i : S8x1x128.Idx)]; exact Cert.ReferenceIdeal.Real.r131 H _ _ _
    · rw [eq_ix3 (i : S8x33x128.Idx)]
      refine (Cert.ReferenceIdeal.Real.r132 H _ _ _).trans (congrArg (fun k => (((Arrs.head (reals m c) (i 0)).dC k : ℝ) : EReal)) (Fin.ext ?_))
      show (i 1).val * 128 + (i 2).val = 128 * (i 1).val + (i 2).val
      omega

end Cert.Values

end
-- ==== Proof.Products.lean ====
/-
  The three products of two matrices over the reals that the calls of a dense layer take, and each of them tile by tile.
-/
module

public import Idealize.ShloMosaic.Lib.Pointwise
public import Idealize.ShloMosaic.Lib.Pipeline.ValueKit.Basic

@[expose] public section

noncomputable section

namespace Cert.Products

open Idealize.ShloMosaic

/-- A matrix of `m` rows and `n` columns. -/
abbrev Mat (m n : Nat) (φ : FTy) : Type := FVec Ideal ⟨2, ![m, n]⟩ φ

variable {m k n m' n' : Nat} {φ ψ χ : FTy}

/-- The product of a matrix and a matrix. -/
def nn (X : Mat m k φ) (Y : Mat k n ψ) : Mat m n χ := fun i => (∑ s : Fin k, X (ix2 (i 0) s) * Y (ix2 s (i 1)) : EReal)
/-- The product of a matrix and a transposed matrix. -/
def nt (X : Mat m k φ) (Y : Mat n k ψ) : Mat m n χ := fun i => (∑ s : Fin k, X (ix2 (i 0) s) * Y (ix2 (i 1) s) : EReal)
/-- The product of a transposed matrix and a matrix. -/
def tn (X : Mat k m φ) (Y : Mat k n ψ) : Mat m n χ := fun i => (∑ s : Fin k, X (ix2 s (i 0)) * Y (ix2 s (i 1)) : EReal)

/-- Entry `r` of the `j`-th run of `T` entries, among `M`. -/
def entry (T M j : Nat) (r : Fin T) (h : j * T + T ≤ M) : Fin M := ⟨j * T + r.val, by omega⟩

variable {I : Fin m' → Fin m} {J : Fin n' → Fin n}

/-- Rows of one factor and columns of the other have the product's entries at these rows and columns. -/
theorem nn_tile {X : Mat m k φ} {Y : Mat k n ψ} {x : Mat m' k φ} {y : Mat k n' ψ} (r : Fin m') (c : Fin n')
    (hx : ∀ s, x (ix2 r s) = X (ix2 (I r) s)) (hy : ∀ s, y (ix2 s c) = Y (ix2 s (J c))) :
    (nn x y : Mat m' n' χ) (ix2 r c) = (nn X Y : Mat m n χ) (ix2 (I r) (J c)) :=
  Finset.sum_congr rfl fun s _ => congrArg₂ (fun a b : EReal => a * b) (hx s) (hy s)

/-- The same of rows of both factors. -/
theorem nt_tile {X : Mat m k φ} {Y : Mat n k ψ} {x : Mat m' k φ} {y : Mat n' k ψ} (r : Fin m') (c : Fin n')
    (hx : ∀ s, x (ix2 r s) = X (ix2 (I r) s)) (hy : ∀ s, y (ix2 c s) = Y (ix2 (J c) s)) :
    (nt x y : Mat m' n' χ) (ix2 r c) = (nt X Y : Mat m n χ) (ix2 (I r) (J c)) :=
  Finset.sum_congr rfl fun s _ => congrArg₂ (fun a b : EReal => a * b) (hx s) (hy s)

/-- The same of columns of both factors. -/
theorem tn_tile {X : Mat k m φ} {Y : Mat k n ψ} {x : Mat k m' φ} {y : Mat k n' ψ} (r : Fin m') (c : Fin n')
    (hx : ∀ s, x (ix2 s r) = X (ix2 s (I r))) (hy : ∀ s, y (ix2 s c) = Y (ix2 s (J c))) :
    (tn x y : Mat m' n' χ) (ix2 r c) = (tn X Y : Mat m n χ) (ix2 (I r) (J c)) :=
  Finset.sum_congr rfl fun s _ => congrArg₂ (fun a b : EReal => a * b) (hx s) (hy s)

/-- The indices of a matrix, a block of it by its rows and columns. -/
abbrev Ix (m n : Nat) : Type := (⟨2, ![m, n]⟩ : Shape).Idx

/-- A block of the product, from blocks of the factors: the block has the rows `I` and the columns `J`. -/
theorem nn_block {X : Mat m k φ} {Y : Mat k n ψ} {e : Ix m' n' → Ix m n} {e0 : Ix m' k → Ix m k} {e1 : Ix k n' → Ix k n} (I : Fin m' → Fin m) (J : Fin n' → Fin n)
    (he : ∀ r c, e (ix2 r c) = ix2 (I r) (J c)) (h0 : ∀ r s, e0 (ix2 r s) = ix2 (I r) s) (h1 : ∀ s c, e1 (ix2 s c) = ix2 s (J c)) (y : Ix m' n') :
    (nn (fun i => X (e0 i) : Mat m' k φ) (fun i => Y (e1 i) : Mat k n' ψ) : Mat m' n' χ) y = (nn X Y : Mat m n χ) (e y) := by
  obtain ⟨r, c, rfl⟩ : ∃ r c, y = ix2 r c := ⟨y 0, y 1, eq_ix2 y⟩
  rw [he]
  exact nn_tile r c (fun s => congrArg X (h0 r s)) (fun s => congrArg Y (h1 s c))
/-- The same for the product with the second factor transposed. -/
theorem nt_block {X : Mat m k φ} {Y : Mat n k ψ} {e : Ix m' n' → Ix m n} {e0 : Ix m' k → Ix m k} {e1 : Ix n' k → Ix n k} (I : Fin m' → Fin m) (J : Fin n' → Fin n)
    (he : ∀ r c, e (ix2 r c) = ix2 (I r) (J c)) (h0 : ∀ r s, e0 (ix2 r s) = ix2 (I r) s) (h1 : ∀ c s, e1 (ix2 c s) = ix2 (J c) s) (y : Ix m' n') :
    (nt (fun i => X (e0 i) : Mat m' k φ) (fun i => Y (e1 i) : Mat n' k ψ) : Mat m' n' χ) y = (nt X Y : Mat m n χ) (e y) := by
  obtain ⟨r, c, rfl⟩ : ∃ r c, y = ix2 r c := ⟨y 0, y 1, eq_ix2 y⟩
  rw [he]
  exact nt_tile r c (fun s => congrArg X (h0 r s)) (fun s => congrArg Y (h1 c s))
/-- The same for the product with the first factor transposed. -/
theorem tn_block {X : Mat k m φ} {Y : Mat k n ψ} {e : Ix m' n' → Ix m n} {e0 : Ix k m' → Ix k m} {e1 : Ix k n' → Ix k n} (I : Fin m' → Fin m) (J : Fin n' → Fin n)
    (he : ∀ r c, e (ix2 r c) = ix2 (I r) (J c)) (h0 : ∀ s r, e0 (ix2 s r) = ix2 s (I r)) (h1 : ∀ s c, e1 (ix2 s c) = ix2 s (J c)) (y : Ix m' n') :
    (tn (fun i => X (e0 i) : Mat k m' φ) (fun i => Y (e1 i) : Mat k n' ψ) : Mat m' n' χ) y = (tn X Y : Mat m n χ) (e y) := by
  obtain ⟨r, c, rfl⟩ : ∃ r c, y = ix2 r c := ⟨y 0, y 1, eq_ix2 y⟩
  rw [he]
  exact tn_tile r c (fun s => congrArg X (h0 s r)) (fun s => congrArg Y (h1 s c))

theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Products

end
-- ==== Proof.UpDw.lean ====
/-
  The gradient of the up-projection's weight, over the reals: the call's result is the product of the transposed inputs and the
  cotangent, laid out in four groups of columns, and the reference's derivative is the same sums.
-/
module

public import proofs.«01_k».proof.Defs
public import proofs.«01_k».proof.Proof.Gen.Kernel2Ideal.Value
public import proofs.«01_k».proof.Proof.Gen.Reference2Ideal.Run
public import proofs.«01_k».proof.Proof.Products
public import Idealize.ShloMosaic.Lib.Pipeline.ValueKit.Geometry

@[expose] public section

set_option maxRecDepth 16384

noncomputable section

namespace Cert.Kernel2Ideal.Product

open Idealize.ShloMosaic Idealize.ShloMosaic.TcCoe Idealize.SL.Sem Idealize.ShloMosaic.StableHlo
open Cert.Kernel2Ideal Cert.Kernel2Ideal.Gen
open Cert.Products (zeros2 zeros3)

/-- Column `n` of group `g` among the columns of the two halves: its half and its place there. -/
def half (g : Fin 4) : Fin 2 := ⟨g.val / 2, by omega⟩
def place (g : Fin 4) (n : Fin 2816) : Fin 5632 := ⟨2816 * (g.val % 2) + n.val, by omega⟩

/-- The gradient: for each group of columns the sums over the rows. -/
def grad (X : FVec Ideal S4224x2048 .bf16) (D : FVec Ideal S2x4224x5632 .bf16) : FVec Ideal S4x2048x2816 .bf16 :=
  fun i => ∑ k : Fin 4224, (X (ix2 k (i 1)) * D (ix3 (half (i 0)) k (place (i 0) (i 2))) : EReal)

/-- What a point computes of its blocks. -/
theorem point (x0 : Vec Ideal S4224x512 .bf16) (x1 : Vec Ideal S1x4224x1408 .bf16) (z : Fin 1) (r : Fin 512) (n : Fin 1408) :
    (k0_pay1 x0 x1 : FVec Ideal S1x512x1408 .bf16) (ix3 z r n) = ∑ k : Fin 4224, (x0 (ix2 k r) * x1 (ix3 0 k n) : EReal) := by
  pointwise [k0_pay1]

/-! ## The windows' blocks -/

theorem ix0 : ∀ t : Fin cfg0.N, win0_0.index t = ![0, t.val / 8] := (by decide +kernel : ∀ t : Fin grid0.N, _)
theorem ix1 : ∀ t : Fin cfg0.N, win0_1.index t = ![t.val % 8 / 4, 0, t.val % 8 % 4] := (by decide +kernel : ∀ t : Fin grid0.N, _)
theorem ix2' : ∀ t : Fin cfg0.N, win0_2.index t = ![t.val % 8 / 2, t.val / 8, t.val % 8 % 2] := (by decide +kernel : ∀ t : Fin grid0.N, _)

theorem lt_N (t : Fin cfg0.N) : t.val < 32 := by have h := t.isLt; have e : cfg0.N = 32 := N_0; omega
/-- A point's group of columns, and the row and the column there of an entry of its block. -/
def gT (t : Fin cfg0.N) : Fin 4 := ⟨t.val % 8 / 2, by omega⟩
def rT (t : Fin cfg0.N) (r : Fin 512) : Fin 2048 := ⟨t.val / 8 * 512 + r.val, by have := lt_N t; omega⟩
def nT (t : Fin cfg0.N) (n : Fin 1408) : Fin 2816 := ⟨t.val % 8 % 2 * 1408 + n.val, by omega⟩

variable (m : (ℓ : Loc nD τ sig) → Buf (Elt Ideal) ℓ) (c : Dev nD) (t : Fin cfg0.N)

theorem rd0 (Z : FVec Ideal S4224x2048 .bf16) (k : Fin 4224) (r : Fin 512) :
    (((cfg0.win 0).blk t).view.read (Elt Ideal) (Z : Buf (Elt Ideal) ((c : Thread nD τ).loc main_arg0)) : Vec Ideal S4224x512 .bf16) (ix2 k r) = Z (ix2 k (rT t r)) := by
  show Z ((win0_0.blk t).view.emb (ix2 k r)) = _
  refine congrArg Z ?_
  blk_ext [ix0, rT]
theorem rd1 (Z : FVec Ideal S2x4224x5632 .bf16) (z : Fin 1) (k : Fin 4224) (n : Fin 1408) :
    (((cfg0.win 1).blk t).view.read (Elt Ideal) (Z : Buf (Elt Ideal) ((c : Thread nD τ).loc main_arg1)) : Vec Ideal S1x4224x1408 .bf16) (ix3 z k n) = Z (ix3 (half (gT t)) k (place (gT t) (nT t n))) := by
  show Z ((win0_1.blk t).view.emb (ix3 z k n)) = _
  refine congrArg Z ?_
  blk_ext [ix1, half, place, gT, nT]
theorem place2 (z : Fin 1) (r : Fin 512) (n : Fin 1408) :
    (win0_2.blk t).view.emb (ix3 z r n) = (ix3 (gT t) (rT t r) (nT t n) : S4x2048x2816.Idx) := by
  blk_ext [ix2', gT, rT, nT]

/-- The result array after the run. -/
theorem out : (dats m 0 c).arrAt 2 cfg0.N = grad (m ((c : Thread nD τ).loc main_arg0)) (m ((c : Thread nD τ).loc main_arg1)) := by
  refine (dats m 0 c).arrAt_eq_of_covers 2 (grad (m ((c : Thread nD τ).loc main_arg0)) (m ((c : Thread nD τ).loc main_arg1))) (by decide +kernel) fun t hf y => ?_
  show (dats m 0 c).after 2 t y = grad _ _ ((win0_2.blk t).view.emb y)
  rw [after0_2]
  unfold out0_2
  rw [View.canon_unit_zero zeros3, View.ld_unit_zero zeros2, View.ld_unit_zero zeros3]
  have hy : y = (ix3 (y 0) (y 1) (y 2) : S1x512x1408.Idx) := eq_ix3 (y : S1x512x1408.Idx)
  rw [hy]
  refine (point _ _ _ _ _).trans ?_
  refine Eq.trans ?_ (congrArg (grad _ _) (place2 t (y 0) (y 1) (y 2))).symm
  exact Finset.sum_congr rfl fun k _ => congrArg₂ (fun a b : EReal => a * b) (rd0 t _ k (y 1)) (rd1 t _ 0 k (y 2))

end Cert.Kernel2Ideal.Product

namespace Cert.Reference2Ideal.Product

open Idealize.ShloMosaic Idealize.ShloMosaic.TcCoe Idealize.SL.Sem Idealize.ShloMosaic.StableHlo
open Cert.Reference2Ideal Cert.Reference2Ideal.Gen
open Cert.Kernel2Ideal.Product (half place grad)

/-- The two halves side by side. -/
theorem sides (D : FVec Ideal S2x4224x5632 .bf16) (k : Fin 4224) (g : Fin 4) (n : Fin 2816) :
    (concatenate S4224x11264 1 [⟨S4224x5632, (shapeCast _ (extractStridedSlice S1x4224x5632 ![0, 0, 0] D slices_S2x4224x5632_S1x4224x5632_0_0_0) shapeCasts_S1x4224x5632_S4224x5632)⟩, ⟨S4224x5632, (shapeCast _ (extractStridedSlice S1x4224x5632 ![1, 0, 0] D slices_S2x4224x5632_S1x4224x5632_1_0_0) shapeCasts_S1x4224x5632_S4224x5632)⟩] concatenates_S4224x5632_S4224x5632_S4224x11264_d1 : FVec Ideal S4224x11264 .bf16)
      (ix2 k ⟨2816 * g.val + n.val, by omega⟩) = D (ix3 (half g) k (place g n)) := by
  pointwise []
  have hg := g.isLt
  have hn := n.isLt
  by_cases h : 2816 * g.val + n.val < 5632
  · rw [dif_pos h]
    refine congrArg D ?_
    have e : half g = 0 := Fin.ext (by show g.val / 2 = 0; omega)
    rw [e]
    exact congrArg (ix3 (0 : Fin 2) k) (Fin.ext (by show 2816 * g.val + n.val = 2816 * (g.val % 2) + n.val; omega))
  · rw [dif_neg h]
    refine congrArg D ?_
    have e : half g = 1 := Fin.ext (by show g.val / 2 = 1; omega)
    rw [e]
    exact congrArg (ix3 (1 : Fin 2) k) (Fin.ext (by show 2816 * g.val + n.val - 5632 = 2816 * (g.val % 2) + n.val; omega))

/-- The reference's result is the gradient. -/
theorem value (X : FVec Ideal S4224x2048 .bf16) (D : FVec Ideal S2x4224x5632 .bf16) :
    (transpose S4x2048x2816 [1, 0, 2] (shapeCast _ (truncf .bf16 (transpose S2048x11264 [1, 0] (Host.dotGeneral dot_S4224x11264_S4224x2048_S11264x2048_0_0_1_1_n_n none (extf .f32 (concatenate S4224x11264 1 [⟨S4224x5632, (shapeCast _ (extractStridedSlice S1x4224x5632 ![0, 0, 0] D slices_S2x4224x5632_S1x4224x5632_0_0_0) shapeCasts_S1x4224x5632_S4224x5632)⟩, ⟨S4224x5632, (shapeCast _ (extractStridedSlice S1x4224x5632 ![1, 0, 0] D slices_S2x4224x5632_S1x4224x5632_1_0_0) shapeCasts_S1x4224x5632_S4224x5632)⟩] concatenates_S4224x5632_S4224x5632_S4224x11264_d1) bitsLt_bf16_f32) (extf .f32 X bitsLt_bf16_f32)) transposes_S11264x2048_S2048x11264_1_0) bitsLt_bf16_f32) shapeCasts_S2048x11264_S2048x4x2816) transposes_S2048x4x2816_S4x2048x2816_1_0_2 : FVec Ideal S4x2048x2816 .bf16)
      = grad X D := by
  funext i
  obtain ⟨g, r, n, rfl⟩ : ∃ g r n, i = ix3 g r n := ⟨i 0, i 1, i 2, eq_ix3 i⟩
  have hs := fun k => sides D k g n
  revert hs
  generalize (concatenate S4224x11264 1 _ _ : FVec Ideal S4224x11264 .bf16) = C
  intro hs
  pointwise []
  refine Finset.sum_congr rfl fun k _ => ?_
  rw [mul_comm]
  refine congrArg (fun a : EReal => (X (ix2 k r) : EReal) * a) (Eq.trans (congrArg C ?_) (hs k))
  exact congrArg (ix2 k) (Fin.ext (by show g.val * 2816 + n.val = 2816 * g.val + n.val; omega))

end Cert.Reference2Ideal.Product

namespace Cert.UpDw

open Idealize.ShloMosaic Idealize.ShloMosaic.TcCoe Idealize.SL.Sem
open Cert.Kernel2Ideal.Product (grad)

/-- The reference ends with its arguments and its semaphores as they were. -/
theorem referenceFrame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Run from the same arguments, the call and the derivative end with the same gradient, and with their arguments unchanged. -/
theorem algebraic : Cert.algebraic_Kernel2Ideal_Reference2Ideal := by
  intro m g m' g' _ hs
  refine ⟨fun c => grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run _ _ _).mono (fun r h c => ⟨(h c).1.trans (Cert.Kernel2Ideal.Product.out m c), (h c).2⟩) (Cert.Kernel2Ideal.Value.run_blocks m g)
  · refine (θ_run _ _ _).mono (fun r h c => ⟨(h c).1.trans ?_, (h c).2⟩) (Cert.Reference2Ideal.Value.run (F := Ideal) m' g')
    rw [(hs c).1, (hs c).2]
    exact Cert.Reference2Ideal.Product.value _ _

end Cert.UpDw

end
-- ==== Proof.UpDx.lean ====
/-
  The gradient by the up-projection's input, over the reals: four grid steps in a row add up the products with the four groups
  of the weight's columns in an accumulator, and the last writes the sum out; the reference's derivative is the product with
  all columns at once.
-/
module

public import proofs.«01_k».proof.Defs
public import proofs.«01_k».proof.Proof.Gen.Kernel3Ideal.Frame
public import proofs.«01_k».proof.Proof.Gen.Reference3Ideal.Run
public import proofs.«01_k».proof.Proof.UpDw

@[expose] public section

set_option maxRecDepth 16384

noncomputable section

namespace Cert.Kernel3Ideal.Product

open Idealize.ShloMosaic Idealize.ShloMosaic.TcCoe Idealize.SL.Sem
open Cert.Kernel3Ideal Cert.Kernel3Ideal.Gen
open Cert.Products (zeros2 zeros3 entry)
open Cert.Kernel2Ideal.Product (half place)

/-! ## What the body stores, case by case -/

section cases
variable {F : FTy → Type} [FloatOps F] (c : Dev nD) (i : grid0.Coords)
  (a3 : Memref sig .tc .vmem S1x704x2816 .bf16) (h3 : a3.IsWhole) (a4 : Memref sig .tc .vmem S1x1024x2816 .bf16) (h4 : a4.IsWhole)
  (a5 : Memref sig .tc .vmem S704x1024 .f32) (h5 : a5.IsWhole) (a6 : Memref sig .tc .vmem S704x1024 .f32) (h6 : a6.IsWhole)
  (x0 : Vec F S1x704x2816 .bf16) (x1 : Vec F S1x1024x2816 .bf16) (s : Vec F S704x1024 .f32)

/-- The first of four steps puts its product into the accumulator. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  simp only [View.readAt_eq_ld, h3.read_unread, h4.read_unread, View.ld_unit_zero (S := S1x704x2816) zeros3, View.ld_unit_zero (S := S1x1024x2816) zeros3]

/-- The two in the middle add theirs to it. -/
theorem middle (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zeros2]
  simp only [View.readAt_eq_ld, h3.read_unread, h4.read_unread, h6.read_unread, View.ld_unit_zero (S := S1x704x2816) zeros3, View.ld_unit_zero (S := S1x1024x2816) zeros3, View.ld_unit_zero (S := S704x1024) zeros2]

/-- The last adds its own and writes the sum out. -/
theorem last (hc0 : ¬cond0_0 i) (hc1 : cond0_1 i) (hc2 : cond0_2 i) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zeros2, View.readCov_unit_zero (S := S704x1024) _ zeros2]
  simp only [View.readAt_eq_ld, h3.read_unread, h4.read_unread, h6.read_unread, View.ld_unit_zero (S := S1x704x2816) zeros3, View.ld_unit_zero (S := S1x1024x2816) zeros3, View.ld_unit_zero (S := S704x1024) zeros2]

end cases

/-! ## Over the reals -/

/-- An entry's sum over the columns of one group. -/
def part (D : FVec Ideal S2x4224x5632 .bf16) (W : FVec Ideal S4x2048x2816 .bf16) (g : Fin 4) (a : Fin 4224) (b : Fin 2048) : EReal :=
  ∑ k : Fin 2816, (D (ix3 (half g) a (place g k)) * W (ix3 g b k) : EReal)

/-- The gradient: the sum over the four groups. -/
def product (D : FVec Ideal S2x4224x5632 .bf16) (W : FVec Ideal S4x2048x2816 .bf16) : FVec Ideal S4224x2048 .f32 :=
  fun i => (∑ g : Fin 4, part D W g (i 0) (i 1) : EReal)

/-- An entry's sum over the columns of two blocks. -/
def dot (x0 : Vec Ideal S1x704x2816 .bf16) (x1 : Vec Ideal S1x1024x2816 .bf16) (r : Fin 704) (n : Fin 1024) : EReal :=
  ∑ k : Fin 2816, (x0 (ix3 0 r k) * x1 (ix3 0 n k) : EReal)

variable (x0 : Vec Ideal S1x704x2816 .bf16) (x1 : Vec Ideal S1x1024x2816 .bf16) (s : Vec Ideal S704x1024 .f32) (r : Fin 704) (n : Fin 1024)

theorem start : (k0_pay2 x0 x1 : FVec Ideal S704x1024 .f32) (ix2 r n) = dot x0 x1 r n := by
  pointwise [k0_pay2, k0_pay1, dot]
theorem add : (k0_pay3 x0 x1 s : FVec Ideal S704x1024 .f32) (ix2 r n) = ((s (ix2 r n) : EReal) + dot x0 x1 r n) := by
  pointwise [k0_pay3, k0_pay1, dot]

theorem at0 : ∀ t : Fin cfg0.N, win0_0.index t = ![t.val % 4 / 2, t.val / 8, t.val % 2] := (by decide +kernel : ∀ t : Fin grid0.N, _)
theorem at1 : ∀ t : Fin cfg0.N, win0_1.index t = ![t.val % 4, t.val / 4 % 2, 0] := (by decide +kernel : ∀ t : Fin grid0.N, _)
theorem at2 : ∀ t : Fin cfg0.N, win0_2.index t = ![t.val / 8, t.val / 4 % 2] := (by decide +kernel : ∀ t : Fin grid0.N, _)

/-- A step's group, and the row and the column of an entry of its tile. -/
def group (t : Fin cfg0.N) : Fin 4 := ⟨t.val % 4, by omega⟩
def row (t : Fin cfg0.N) (r : Fin 704) : Fin 4224 := entry 704 4224 (t.val / 8) r (by have h := t.isLt; have e : cfg0.N = 48 := N_0; omega)
def col (t : Fin cfg0.N) (n : Fin 1024) : Fin 2048 := entry 1024 2048 (t.val / 4 % 2) n (by omega)

variable (m : (ℓ : Loc nD τ sig) → Buf (Elt Ideal) ℓ) (c : Dev nD)

/-- A step's blocks give its group's sum. -/
theorem step (t : Fin cfg0.N) (r : Fin 704) (n : Fin 1024) :
    dot (iblk m c 0 t) (iblk m c 1 t) r n = part (m ((c : Thread nD τ).loc main_arg0)) (m ((c : Thread nD τ).loc main_arg1)) (group t) (row t r) (col t n) := by
  refine Finset.sum_congr rfl fun k _ => congrArg₂ (fun a b : EReal => a * b)
    (congrArg (m ((c : Thread nD τ).loc main_arg0)) ?_) (congrArg (m ((c : Thread nD τ).loc main_arg1)) ?_)
  · show (win0_0.blk t).view.emb (ix3 0 r k) = (ix3 (half (group t)) (row t r) (place (group t) k) : S2x4224x5632.Idx)
    blk_ext [at0, half, place, group, row, entry]
  · show (win0_1.blk t).view.emb (ix3 0 n k) = (ix3 (group t) (col t n) k : S4x2048x2816.Idx)
    blk_ext [at1, group, col, entry]

/-- After the first step of a tile the accumulator holds its sum. -/
theorem acc_first (t : Fin cfg0.N) (ht : t.val % 4 = 0) (r : Fin 704) (n : Fin 1024) :
    (outsAt0 m c t.val t.isLt).2 (ix2 r n) = part (m ((c : Thread nD τ).loc main_arg0)) (m ((c : Thread nD τ).loc main_arg1)) (group t) (row t r) (col t n) := by
  rw [outsAt0_A m c t ht (by omega) (by omega)]
  dsimp only
  rw [first]
  exact (start _ _ r n).trans (step m c t r n)

/-- After each of the next two, the sum of what it held and of the step's own. -/
theorem acc_next (t : Fin cfg0.N) (ht : t.val % 4 = 1 ∨ t.val % 4 = 2) (r : Fin 704) (n : Fin 1024) :
    (outsAt0 m c t.val t.isLt).2 (ix2 r n) = ((outsAt0 m c (t.val - 1) (by have := t.isLt; omega)).2 (ix2 r n) : EReal) + part (m ((c : Thread nD τ).loc main_arg0)) (m ((c : Thread nD τ).loc main_arg1)) (group t) (row t r) (col t n) := by
  rw [outsAt0_B m c t (by omega) (by omega) (by omega)]
  dsimp only
  rw [middle]
  exact (add _ _ _ r n).trans (congrArg (fun a : EReal => _ + a) (step m c t r n))

/-- The last step's window holds the sum of what the accumulator held and of its own. -/
theorem out_last (t : Fin cfg0.N) (ht : t.val % 4 = 3) (r : Fin 704) (n : Fin 1024) :
    (outsAt0 m c t.val t.isLt).1 (ix2 r n) = ((outsAt0 m c (t.val - 1) (by have := t.isLt; omega)).2 (ix2 r n) : EReal) + part (m ((c : Thread nD τ).loc main_arg0)) (m ((c : Thread nD τ).loc main_arg1)) (group t) (row t r) (col t n) := by
  rw [outsAt0_C m c t (by omega) (by omega) ht]
  dsimp only
  rw [last]
  exact (add _ _ _ r n).trans (congrArg (fun a : EReal => _ + a) (step m c t r n))

/-- A tile that is written out has the sums over all four groups. -/
theorem tile (t : Fin cfg0.N) (ht : t.val % 4 = 3) (r : Fin 704) (n : Fin 1024) :
    (outsAt0 m c t.val t.isLt).1 (ix2 r n) = (∑ g : Fin 4, part (m ((c : Thread nD τ).loc main_arg0)) (m ((c : Thread nD τ).loc main_arg1)) g (row t r) (col t n) : EReal) := by
  have hN : cfg0.N = 48 := N_0
  have hlt := t.isLt
  have e0 := acc_first m c ⟨t.val - 1 - 1 - 1, by omega⟩ (by dsimp only; omega) r n
  have e1 := acc_next m c ⟨t.val - 1 - 1, by omega⟩ (by dsimp only; omega) r n
  have e2 := acc_next m c ⟨t.val - 1, by omega⟩ (by dsimp only; omega) r n
  have e3 := out_last m c t ht r n
  have g0 : group ⟨t.val - 1 - 1 - 1, by omega⟩ = 0 := Fin.ext (by show (t.val - 1 - 1 - 1) % 4 = 0; omega)
  have g1 : group ⟨t.val - 1 - 1, by omega⟩ = 1 := Fin.ext (by show (t.val - 1 - 1) % 4 = 1; omega)
  have g2 : group ⟨t.val - 1, by omega⟩ = 2 := Fin.ext (by show (t.val - 1) % 4 = 2; omega)
  have g3 : group t = 3 := Fin.ext ht
  have hr : ∀ u : Fin cfg0.N, u.val / 4 = t.val / 4 → row u r = row t r := fun u hu => Fin.ext (by
    show u.val / 8 * 704 + r.val = t.val / 8 * 704 + r.val
    have : u.val / 8 = t.val / 8 := by omega
    rw [this])
  have hc : ∀ u : Fin cfg0.N, u.val / 4 = t.val / 4 → col u n = col t n := fun u hu => Fin.ext (by
    show u.val / 4 % 2 * 1024 + n.val = t.val / 4 % 2 * 1024 + n.val
    rw [hu])
  rw [g0, hr _ (by dsimp only; omega), hc _ (by dsimp only; omega)] at e0
  rw [g1, hr _ (by dsimp only; omega), hc _ (by dsimp only; omega)] at e1
  rw [g2, hr _ (by dsimp only; omega), hc _ (by dsimp only; omega)] at e2
  rw [g3] at e3
  dsimp only at e0 e1 e2
  rw [e3, e2, e1, e0, Fin.sum_univ_four]

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  obtain ⟨r, n, rfl⟩ : ∃ r n, y = (ix2 r n : S704x1024.Idx) := ⟨y 0, y 1, eq_ix2 (y : S704x1024.Idx)⟩
  have e : (win0_2.blk t).view.emb (ix2 r n) = (ix2 (row t r) (col t n) : S4224x2048.Idx) := by
    blk_ext [at2, row, col, entry]
  rw [e]
  exact tile m c t ((flush0_2 t).mp hf) r n

/-- The run, with its result. -/
theorem run (g : Dev nD → PrngReg) : θ_run defs (onTc (τ := τ) (main (F := Ideal))) ⟨m, fun _ => 0, g⟩ fun r => ∀ c : Dev nD,
    r.2.mem ((c : Thread nD τ).loc main_v0) = product (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m g)

end Cert.Kernel3Ideal.Product

namespace Cert.UpDx

open Idealize.ShloMosaic Idealize.ShloMosaic.TcCoe Idealize.SL.Sem Idealize.ShloMosaic.StableHlo
open Cert.Reference3Ideal Cert.Reference3Ideal.Gen
open Cert.Kernel2Ideal.Product (half place)
open Cert.Kernel3Ideal.Product (product)

/-- A sum over all columns, group by group. -/
theorem sum_groups (f : Fin 11264 → EReal) : ∑ q, f q = ∑ g : Fin 4, ∑ k : Fin 2816, f ⟨2816 * g.val + k.val, by omega⟩ := by
  rw [← Fintype.sum_prod_type' (fun (g : Fin 4) (k : Fin 2816) => f ⟨2816 * g.val + k.val, by omega⟩)]
  refine (Fintype.sum_equiv (finProdFinEquiv (m := 4) (n := 2816)) _ _ fun p => congrArg f (Fin.ext ?_)).symm
  show 2816 * p.1.val + p.2.val = p.2.val + 2816 * p.1.val
  omega

/-- The reference's result is the gradient. -/
theorem value (D : FVec Ideal S2x4224x5632 .bf16) (W : FVec Ideal S4x2048x2816 .bf16) :
    (Host.dotGeneral dot_S4224x11264_S2048x11264_S4224x2048_1_1_0_0_n_n none (extf .f32 (concatenate S4224x11264 1 [⟨S4224x5632, (shapeCast _ (extractStridedSlice S1x4224x5632 ![0, 0, 0] D slices_S2x4224x5632_S1x4224x5632_0_0_0) shapeCasts_S1x4224x5632_S4224x5632)⟩, ⟨S4224x5632, (shapeCast _ (extractStridedSlice S1x4224x5632 ![1, 0, 0] D slices_S2x4224x5632_S1x4224x5632_1_0_0) shapeCasts_S1x4224x5632_S4224x5632)⟩] concatenates_S4224x5632_S4224x5632_S4224x11264_d1) bitsLt_bf16_f32) (extf .f32 (shapeCast _ (transpose S2048x4x2816 [1, 0, 2] W transposes_S4x2048x2816_S2048x4x2816_1_0_2) shapeCasts_S2048x4x2816_S2048x11264) bitsLt_bf16_f32) : FVec Ideal S4224x2048 .f32)
      = product D W := by
  funext i
  obtain ⟨a, b, rfl⟩ : ∃ a b, i = ix2 a b := ⟨i 0, i 1, eq_ix2 i⟩
  have hs := Cert.Reference2Ideal.Product.sides D a
  revert hs
  generalize (concatenate S4224x11264 1 _ _ : FVec Ideal S4224x11264 .bf16) = C
  intro hs
  pointwise []
  refine (sum_groups _).trans ?_
  refine Finset.sum_congr rfl fun g _ => Finset.sum_congr rfl fun k _ => congrArg₂ (fun a b : EReal => a * b) (hs g k) (congrArg W ?_)
  refine congrArg₂ (fun x y => (ix3 x b y : S4x2048x2816.Idx)) (Fin.ext ?_) (Fin.ext ?_)
  · show _ = g.val
    dsimp only
    omega
  · show _ = k.val
    dsimp only
    omega

/-- The reference ends with its arguments and its semaphores as they were. -/
theorem referenceFrame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Run from the same arguments, the call and the derivative end with the same gradient, and with their arguments unchanged. -/
theorem algebraic : Cert.algebraic_Kernel3Ideal_Reference3Ideal := by
  intro m g m' g' _ hs
  refine ⟨fun c => product (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact Cert.Kernel3Ideal.Product.run m g
  · refine (θ_run _ _ _).mono (fun r h c => ⟨(h c).1.trans ?_, (h c).2⟩) (Cert.Reference3Ideal.Value.run (F := Ideal) m' g')
    rw [(hs c).1, (hs c).2]
    exact value _ _

end Cert.UpDx

end
-- ==== Proof.Up.lean ====
/-
  The up-projection over the reals: the call takes the weight in four groups of columns and gives the gate's and the up half's
  columns as two arrays; each tile is the product of rows of the inputs and columns of one group.
-/
module

public import proofs.«01_k».proof.Defs
public import proofs.«01_k».proof.Proof.Gen.Kernel4Ideal.Value
public import proofs.«01_k».proof.Proof.Gen.Reference4Ideal.Run
public import proofs.«01_k».proof.Proof.Products
public import Idealize.ShloMosaic.Lib.Pipeline.ValueKit.Geometry

@[expose] public section

set_option maxRecDepth 16384

noncomputable section

namespace Cert.Kernel4Ideal.Product

open Idealize.ShloMosaic Idealize.ShloMosaic.TcCoe Idealize.SL.Sem
open Cert.Kernel4Ideal Cert.Kernel4Ideal.Gen Cert.Products

/-- Column `j` of half `h` among the weight's groups: its group and its place there. -/
def group (h : Fin 2) (j : Fin 5632) : Fin 4 := ⟨2 * h.val + j.val / 2816, by omega⟩
def spot (j : Fin 5632) : Fin 2816 := ⟨j.val % 2816, by omega⟩

/-- The product, as two halves. -/
def product (X : FVec Ideal S4224x2048 .bf16) (W : FVec Ideal S4x2048x2816 .bf16) : FVec Ideal S2x4224x5632 .f32 :=
  fun i => (∑ k : Fin 2048, X (ix2 (i 1) k) * W (ix3 (group (i 0) (i 2)) k (spot (i 2))) : EReal)

/-- What a grid step computes of its blocks. -/
theorem point (x0 : Vec Ideal S1408x2048 .bf16) (x1 : Vec Ideal S1x2048x1408 .bf16) (z : Fin 1) (r : Fin 1408) (n : Fin 1408) :
    (k0_pay1 x0 x1 : FVec Ideal S1x1408x1408 .f32) (ix3 z r n) = ∑ k : Fin 2048, (x0 (ix2 r k) * x1 (ix3 0 k n) : EReal) := by
  pointwise [k0_pay1]

theorem at0 : ∀ t : Fin cfg0.N, win0_0.index t = ![t.val / 8, 0] := (by decide +kernel : ∀ t : Fin grid0.N, _)
theorem at1 : ∀ t : Fin cfg0.N, win0_1.index t = ![t.val % 8 / 2, 0, t.val % 8 % 2] := (by decide +kernel : ∀ t : Fin grid0.N, _)
theorem at2 : ∀ t : Fin cfg0.N, win0_2.index t = ![t.val % 8 / 4, t.val / 8, t.val % 8 % 4] := (by decide +kernel : ∀ t : Fin grid0.N, _)

/-- A step's half, and the row and the column there of an entry of its tile. -/
def halfOf (t : Fin cfg0.N) : Fin 2 := ⟨t.val % 8 / 4, by omega⟩
def row (t : Fin cfg0.N) (r : Fin 1408) : Fin 4224 := entry 1408 4224 (t.val / 8) r (by have h := t.isLt; have e : cfg0.N = 24 := N_0; omega)
def col (t : Fin cfg0.N) (n : Fin 1408) : Fin 5632 := entry 1408 5632 (t.val % 8 % 4) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros3, View.ld_unit_zero zeros2, View.ld_unit_zero zeros3]
  obtain ⟨z, r, n, rfl⟩ : ∃ z r n, y = (ix3 z r n : S1x1408x1408.Idx) := ⟨y 0, y 1, y 2, eq_ix3 (y : S1x1408x1408.Idx)⟩
  have e : (win0_2.blk t).view.emb (ix3 z r n) = (ix3 (halfOf t) (row t r) (col t n) : S2x4224x5632.Idx) := by
    blk_ext [at2, halfOf, row, col, entry]
  rw [e]
  refine (point _ _ _ _ _).trans (Finset.sum_congr rfl fun k _ => congrArg₂ (fun a b : EReal => a * b)
    (congrArg (m ((c : Thread nD τ).loc main_arg0)) ?_) (congrArg (m ((c : Thread nD τ).loc main_arg1)) ?_))
  · show (win0_0.blk t).view.emb (ix2 r k) = (ix2 (row t r) k : S4224x2048.Idx)
    blk_ext [at0, row, entry]
  · show (win0_1.blk t).view.emb (ix3 0 k n) = (ix3 (group (halfOf t) (col t n)) k (spot (col t n)) : S4x2048x2816.Idx)
    blk_ext [at1, group, spot, halfOf, col, entry]

end Cert.Kernel4Ideal.Product

namespace Cert.Up

open Idealize.ShloMosaic Idealize.ShloMosaic.TcCoe Idealize.SL.Sem
open Cert.Reference4Ideal Cert.Reference4Ideal.Gen
open Cert.Kernel4Ideal.Product (group spot product)

/-- The reference's result is the product. -/
theorem value (X : FVec Ideal S4224x2048 .bf16) (W : FVec Ideal S4x2048x2816 .bf16) :
    (transpose S2x4224x5632 [1, 0, 2] (shapeCast _ (Host.dotGeneral dot_S4224x2048_S2048x11264_S4224x11264_1_0_0_1_n_n none (extf .f32 X bitsLt_bf16_f32) (extf .f32 (shapeCast _ (transpose S2048x4x2816 [1, 0, 2] W transposes_S4x2048x2816_S2048x4x2816_1_0_2) shapeCasts_S2048x4x2816_S2048x11264) bitsLt_bf16_f32)) shapeCasts_S4224x11264_S4224x2x5632) transposes_S4224x2x5632_S2x4224x5632_1_0_2 : FVec Ideal S2x4224x5632 .f32) = product X W := by
  funext i
  obtain ⟨h, r, j, rfl⟩ : ∃ h r j, i = ix3 h r j := ⟨i 0, i 1, i 2, eq_ix3 i⟩
  pointwise [product]
  refine Finset.sum_congr rfl fun k _ => congrArg (fun a : EReal => (X (ix2 r k) : EReal) * a) (congrArg W ?_)
  refine congrArg₂ (fun a b => (ix3 a k b : S4x2048x2816.Idx)) (Fin.ext ?_) (Fin.ext ?_)
  · show _ = 2 * h.val + j.val / 2816
    dsimp only
    omega
  · show _ = j.val % 2816
    dsimp only
    omega

/-- The reference ends with its arguments and its semaphores as they were. -/
theorem referenceFrame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- Run from the same arguments, call and reference end with the same product, and with their arguments unchanged. -/
theorem algebraic : Cert.algebraic_Kernel4Ideal_Reference4Ideal := by
  intro m g m' g' _ hs
  refine ⟨fun c => product (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run _ _ _).mono (fun r h c => ⟨(h c).1.trans (Cert.Kernel4Ideal.Product.out m c), (h c).2⟩) (Cert.Kernel4Ideal.Value.run_blocks m g)
  · refine (θ_run _ _ _).mono (fun r h c => ⟨(h c).1.trans ?_, (h c).2⟩) (Cert.Reference4Ideal.Value.run (F := Ideal) m' g')
    rw [(hs c).1, (hs c).2]
    exact value _ _

end Cert.Up

end
-- ==== Proof.InDw.lean ====
/-
  The gradient of the input projection's weight, over the reals: in each tile the call has the product of a block of the
  transposed inputs and a block of the cotangent; the reference's derivative is the whole product.
-/
module

public import proofs.«01_k».proof.Defs
public import proofs.«01_k».proof.Proof.Gen.Kernel5Ideal.Value
public import proofs.«01_k».proof.Proof.Gen.Reference5Ideal.Run
public import proofs.«01_k».proof.Proof.Products
public import Idealize.ShloMosaic.Lib.Pipeline.ValueKit.Geometry

@[expose] public section

set_option maxRecDepth 16384

noncomputable section

namespace Cert.Kernel5Ideal.Product

open Idealize.ShloMosaic Idealize.ShloMosaic.TcCoe Idealize.SL.Sem
open Cert.Kernel5Ideal Cert.Kernel5Ideal.Gen Cert.Products

/-- The gradient. -/
abbrev product (X : Mat 4224 2048 .bf16) (D : Mat 4224 6272 .bf16) : Mat 2048 6272 .bf16 := tn X D

/-- What a grid step computes of its blocks. -/
theorem point (x0 : Mat 4224 1024 .bf16) (x1 : Mat 4224 896 .bf16) : k0_pay1 (F := Ideal) x0 x1 = tn x0 x1 := by
  funext i
  obtain ⟨r, n, rfl⟩ : ∃ r n, i = ix2 r n := ⟨i 0, i 1, eq_ix2 i⟩
  pointwise [k0_pay1, tn]

theorem at0 : ∀ t : Fin cfg0.N, win0_0.index t = ![0, t.val / 7] := (by decide +kernel : ∀ t : Fin grid0.N, _)
theorem at1 : ∀ t : Fin cfg0.N, win0_1.index t = ![0, t.val % 7] := (by decide +kernel : ∀ t : Fin grid0.N, _)
theorem at2 : ∀ t : Fin cfg0.N, win0_2.index t = ![t.val / 7, t.val % 7] := (by decide +kernel : ∀ t : Fin grid0.N, _)

/-- The row and the column of an entry of a step's tile. -/
def row (t : Fin cfg0.N) (r : Fin 1024) : Fin 2048 := entry 1024 2048 (t.val / 7) r (by have h := t.isLt; have e : cfg0.N = 14 := N_0; omega)
def col (t : Fin cfg0.N) (n : Fin 896) : Fin 6272 := entry 896 6272 (t.val % 7) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact tn_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel5Ideal.Product

namespace Cert.InDw

open Idealize.ShloMosaic Idealize.ShloMosaic.TcCoe Idealize.SL.Sem
open Cert.Reference5Ideal Cert.Reference5Ideal.Gen Cert.Products

/-- The reference's result is the product. -/
theorem value (X : Mat 4224 2048 .bf16) (D : Mat 4224 6272 .bf16) :
    (truncf .bf16 (transpose S2048x6272 [1, 0] (Host.dotGeneral dot_S4224x6272_S4224x2048_S6272x2048_0_0_1_1_n_n none (extf .f32 D bitsLt_bf16_f32) (extf .f32 X bitsLt_bf16_f32)) transposes_S6272x2048_S2048x6272_1_0) bitsLt_bf16_f32 : FVec Ideal S2048x6272 .bf16) = Cert.Kernel5Ideal.Product.product X D := by
  funext i
  obtain ⟨r, n, rfl⟩ : ∃ r n, i = ix2 r n := ⟨i 0, i 1, eq_ix2 i⟩
  pointwise [Cert.Kernel5Ideal.Product.product, tn]
  exact Finset.sum_congr rfl fun s _ => mul_comm _ _

/-- The reference ends with its arguments and its semaphores as they were. -/
theorem referenceFrame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- Run from the same arguments, call and reference end with the same product, and with their arguments unchanged. -/
theorem algebraic : Cert.algebraic_Kernel5Ideal_Reference5Ideal := by
  intro m g m' g' _ hs
  refine ⟨fun c => Cert.Kernel5Ideal.Product.product (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run _ _ _).mono (fun r h c => ⟨(h c).1.trans (Cert.Kernel5Ideal.Product.out m c), (h c).2⟩) (Cert.Kernel5Ideal.Value.run_blocks m g)
  · refine (θ_run _ _ _).mono (fun r h c => ⟨(h c).1.trans ?_, (h c).2⟩) (Cert.Reference5Ideal.Value.run (F := Ideal) m' g')
    rw [(hs c).1, (hs c).2]
    exact value _ _

end Cert.InDw

end
-- ==== Proof.InDx.lean ====
/-
  The gradient of the input projection by its input, over the reals: in each tile the call has the product of rows of both factors; the
  reference has the whole product.
-/
module

public import proofs.«01_k».proof.Defs
public import proofs.«01_k».proof.Proof.Gen.Kernel6Ideal.Value
public import proofs.«01_k».proof.Proof.Gen.Reference6Ideal.Run
public import proofs.«01_k».proof.Proof.Products
public import Idealize.ShloMosaic.Lib.Pipeline.ValueKit.Geometry

@[expose] public section

set_option maxRecDepth 16384

noncomputable section

namespace Cert.Kernel6Ideal.Product

open Idealize.ShloMosaic Idealize.ShloMosaic.TcCoe Idealize.SL.Sem
open Cert.Kernel6Ideal Cert.Kernel6Ideal.Gen Cert.Products

/-- The product. -/
abbrev product (X : Mat 4224 6272 .bf16) (Y : Mat 2048 6272 .bf16) : Mat 4224 2048 .f32 := nt X Y

/-- What a grid step computes of its blocks. -/
theorem point (x0 : Mat 704 6272 .bf16) (x1 : Mat 1024 6272 .bf16) : k0_pay1 (F := Ideal) x0 x1 = nt x0 x1 := by
  funext i
  obtain ⟨r, n, rfl⟩ : ∃ r n, i = ix2 r n := ⟨i 0, i 1, eq_ix2 i⟩
  pointwise [k0_pay1, nt]

theorem at0 : ∀ t : Fin cfg0.N, win0_0.index t = ![t.val / 2, 0] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, t.val % 2] := (by decide +kernel : ∀ t : Fin grid0.N, _)

/-- The row and the column of an entry of a step's tile. -/
def row (t : Fin cfg0.N) (r : Fin 704) : Fin 4224 := entry 704 4224 (t.val / 2) r (by have h := t.isLt; have e : cfg0.N = 12 := N_0; omega)
def col (t : Fin cfg0.N) (n : Fin 1024) : Fin 2048 := entry 1024 2048 (t.val % 2) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact nt_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel6Ideal.Product

namespace Cert.InDx

open Idealize.ShloMosaic Idealize.ShloMosaic.TcCoe Idealize.SL.Sem
open Cert.Reference6Ideal Cert.Reference6Ideal.Gen Cert.Products

/-- The reference's result is the product. -/
theorem value (X : Mat 4224 6272 .bf16) (Y : Mat 2048 6272 .bf16) :
    (Host.dotGeneral dot_S4224x6272_S2048x6272_S4224x2048_1_1_0_0_n_n none (extf .f32 X bitsLt_bf16_f32) (extf .f32 Y bitsLt_bf16_f32) : FVec Ideal S4224x2048 .f32) = Cert.Kernel6Ideal.Product.product X Y := by
  funext i
  obtain ⟨r, n, rfl⟩ : ∃ r n, i = ix2 r n := ⟨i 0, i 1, eq_ix2 i⟩
  pointwise [Cert.Kernel6Ideal.Product.product, nt]

/-- The reference ends with its arguments and its semaphores as they were. -/
theorem referenceFrame : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- Run from the same arguments, call and reference end with the same product, and with their arguments unchanged. -/
theorem algebraic : Cert.algebraic_Kernel6Ideal_Reference6Ideal := by
  intro m g m' g' _ hs
  refine ⟨fun c => Cert.Kernel6Ideal.Product.product (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run _ _ _).mono (fun r h c => ⟨(h c).1.trans (Cert.Kernel6Ideal.Product.out m c), (h c).2⟩) (Cert.Kernel6Ideal.Value.run_blocks m g)
  · refine (θ_run _ _ _).mono (fun r h c => ⟨(h c).1.trans ?_, (h c).2⟩) (Cert.Reference6Ideal.Value.run (F := Ideal) m' g')
    rw [(hs c).1, (hs c).2]
    exact value _ _

end Cert.InDx

end
-- ==== Proof.Qkv.lean ====
/-
  The projection to q, k and v, over the reals: in each tile the call has the product of rows of the one factor and columns of the other; the
  reference has the whole product.
-/
module

public import proofs.«01_k».proof.Defs
public import proofs.«01_k».proof.Proof.Gen.Kernel7Ideal.Value
public import proofs.«01_k».proof.Proof.Gen.Reference7Ideal.Run
public import proofs.«01_k».proof.Proof.Products
public import Idealize.ShloMosaic.Lib.Pipeline.ValueKit.Geometry

@[expose] public section

set_option maxRecDepth 16384

noncomputable section

namespace Cert.Kernel7Ideal.Product

open Idealize.ShloMosaic Idealize.ShloMosaic.TcCoe Idealize.SL.Sem
open Cert.Kernel7Ideal Cert.Kernel7Ideal.Gen Cert.Products

/-- The product. -/
abbrev product (X : Mat 4224 2048 .bf16) (Y : Mat 2048 6144 .bf16) : Mat 4224 6144 .bf16 := nn X Y

/-- What a grid step computes of its blocks. -/
theorem point (x0 : Mat 1408 2048 .bf16) (x1 : Mat 2048 1024 .bf16) : k0_pay1 (F := Ideal) x0 x1 = nn x0 x1 := by
  funext i
  obtain ⟨r, n, rfl⟩ : ∃ r n, i = ix2 r n := ⟨i 0, i 1, eq_ix2 i⟩
  pointwise [k0_pay1, nn]

theorem at0 : ∀ t : Fin cfg0.N, win0_0.index t = ![t.val / 6, 0] := (by decide +kernel : ∀ t : Fin grid0.N, _)
theorem at1 : ∀ t : Fin cfg0.N, win0_1.index t = ![0, t.val % 6] := (by decide +kernel : ∀ t : Fin grid0.N, _)
theorem at2 : ∀ t : Fin cfg0.N, win0_2.index t = ![t.val / 6, t.val % 6] := (by decide +kernel : ∀ t : Fin grid0.N, _)

/-- The row and the column of an entry of a step's tile. -/
def row (t : Fin cfg0.N) (r : Fin 1408) : Fin 4224 := entry 1408 4224 (t.val / 6) r (by have h := t.isLt; have e : cfg0.N = 18 := N_0; omega)
def col (t : Fin cfg0.N) (n : Fin 1024) : Fin 6144 := entry 1024 6144 (t.val % 6) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact nn_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel7Ideal.Product

namespace Cert.Qkv

open Idealize.ShloMosaic Idealize.ShloMosaic.TcCoe Idealize.SL.Sem
open Cert.Reference7Ideal Cert.Reference7Ideal.Gen Cert.Products

/-- The reference's result is the product. -/
theorem value (X : Mat 4224 2048 .bf16) (Y : Mat 2048 6144 .bf16) :
    (truncf .bf16 (Host.dotGeneral dot_S4224x2048_S2048x6144_S4224x6144_1_0_0_1_n_n none (extf .f32 X bitsLt_bf16_f32) (extf .f32 Y bitsLt_bf16_f32)) bitsLt_bf16_f32 : FVec Ideal S4224x6144 .bf16) = Cert.Kernel7Ideal.Product.product X Y := by
  funext i
  obtain ⟨r, n, rfl⟩ : ∃ r n, i = ix2 r n := ⟨i 0, i 1, eq_ix2 i⟩
  pointwise [Cert.Kernel7Ideal.Product.product, nn]

/-- The reference ends with its arguments and its semaphores as they were. -/
theorem referenceFrame : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- Run from the same arguments, call and reference end with the same product, and with their arguments unchanged. -/
theorem algebraic : Cert.algebraic_Kernel7Ideal_Reference7Ideal := by
  intro m g m' g' _ hs
  refine ⟨fun c => Cert.Kernel7Ideal.Product.product (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run _ _ _).mono (fun r h c => ⟨(h c).1.trans (Cert.Kernel7Ideal.Product.out m c), (h c).2⟩) (Cert.Kernel7Ideal.Value.run_blocks m g)
  · refine (θ_run _ _ _).mono (fun r h c => ⟨(h c).1.trans ?_, (h c).2⟩) (Cert.Reference7Ideal.Value.run (F := Ideal) m' g')
    rw [(hs c).1, (hs c).2]
    exact value _ _

end Cert.Qkv

end
-- ==== Proof.DownDw.lean ====
/-
  The gradient of the down-projection's weight, over the reals: in each tile the call has the product of columns of both factors; the
  reference has the whole product.
-/
module

public import proofs.«01_k».proof.Defs
public import proofs.«01_k».proof.Proof.Gen.Kernel8Ideal.Value
public import proofs.«01_k».proof.Proof.Gen.Reference8Ideal.Run
public import proofs.«01_k».proof.Proof.Products
public import Idealize.ShloMosaic.Lib.Pipeline.ValueKit.Geometry

@[expose] public section

set_option maxRecDepth 16384

noncomputable section

namespace Cert.Kernel8Ideal.Product

open Idealize.ShloMosaic Idealize.ShloMosaic.TcCoe Idealize.SL.Sem
open Cert.Kernel8Ideal Cert.Kernel8Ideal.Gen Cert.Products

/-- The product. -/
abbrev product (X : Mat 4224 5632 .bf16) (Y : Mat 4224 2048 .bf16) : Mat 5632 2048 .bf16 := tn X Y

/-- What a grid step computes of its blocks. -/
theorem point (x0 : Mat 4224 512 .bf16) (x1 : Mat 4224 1024 .bf16) : k0_pay1 (F := Ideal) x0 x1 = tn x0 x1 := by
  funext i
  obtain ⟨r, n, rfl⟩ : ∃ r n, i = ix2 r n := ⟨i 0, i 1, eq_ix2 i⟩
  pointwise [k0_pay1, tn]

theorem at0 : ∀ t : Fin cfg0.N, win0_0.index t = ![0, t.val / 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The row and the column of an entry of a step's tile. -/
def row (t : Fin cfg0.N) (r : Fin 512) : Fin 5632 := entry 512 5632 (t.val / 2) r (by have h := t.isLt; have e : cfg0.N = 22 := N_0; omega)
def col (t : Fin cfg0.N) (n : Fin 1024) : Fin 2048 := entry 1024 2048 (t.val % 2) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact tn_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel8Ideal.Product

namespace Cert.DownDw

open Idealize.ShloMosaic Idealize.ShloMosaic.TcCoe Idealize.SL.Sem
open Cert.Reference8Ideal Cert.Reference8Ideal.Gen Cert.Products

/-- The reference's result is the product. -/
theorem value (X : Mat 4224 5632 .bf16) (Y : Mat 4224 2048 .bf16) :
    (truncf .bf16 (transpose S5632x2048 [1, 0] (Host.dotGeneral dot_S4224x2048_S4224x5632_S2048x5632_0_0_1_1_n_n none (extf .f32 Y bitsLt_bf16_f32) (extf .f32 X bitsLt_bf16_f32)) transposes_S2048x5632_S5632x2048_1_0) bitsLt_bf16_f32 : FVec Ideal S5632x2048 .bf16) = Cert.Kernel8Ideal.Product.product X Y := by
  funext i
  obtain ⟨r, n, rfl⟩ : ∃ r n, i = ix2 r n := ⟨i 0, i 1, eq_ix2 i⟩
  pointwise [Cert.Kernel8Ideal.Product.product, tn]
  exact Finset.sum_congr rfl fun s _ => mul_comm _ _

/-- The reference ends with its arguments and its semaphores as they were. -/
theorem referenceFrame : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- Run from the same arguments, call and reference end with the same product, and with their arguments unchanged. -/
theorem algebraic : Cert.algebraic_Kernel8Ideal_Reference8Ideal := by
  intro m g m' g' _ hs
  refine ⟨fun c => Cert.Kernel8Ideal.Product.product (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run _ _ _).mono (fun r h c => ⟨(h c).1.trans (Cert.Kernel8Ideal.Product.out m c), (h c).2⟩) (Cert.Kernel8Ideal.Value.run_blocks m g)
  · refine (θ_run _ _ _).mono (fun r h c => ⟨(h c).1.trans ?_, (h c).2⟩) (Cert.Reference8Ideal.Value.run (F := Ideal) m' g')
    rw [(hs c).1, (hs c).2]
    exact value _ _

end Cert.DownDw

end
-- ==== Proof.DownDx.lean ====
/-
  The gradient of the down-projection by its input, over the reals: in each tile the call has the product of rows of both factors; the
  reference has the whole product.
-/
module

public import proofs.«01_k».proof.Defs
public import proofs.«01_k».proof.Proof.Gen.Kernel9Ideal.Value
public import proofs.«01_k».proof.Proof.Gen.Reference9Ideal.Run
public import proofs.«01_k».proof.Proof.Products
public import Idealize.ShloMosaic.Lib.Pipeline.ValueKit.Geometry

@[expose] public section

set_option maxRecDepth 16384

noncomputable section

namespace Cert.Kernel9Ideal.Product

open Idealize.ShloMosaic Idealize.ShloMosaic.TcCoe Idealize.SL.Sem
open Cert.Kernel9Ideal Cert.Kernel9Ideal.Gen Cert.Products

/-- The product. -/
abbrev product (X : Mat 4224 2048 .bf16) (Y : Mat 5632 2048 .bf16) : Mat 4224 5632 .f32 := nt X Y

/-- What a grid step computes of its blocks. -/
theorem point (x0 : Mat 1408 2048 .bf16) (x1 : Mat 512 2048 .bf16) : k0_pay1 (F := Ideal) x0 x1 = nt x0 x1 := by
  funext i
  obtain ⟨r, n, rfl⟩ : ∃ r n, i = ix2 r n := ⟨i 0, i 1, eq_ix2 i⟩
  pointwise [k0_pay1, nt]

theorem at0 : ∀ t : Fin cfg0.N, win0_0.index t = ![t.val / 11, 0] := (by decide +kernel : ∀ t : Fin grid0.N, _)
theorem at1 : ∀ t : Fin cfg0.N, win0_1.index t = ![t.val % 11, 0] := (by decide +kernel : ∀ t : Fin grid0.N, _)
theorem at2 : ∀ t : Fin cfg0.N, win0_2.index t = ![t.val / 11, t.val % 11] := (by decide +kernel : ∀ t : Fin grid0.N, _)

/-- The row and the column of an entry of a step's tile. -/
def row (t : Fin cfg0.N) (r : Fin 1408) : Fin 4224 := entry 1408 4224 (t.val / 11) r (by have h := t.isLt; have e : cfg0.N = 33 := N_0; omega)
def col (t : Fin cfg0.N) (n : Fin 512) : Fin 5632 := entry 512 5632 (t.val % 11) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact nt_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel9Ideal.Product

namespace Cert.DownDx

open Idealize.ShloMosaic Idealize.ShloMosaic.TcCoe Idealize.SL.Sem
open Cert.Reference9Ideal Cert.Reference9Ideal.Gen Cert.Products

/-- The reference's result is the product. -/
theorem value (X : Mat 4224 2048 .bf16) (Y : Mat 5632 2048 .bf16) :
    (Host.dotGeneral dot_S4224x2048_S5632x2048_S4224x5632_1_1_0_0_n_n none (extf .f32 X bitsLt_bf16_f32) (extf .f32 Y bitsLt_bf16_f32) : FVec Ideal S4224x5632 .f32) = Cert.Kernel9Ideal.Product.product X Y := by
  funext i
  obtain ⟨r, n, rfl⟩ : ∃ r n, i = ix2 r n := ⟨i 0, i 1, eq_ix2 i⟩
  pointwise [Cert.Kernel9Ideal.Product.product, nt]

/-- The reference ends with its arguments and its semaphores as they were. -/
theorem referenceFrame : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- Run from the same arguments, call and reference end with the same product, and with their arguments unchanged. -/
theorem algebraic : Cert.algebraic_Kernel9Ideal_Reference9Ideal := by
  intro m g m' g' _ hs
  refine ⟨fun c => Cert.Kernel9Ideal.Product.product (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run _ _ _).mono (fun r h c => ⟨(h c).1.trans (Cert.Kernel9Ideal.Product.out m c), (h c).2⟩) (Cert.Kernel9Ideal.Value.run_blocks m g)
  · refine (θ_run _ _ _).mono (fun r h c => ⟨(h c).1.trans ?_, (h c).2⟩) (Cert.Reference9Ideal.Value.run (F := Ideal) m' g')
    rw [(hs c).1, (hs c).2]
    exact value _ _

end Cert.DownDx

end
-- ==== Proof.Down.lean ====
/-
  The down-projection, over the reals: in each tile the call has the product of rows of the one factor and columns of the other; the
  reference has the whole product.
-/
module

public import proofs.«01_k».proof.Defs
public import proofs.«01_k».proof.Proof.Gen.Kernel10Ideal.Value
public import proofs.«01_k».proof.Proof.Gen.Reference10Ideal.Run
public import proofs.«01_k».proof.Proof.Products
public import Idealize.ShloMosaic.Lib.Pipeline.ValueKit.Geometry

@[expose] public section

set_option maxRecDepth 16384

noncomputable section

namespace Cert.Kernel10Ideal.Product

open Idealize.ShloMosaic Idealize.ShloMosaic.TcCoe Idealize.SL.Sem
open Cert.Kernel10Ideal Cert.Kernel10Ideal.Gen Cert.Products

/-- The product. -/
abbrev product (X : Mat 4224 5632 .bf16) (Y : Mat 5632 2048 .bf16) : Mat 4224 2048 .f32 := nn X Y

/-- What a grid step computes of its blocks. -/
theorem point (x0 : Mat 704 5632 .bf16) (x1 : Mat 5632 1024 .bf16) : k0_pay1 (F := Ideal) x0 x1 = nn x0 x1 := by
  funext i
  obtain ⟨r, n, rfl⟩ : ∃ r n, i = ix2 r n := ⟨i 0, i 1, eq_ix2 i⟩
  pointwise [k0_pay1, nn]

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The row and the column of an entry of a step's tile. -/
def row (t : Fin cfg0.N) (r : Fin 704) : Fin 4224 := entry 704 4224 (t.val / 2) r (by have h := t.isLt; have e : cfg0.N = 12 := N_0; omega)
def col (t : Fin cfg0.N) (n : Fin 1024) : Fin 2048 := entry 1024 2048 (t.val % 2) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact nn_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel10Ideal.Product

namespace Cert.Down

open Idealize.ShloMosaic Idealize.ShloMosaic.TcCoe Idealize.SL.Sem
open Cert.Reference10Ideal Cert.Reference10Ideal.Gen Cert.Products

/-- The reference's result is the product. -/
theorem value (X : Mat 4224 5632 .bf16) (Y : Mat 5632 2048 .bf16) :
    (Host.dotGeneral dot_S4224x5632_S5632x2048_S4224x2048_1_0_0_1_n_n none (extf .f32 X bitsLt_bf16_f32) (extf .f32 Y bitsLt_bf16_f32) : FVec Ideal S4224x2048 .f32) = Cert.Kernel10Ideal.Product.product X Y := by
  funext i
  obtain ⟨r, n, rfl⟩ : ∃ r n, i = ix2 r n := ⟨i 0, i 1, eq_ix2 i⟩
  pointwise [Cert.Kernel10Ideal.Product.product, nn]

/-- The reference ends with its arguments and its semaphores as they were. -/
theorem referenceFrame : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- Run from the same arguments, call and reference end with the same product, and with their arguments unchanged. -/
theorem algebraic : Cert.algebraic_Kernel10Ideal_Reference10Ideal := by
  intro m g m' g' _ hs
  refine ⟨fun c => Cert.Kernel10Ideal.Product.product (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run _ _ _).mono (fun r h c => ⟨(h c).1.trans (Cert.Kernel10Ideal.Product.out m c), (h c).2⟩) (Cert.Kernel10Ideal.Value.run_blocks m g)
  · refine (θ_run _ _ _).mono (fun r h c => ⟨(h c).1.trans ?_, (h c).2⟩) (Cert.Reference10Ideal.Value.run (F := Ideal) m' g')
    rw [(hs c).1, (hs c).2]
    exact value _ _

end Cert.Down

end
-- ==== Proof.OutDw.lean ====
/-
  The gradient of the output projection's weight, over the reals: in each tile the call has the product of columns of both factors; the
  reference has the whole product.
-/
module

public import proofs.«01_k».proof.Defs
public import proofs.«01_k».proof.Proof.Gen.Kernel11Ideal.Value
public import proofs.«01_k».proof.Proof.Gen.Reference11Ideal.Run
public import proofs.«01_k».proof.Proof.Products
public import Idealize.ShloMosaic.Lib.Pipeline.ValueKit.Geometry

@[expose] public section

set_option maxRecDepth 16384

noncomputable section

namespace Cert.Kernel11Ideal.Product

open Idealize.ShloMosaic Idealize.ShloMosaic.TcCoe Idealize.SL.Sem
open Cert.Kernel11Ideal Cert.Kernel11Ideal.Gen Cert.Products

/-- The product. -/
abbrev product (X : Mat 4224 2048 .bf16) (Y : Mat 4224 2048 .bf16) : Mat 2048 2048 .bf16 := tn X Y

/-- What a grid step computes of its blocks. -/
theorem point (x0 : Mat 4224 1024 .bf16) (x1 : Mat 4224 1024 .bf16) : k0_pay1 (F := Ideal) x0 x1 = tn x0 x1 := by
  funext i
  obtain ⟨r, n, rfl⟩ : ∃ r n, i = ix2 r n := ⟨i 0, i 1, eq_ix2 i⟩
  pointwise [k0_pay1, tn]

theorem at0 : ∀ t : Fin cfg0.N, win0_0.index t = ![0, t.val / 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The row and the column of an entry of a step's tile. -/
def row (t : Fin cfg0.N) (r : Fin 1024) : Fin 2048 := entry 1024 2048 (t.val / 2) r (by have h := t.isLt; have e : cfg0.N = 4 := N_0; omega)
def col (t : Fin cfg0.N) (n : Fin 1024) : Fin 2048 := entry 1024 2048 (t.val % 2) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact tn_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel11Ideal.Product

namespace Cert.OutDw

open Idealize.ShloMosaic Idealize.ShloMosaic.TcCoe Idealize.SL.Sem
open Cert.Reference11Ideal Cert.Reference11Ideal.Gen Cert.Products

/-- The reference's result is the product. -/
theorem value (X : Mat 4224 2048 .bf16) (Y : Mat 4224 2048 .bf16) :
    (truncf .bf16 (transpose S2048x2048 [1, 0] (Host.dotGeneral dot_S4224x2048_S4224x2048_S2048x2048_0_0_1_1_n_n none (extf .f32 Y bitsLt_bf16_f32) (extf .f32 X bitsLt_bf16_f32)) transposes_S2048x2048_S2048x2048_1_0) bitsLt_bf16_f32 : FVec Ideal S2048x2048 .bf16) = Cert.Kernel11Ideal.Product.product X Y := by
  funext i
  obtain ⟨r, n, rfl⟩ : ∃ r n, i = ix2 r n := ⟨i 0, i 1, eq_ix2 i⟩
  pointwise [Cert.Kernel11Ideal.Product.product, tn]
  exact Finset.sum_congr rfl fun s _ => mul_comm _ _

/-- The reference ends with its arguments and its semaphores as they were. -/
theorem referenceFrame : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- Run from the same arguments, call and reference end with the same product, and with their arguments unchanged. -/
theorem algebraic : Cert.algebraic_Kernel11Ideal_Reference11Ideal := by
  intro m g m' g' _ hs
  refine ⟨fun c => Cert.Kernel11Ideal.Product.product (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run _ _ _).mono (fun r h c => ⟨(h c).1.trans (Cert.Kernel11Ideal.Product.out m c), (h c).2⟩) (Cert.Kernel11Ideal.Value.run_blocks m g)
  · refine (θ_run _ _ _).mono (fun r h c => ⟨(h c).1.trans ?_, (h c).2⟩) (Cert.Reference11Ideal.Value.run (F := Ideal) m' g')
    rw [(hs c).1, (hs c).2]
    exact value _ _

end Cert.OutDw

end
-- ==== Proof.OutDx.lean ====
/-
  The gradient of the output projection by its input, over the reals: in each tile the call has the product of rows of both factors; the
  reference has the whole product.
-/
module

public import proofs.«01_k».proof.Defs
public import proofs.«01_k».proof.Proof.Gen.Kernel12Ideal.Value
public import proofs.«01_k».proof.Proof.Gen.Reference12Ideal.Run
public import proofs.«01_k».proof.Proof.Products
public import Idealize.ShloMosaic.Lib.Pipeline.ValueKit.Geometry

@[expose] public section

set_option maxRecDepth 16384

noncomputable section

namespace Cert.Kernel12Ideal.Product

open Idealize.ShloMosaic Idealize.ShloMosaic.TcCoe Idealize.SL.Sem
open Cert.Kernel12Ideal Cert.Kernel12Ideal.Gen Cert.Products

/-- The product. -/
abbrev product (X : Mat 4224 2048 .bf16) (Y : Mat 2048 2048 .bf16) : Mat 4224 2048 .f32 := nt X Y

/-- What a grid step computes of its blocks. -/
theorem point (x0 : Mat 1408 2048 .bf16) (x1 : Mat 1024 2048 .bf16) : k0_pay1 (F := Ideal) x0 x1 = nt x0 x1 := by
  funext i
  obtain ⟨r, n, rfl⟩ : ∃ r n, i = ix2 r n := ⟨i 0, i 1, eq_ix2 i⟩
  pointwise [k0_pay1, nt]

theorem at0 : ∀ t : Fin cfg0.N, win0_0.index t = ![t.val / 2, 0] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, t.val % 2] := (by decide +kernel : ∀ t : Fin grid0.N, _)

/-- The row and the column of an entry of a step's tile. -/
def row (t : Fin cfg0.N) (r : Fin 1408) : Fin 4224 := entry 1408 4224 (t.val / 2) r (by have h := t.isLt; have e : cfg0.N = 6 := N_0; omega)
def col (t : Fin cfg0.N) (n : Fin 1024) : Fin 2048 := entry 1024 2048 (t.val % 2) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact nt_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel12Ideal.Product

namespace Cert.OutDx

open Idealize.ShloMosaic Idealize.ShloMosaic.TcCoe Idealize.SL.Sem
open Cert.Reference12Ideal Cert.Reference12Ideal.Gen Cert.Products

/-- The reference's result is the product. -/
theorem value (X : Mat 4224 2048 .bf16) (Y : Mat 2048 2048 .bf16) :
    (Host.dotGeneral dot_S4224x2048_S2048x2048_S4224x2048_1_1_0_0_n_n none (extf .f32 X bitsLt_bf16_f32) (extf .f32 Y bitsLt_bf16_f32) : FVec Ideal S4224x2048 .f32) = Cert.Kernel12Ideal.Product.product X Y := by
  funext i
  obtain ⟨r, n, rfl⟩ : ∃ r n, i = ix2 r n := ⟨i 0, i 1, eq_ix2 i⟩
  pointwise [Cert.Kernel12Ideal.Product.product, nt]

/-- The reference ends with its arguments and its semaphores as they were. -/
theorem referenceFrame : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

/-- Run from the same arguments, call and reference end with the same product, and with their arguments unchanged. -/
theorem algebraic : Cert.algebraic_Kernel12Ideal_Reference12Ideal := by
  intro m g m' g' _ hs
  refine ⟨fun c => Cert.Kernel12Ideal.Product.product (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · exact (θ_run _ _ _).mono (fun r h c => ⟨(h c).1.trans (Cert.Kernel12Ideal.Product.out m c), (h c).2⟩) (Cert.Kernel12Ideal.Value.run_blocks m g)
  · refine (θ_run _ _ _).mono (fun r h c => ⟨(h c).1.trans ?_, (h c).2⟩) (Cert.Reference12Ideal.Value.run (F := Ideal) m' g')
    rw [(hs c).1, (hs c).2]
    exact value _ _

end Cert.OutDx

end
-- ==== Proof.Out.lean ====
/-
  The output projection, over the reals: in each tile the call has the product of rows of the one factor and columns of the other; the
  reference has the whole product.
-/
module

public import proofs.«01_k».proof.Defs
public import proofs.«01_k».proof.Proof.Gen.Kernel13Ideal.Value
public import proofs.«01_k».proof.Proof.Gen.Reference13Ideal.Run
public import proofs.«01_k».proof.Proof.Products
public import Idealize.ShloMosaic.Lib.Pipeline.ValueKit.Geometry

@[expose] public section

set_option maxRecDepth 16384

noncomputable section

namespace Cert.Kernel13Ideal.Product

open Idealize.ShloMosaic Idealize.ShloMosaic.TcCoe Idealize.SL.Sem
open Cert.Kernel13Ideal Cert.Kernel13Ideal.Gen Cert.Products

/-- The product. -/
abbrev product (X : Mat 4224 2048 .bf16) (Y : Mat 2048 2048 .bf16) : Mat 4224 2048 .f32 := nn X Y

/-- What a grid step computes of its blocks. -/
theorem point (x0 : Mat 1408 2048 .bf16) (x1 : Mat 2048 1024 .bf16) : k0_pay1 (F := Ideal) x0 x1 = nn x0 x1 := by
  funext i
  obtain ⟨r, n, rfl⟩ : ∃ r n, i = ix2 r n := ⟨i 0, i 1, eq_ix2 i⟩
  pointwise [k0_pay1, nn]

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The row and the column of an entry of a step's tile. -/
def row (t : Fin cfg0.N) (r : Fin 1408) : Fin 4224 := entry 1408 4224 (t.val / 2) r (by have h := t.isLt; have e : cfg0.N = 6 := N_0; omega)
def col (t : Fin cfg0.N) (n : Fin 1024) : Fin 2048 := entry 1024 2048 (t.val % 2) n (by omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact nn_block (e := (win0_2.blk t).view.emb) (e0 := (win0_0.blk t).view.emb) (e1 := (win0_1.blk t).view.emb) (row t) (col t)
    (fun r n => by blk_ext [at2, row, col, entry]) (fun r s => by blk_ext [at0, row, entry]) (fun s n => by blk_ext [at1, col, entry]) y

end Cert.Kernel13Ideal.Product

namespace Cert.Out

open Idealize.ShloMosaic Idealize.ShloMosaic.TcCoe Idealize.SL.Sem
open Cert.Reference13Ideal Cert.Reference13Ideal.Gen Cert.Products

/-- The reference's result is the product. -/
theorem value (X : Mat 4224 2048 .bf16) (Y : Mat 2048 2048 .bf16) :
    (Host.dotGeneral dot_S4224x2048_S2048x2048_S4224x2048_1_0_0_1_n_n none (extf .f32 X bitsLt_bf16_f32) (extf .f32 Y bitsLt_bf16_f32) : FVec Ideal S4224x2048 .f32) = Cert.Kernel13Ideal.Product.product X Y := by
  funext i
  obtain ⟨r, n, rfl⟩ : ∃ r n, i = ix2 r n := ⟨i 0, i 1, eq_ix2 i⟩
  pointwise [Cert.Kernel13Ideal.Product.product, nn]

/-- The reference ends with its arguments and its semaphores as they were. -/
theorem referenceFrame : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

/-- Run from the same arguments, call and reference end with the same product, and with their arguments unchanged. -/
theorem algebraic : Cert.algebraic_Kernel13Ideal_Reference13Ideal := by
  intro m g m' g' _ hs
  refine ⟨fun c => Cert.Kernel13Ideal.Product.product (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · exact (θ_run _ _ _).mono (fun r h c => ⟨(h c).1.trans (Cert.Kernel13Ideal.Product.out m c), (h c).2⟩) (Cert.Kernel13Ideal.Value.run_blocks m g)
  · refine (θ_run _ _ _).mono (fun r h c => ⟨(h c).1.trans ?_, (h c).2⟩) (Cert.Reference13Ideal.Value.run (F := Ideal) m' g')
    rw [(hs c).1, (hs c).2]
    exact value _ _

end Cert.Out

end
-- ==== Proof.GateLogits.lean ====
/-
  The logits of the forget gates, over the reals: in each tile the call has the product of rows of the one factor and columns of the other; the
  reference has the whole product.
-/
module

public import proofs.«01_k».proof.Defs
public import proofs.«01_k».proof.Proof.Gen.Kernel14Ideal.Value
public import proofs.«01_k».proof.Proof.Gen.Reference14Ideal.Run
public import proofs.«01_k».proof.Proof.Products
public import Idealize.ShloMosaic.Lib.Pipeline.ValueKit.Geometry

@[expose] public section

set_option maxRecDepth 16384

noncomputable section

namespace Cert.Kernel14Ideal.Product

open Idealize.ShloMosaic Idealize.ShloMosaic.TcCoe Idealize.SL.Sem
open Cert.Kernel14Ideal Cert.Kernel14Ideal.Gen Cert.Products

/-- The product. -/
abbrev product (X : Mat 4224 2048 .bf16) (Y : Mat 2048 128 .bf16) : Mat 4224 128 .f32 := nn X Y

/-- What a grid step computes of its blocks. -/
theorem point (x0 : Mat 1408 2048 .bf16) (x1 : Mat 2048 128 .bf16) : k0_pay1 (F := Ideal) x0 x1 = nn x0 x1 := by
  funext i
  obtain ⟨r, n, rfl⟩ : ∃ r n, i = ix2 r n := ⟨i 0, i 1, eq_ix2 i⟩
  pointwise [k0_pay1, nn]

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The row of an entry of a step's tile, which has all columns. -/
def row (t : Fin cfg0.N) (r : Fin 1408) : Fin 4224 := entry 1408 4224 t.val r (by have h := t.isLt; have e : cfg0.N = 3 := N_0; omega)

variable (m : (ℓ : Loc nD τ sig) → Buf (Elt Ideal) ℓ) (c : Dev nD)

/-- The result array after the run. -/
theorem out : (dats m 0 c).arrAt 2 cfg0.N = product (m ((c : Thread nD τ).loc main_arg0)) (m ((c : Thread nD τ).loc main_arg1)) := by
  refine (dats m 0 c).arrAt_eq_of_covers 2 (product (m ((c : Thread nD τ).loc main_arg0)) (m ((c : Thread nD τ).loc main_arg1))) (by decide +kernel) fun t hf y => ?_
  show (dats m 0 c).after 2 t y = product _ _ ((win0_2.blk t).view.emb y)
  rw [after0_2]
  unfold out0_2
  rw [View.canon_unit_zero zeros2, View.ld_unit_zero zeros2, View.ld_unit_zero zeros2, point]
  exact nn_block (e := (win0_2.blk t).view.emb) (e0 := (win0_0.blk t).view.emb) (e1 := (win0_1.blk t).view.emb) (row t) (fun n => n)
    (fun r n => by blk_ext [at2, row, entry]) (fun r s => by blk_ext [at0, row, entry]) (fun s n => by blk_ext [at1]) y

end Cert.Kernel14Ideal.Product

namespace Cert.GateLogits

open Idealize.ShloMosaic Idealize.ShloMosaic.TcCoe Idealize.SL.Sem
open Cert.Reference14Ideal Cert.Reference14Ideal.Gen Cert.Products

/-- The reference's result is the product. -/
theorem value (X : Mat 4224 2048 .bf16) (Y : Mat 2048 128 .bf16) :
    (Host.dotGeneral dot_S4224x2048_S2048x128_S4224x128_1_0_0_1_n_n none (extf .f32 X bitsLt_bf16_f32) (extf .f32 Y bitsLt_bf16_f32) : FVec Ideal S4224x128 .f32) = Cert.Kernel14Ideal.Product.product X Y := by
  funext i
  obtain ⟨r, n, rfl⟩ : ∃ r n, i = ix2 r n := ⟨i 0, i 1, eq_ix2 i⟩
  pointwise [Cert.Kernel14Ideal.Product.product, nn]

/-- The reference ends with its arguments and its semaphores as they were. -/
theorem referenceFrame : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-- Run from the same arguments, call and reference end with the same product, and with their arguments unchanged. -/
theorem algebraic : Cert.algebraic_Kernel14Ideal_Reference14Ideal := by
  intro m g m' g' _ hs
  refine ⟨fun c => Cert.Kernel14Ideal.Product.product (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · exact (θ_run _ _ _).mono (fun r h c => ⟨(h c).1.trans (Cert.Kernel14Ideal.Product.out m c), (h c).2⟩) (Cert.Kernel14Ideal.Value.run_blocks m g)
  · refine (θ_run _ _ _).mono (fun r h c => ⟨(h c).1.trans ?_, (h c).2⟩) (Cert.Reference14Ideal.Value.run (F := Ideal) m' g')
    rw [(hs c).1, (hs c).2]
    exact value _ _

end Cert.GateLogits

end
-- ==== Proof.ResidNorm.lean ====
/-
  The residual with the norms around it, over the reals: a grid step has a block of rows, and a row of both results depends on
  the same row of the arguments alone.
-/
module

public import proofs.«01_k».proof.Defs
public import proofs.«01_k».proof.Proof.Gen.Kernel15Ideal.Value
public import proofs.«01_k».proof.Proof.Gen.Reference15Ideal.Run
public import proofs.«01_k».proof.Proof.Products
public import Idealize.ShloMosaic.Lib.Pipeline.ValueKit.Geometry

@[expose] public section

set_option maxRecDepth 16384

noncomputable section

namespace Cert.ResidNorm

open Idealize.ShloMosaic Cert.Products

variable {m m' : Nat}

/-- The factor by which a row with this sum of squares is scaled to mean square one. -/
def scale (a : EReal) : EReal := Ideal.rsqrt (Ideal.div a (Scalar.ofBits .f32 0x45000000#32 : Ideal .f32) + (Scalar.ofBits .f32 0x358637BD#32 : Ideal .f32))

/-- The norm of each row with a gain for each column. -/
def normed (X : Mat m 2048 .f32) (G : Mat 1 2048 .f32) : Mat m 2048 .f32 := fun i =>
  (X i * scale (∑ s : Fin 2048, X (ix2 (i 0) s) * X (ix2 (i 0) s)) * G (ix2 0 (i 1)) : EReal)

/-- The residual: the input and the norm of the sub-layer's output. -/
def resid (Y H : Mat m 2048 .f32) (G : Mat 1 2048 .f32) : Mat m 2048 .f32 := fun i => (H i + normed Y G i : EReal)

/-- Rows of the arguments have these rows of the results. -/
theorem normed_rows {X : Mat m 2048 .f32} {x : Mat m' 2048 .f32} {G g : Mat 1 2048 .f32} {I : Fin m' → Fin m} (hx : ∀ r n, x (ix2 r n) = X (ix2 (I r) n))
    (hg : g = G) (r : Fin m') (n : Fin 2048) : normed x g (ix2 r n) = normed X G (ix2 (I r) n) := by
  subst hg
  pointwise [normed, hx]
theorem resid_rows {Y H : Mat m 2048 .f32} {y h : Mat m' 2048 .f32} {G g : Mat 1 2048 .f32} {I : Fin m' → Fin m} (hy : ∀ r n, y (ix2 r n) = Y (ix2 (I r) n))
    (hh : ∀ r n, h (ix2 r n) = H (ix2 (I r) n)) (hg : g = G) (r : Fin m') (n : Fin 2048) : resid y h g (ix2 r n) = resid Y H G (ix2 (I r) n) :=
  congrArg₂ (fun a b : EReal => a + b) (hh r n) (normed_rows hy hg r n)

end Cert.ResidNorm

namespace Cert.Kernel15Ideal.Resid

open Idealize.ShloMosaic Idealize.ShloMosaic.TcCoe Idealize.SL.Sem
open Cert.Kernel15Ideal Cert.Kernel15Ideal.Gen Cert.Products Cert.ResidNorm

/-- What a grid step computes of its blocks. -/
theorem point1 (y h : Mat 384 2048 .f32) (g : Mat 1 2048 .f32) : k0_pay1 (F := Ideal) y h g = resid y h g := by
  funext i
  obtain ⟨r, n, rfl⟩ : ∃ r n, i = ix2 r n := ⟨i 0, i 1, eq_ix2 i⟩
  pointwise [k0_pay1, resid, normed, scale]
theorem point2 (y h : Mat 384 2048 .f32) (g k : Mat 1 2048 .f32) : k0_pay2 (F := Ideal) y h g k = normed (resid y h g) k := by
  unfold k0_pay2
  rw [point1]
  generalize resid y h g = z
  funext i
  obtain ⟨r, n, rfl⟩ : ∃ r n, i = ix2 r n := ⟨i 0, i 1, eq_ix2 i⟩
  pointwise [normed, scale]

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)

/-- The row of a row of a step's block. -/
def row (t : Fin cfg0.N) (r : Fin 384) : Fin 4224 := entry 384 4224 t.val r (by have h := t.isLt; have e : cfg0.N = 11 := N_0; omega)

variable (m : (ℓ : Loc nD τ sig) → Buf (Elt Ideal) ℓ) (c : Dev nD)

/-- The arguments. -/
abbrev argY : Mat 4224 2048 .f32 := m ((c : Thread nD τ).loc main_arg0)
abbrev argH : Mat 4224 2048 .f32 := m ((c : Thread nD τ).loc main_arg1)
abbrev argG : Mat 1 2048 .f32 := m ((c : Thread nD τ).loc main_arg2)
abbrev argK : Mat 1 2048 .f32 := m ((c : Thread nD τ).loc main_arg3)

/-- A step's blocks are rows of the arguments, and the gains. -/
theorem block0 (t : Fin cfg0.N) (r : Fin 384) (n : Fin 2048) : (iblk m c 0 t : Mat 384 2048 .f32) (ix2 r n) = argY m c (ix2 (row t r) n) :=
  congrArg (argY m c) (show (win0_0.blk t).view.emb (ix2 r n) = (ix2 (row t r) n : S4224x2048.Idx) by blk_ext [at0, row, entry])
theorem block1 (t : Fin cfg0.N) (r : Fin 384) (n : Fin 2048) : (iblk m c 1 t : Mat 384 2048 .f32) (ix2 r n) = argH m c (ix2 (row t r) n) :=
  congrArg (argH m c) (show (win0_1.blk t).view.emb (ix2 r n) = (ix2 (row t r) n : S4224x2048.Idx) by blk_ext [at1, row, entry])
theorem block2 (t : Fin cfg0.N) : (iblk m c 2 t : Mat 1 2048 .f32) = argG m c := by
  funext i
  obtain ⟨z, n, rfl⟩ : ∃ z n, i = ix2 z n := ⟨i 0, i 1, eq_ix2 i⟩
  exact congrArg (argG m c) (show (win0_2.blk t).view.emb (ix2 z n) = (ix2 z n : S1x2048.Idx) by blk_ext [at2])
theorem block3 (t : Fin cfg0.N) : (iblk m c 3 t : Mat 1 2048 .f32) = argK m c := by
  funext i
  obtain ⟨z, n, rfl⟩ : ∃ z n, i = ix2 z n := ⟨i 0, i 1, eq_ix2 i⟩
  exact congrArg (argK m c) (show (win0_3.blk t).view.emb (ix2 z n) = (ix2 z n : S1x2048.Idx) by blk_ext [at3])

/-- A step's rows of the residual. -/
theorem rows (t : Fin cfg0.N) (r : Fin 384) (n : Fin 2048) :
    resid (iblk m c 0 t : Mat 384 2048 .f32) (iblk m c 1 t) (iblk m c 2 t) (ix2 r n) = resid (argY m c) (argH m c) (argG m c) (ix2 (row t r) n) :=
  resid_rows (block0 m c t) (block1 m c t) (block2 m c t) r n

/-- The result arrays after the run. -/
theorem out4 : (dats m 0 c).arrAt 4 cfg0.N = resid (argY m c) (argH m c) (argG m c) := by
  refine (dats m 0 c).arrAt_eq_of_covers 4 (resid (argY m c) (argH m c) (argG m c)) (by decide +kernel) fun t hf y => ?_
  show (dats m 0 c).after 4 t y = resid _ _ _ ((win0_4.blk t).view.emb y)
  rw [after0_4]
  unfold out0_4
  rw [View.canon_unit_zero zeros2, View.ld_unit_zero zeros2, View.ld_unit_zero zeros2, View.ld_unit_zero zeros2, point1]
  obtain ⟨r, n, rfl⟩ : ∃ r n, y = (ix2 r n : S384x2048.Idx) := ⟨y 0, y 1, eq_ix2 (y : S384x2048.Idx)⟩
  have e : (win0_4.blk t).view.emb (ix2 r n) = (ix2 (row t r) n : S4224x2048.Idx) := by
    blk_ext [at4, row, entry]
  rw [e]
  exact rows m c t r n
theorem out5 : (dats m 0 c).arrAt 5 cfg0.N = normed (resid (argY m c) (argH m c) (argG m c)) (argK m c) := by
  refine (dats m 0 c).arrAt_eq_of_covers 5 (normed (resid (argY m c) (argH m c) (argG m c)) (argK m c)) (by decide +kernel) fun t hf y => ?_
  show (dats m 0 c).after 5 t y = normed _ _ ((win0_5.blk t).view.emb y)
  rw [after0_5]
  unfold out0_5
  rw [View.canon_unit_zero zeros2, View.ld_unit_zero zeros2, View.ld_unit_zero zeros2, View.ld_unit_zero zeros2, View.ld_unit_zero zeros2, point2]
  obtain ⟨r, n, rfl⟩ : ∃ r n, y = (ix2 r n : S384x2048.Idx) := ⟨y 0, y 1, eq_ix2 (y : S384x2048.Idx)⟩
  have e : (win0_5.blk t).view.emb (ix2 r n) = (ix2 (row t r) n : S4224x2048.Idx) := by
    blk_ext [at5, row, entry]
  rw [e]
  exact normed_rows (rows m c t) (block3 m c t) r n

end Cert.Kernel15Ideal.Resid

namespace Cert.ResidNorm

open Idealize.ShloMosaic Idealize.ShloMosaic.TcCoe Idealize.SL.Sem
open Cert.Reference15Ideal Cert.Reference15Ideal.Gen Cert.Products

/-- The reference's norm of the rows of an array. -/
def hostNorm (X : Mat 4224 2048 .f32) (G : Mat 1 2048 .f32) : Mat 4224 2048 .f32 :=
  mulf (mulf X (broadcastInDim S4224x2048 ![0, 1] bcast_S4224x1_S4224x2048_0_1 (Host.rsqrt (addf (Host.divf (broadcastInDim S4224x1 ![0] bcast_S4224_S4224x1_0
    (Host.reduceAdd (mulf X X) (constant S_ .f32 0x00000000#32) reducesTo_S4224x2048_S4224_d1 h_S_)) (broadcastInDim S4224x1 ![] bcast_S_S4224x1 (constant S_ .f32 0x45000000#32)))
    (broadcastInDim S4224x1 ![] bcast_S_S4224x1 (constant S_ .f32 0x358637BD#32)))))) (broadcastInDim S4224x2048 ![0, 1] bcast_S1x2048_S4224x2048_0_1 G)

theorem hostNorm_eq (X : Mat 4224 2048 .f32) (G : Mat 1 2048 .f32) : hostNorm X G = normed X G := by
  funext i
  obtain ⟨r, n, rfl⟩ : ∃ r n, i = ix2 r n := ⟨i 0, i 1, eq_ix2 i⟩
  pointwise [hostNorm, normed, scale]

/-- The reference's two results. -/
theorem value1 (Y H : Mat 4224 2048 .f32) (G : Mat 1 2048 .f32) : addf H (hostNorm Y G) = resid Y H G := by
  rw [hostNorm_eq]
  rfl
theorem value2 (Y H : Mat 4224 2048 .f32) (G K : Mat 1 2048 .f32) :
    (truncf .bf16 (hostNorm (addf H (hostNorm Y G)) K) bitsLt_bf16_f32 : FVec Ideal S4224x2048 .bf16) = normed (resid Y H G) K := by
  rw [value1, hostNorm_eq]
  rfl

/-- The reference ends with its arguments and its semaphores as they were. -/
theorem referenceFrame : Cert.quiescent_Reference15Ideal := fun m g _ =>
  (θ_run Cert.Reference15Ideal.defs _ _).mono (fun r h => ⟨fun c => (h c).2.2, sem_eq_zero_of_no_sems (by decide) r.2⟩)
    (Cert.Reference15Ideal.Value.run (F := Ideal) m g)

/-- Run from the same arguments, call and reference end with the same residual and the same norm of it, and with their arguments
    unchanged. -/
theorem algebraic : Cert.algebraic_Kernel15Ideal_Reference15Ideal := by
  intro m g m' g' _ hs
  refine ⟨fun c => resid (Cert.Kernel15Ideal.Resid.argY m c) (Cert.Kernel15Ideal.Resid.argH m c) (Cert.Kernel15Ideal.Resid.argG m c),
    fun c => normed (resid (Cert.Kernel15Ideal.Resid.argY m c) (Cert.Kernel15Ideal.Resid.argH m c) (Cert.Kernel15Ideal.Resid.argG m c)) (Cert.Kernel15Ideal.Resid.argK m c), ?_, ?_⟩
  · exact (θ_run _ _ _).mono (fun r h c => ⟨(h c).1.trans (Cert.Kernel15Ideal.Resid.out4 m c), (h c).2.1.trans (Cert.Kernel15Ideal.Resid.out5 m c), (h c).2.2⟩)
      (Cert.Kernel15Ideal.Value.run_blocks m g)
  · refine (θ_run _ _ _).mono (fun r h c => ⟨(h c).1.trans ?_, (h c).2.1.trans ?_, (h c).2.2⟩) (Cert.Reference15Ideal.Value.run (F := Ideal) m' g')
    · rw [(hs c).1, (hs c).2.1, (hs c).2.2.1]
      exact value1 _ _ _
    · rw [(hs c).1, (hs c).2.1, (hs c).2.2.1, (hs c).2.2.2]
      exact value2 _ _ _ _

end Cert.ResidNorm

end
-- ==== Proof.PreNorm.lean ====
/-
  The norm before the first sub-layer, over the reals: a grid step has a block of rows.
-/
module

public import proofs.«01_k».proof.Defs
public import proofs.«01_k».proof.Proof.Gen.Kernel16Ideal.Value
public import proofs.«01_k».proof.Proof.Gen.Reference16Ideal.Run
public import proofs.«01_k».proof.Proof.ResidNorm

@[expose] public section

set_option maxRecDepth 16384

noncomputable section

namespace Cert.PreNorm

open Idealize.ShloMosaic Idealize.ShloMosaic.TcCoe Idealize.SL.Sem
open Cert.Kernel16Ideal Cert.Kernel16Ideal.Gen Cert.Products Cert.ResidNorm

/-- What a grid step computes of its blocks. -/
theorem point (x : Mat 384 2048 .f32) (g : Mat 1 2048 .f32) : k0_pay1 (F := Ideal) x g = normed x g := by
  funext i
  obtain ⟨r, n, rfl⟩ : ∃ r n, i = ix2 r n := ⟨i 0, i 1, eq_ix2 i⟩
  pointwise [k0_pay1, normed, scale]

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The row of a row of a step's block. -/
def row (t : Fin cfg0.N) (r : Fin 384) : Fin 4224 := entry 384 4224 t.val r (by have h := t.isLt; have e : cfg0.N = 11 := N_0; omega)

variable (m : (ℓ : Loc nD τ sig) → Buf (Elt Ideal) ℓ) (c : Dev nD)

/-- The arguments. -/
abbrev argH : Mat 4224 2048 .f32 := m ((c : Thread nD τ).loc main_arg0)
abbrev argG : Mat 1 2048 .f32 := m ((c : Thread nD τ).loc main_arg1)

/-- The result array after the run. -/
theorem out : (dats m 0 c).arrAt 2 cfg0.N = normed (argH m c) (argG m c) := by
  refine (dats m 0 c).arrAt_eq_of_covers 2 (normed (argH m c) (argG m c)) (by decide +kernel) fun t hf y => ?_
  show (dats m 0 c).after 2 t y = normed _ _ ((win0_2.blk t).view.emb y)
  rw [after0_2]
  unfold out0_2
  rw [View.canon_unit_zero zeros2, View.ld_unit_zero zeros2, View.ld_unit_zero zeros2, point]
  obtain ⟨r, n, rfl⟩ : ∃ r n, y = (ix2 r n : S384x2048.Idx) := ⟨y 0, y 1, eq_ix2 (y : S384x2048.Idx)⟩
  have e : (win0_2.blk t).view.emb (ix2 r n) = (ix2 (row t r) n : S4224x2048.Idx) := by
    blk_ext [at2, row, entry]
  rw [e]
  refine normed_rows (I := row t) (fun r n => congrArg (argH m c) ?_) (funext fun i => ?_) r n
  · show (win0_0.blk t).view.emb (ix2 r n) = (ix2 (row t r) n : S4224x2048.Idx)
    blk_ext [at0, row, entry]
  · obtain ⟨z, n, rfl⟩ : ∃ z n, i = ix2 z n := ⟨i 0, i 1, eq_ix2 i⟩
    exact congrArg (argG m c) (show (win0_1.blk t).view.emb (ix2 z n) = (ix2 z n : S1x2048.Idx) by blk_ext [at1])

/-- The reference ends with its arguments and its semaphores as they were. -/
theorem referenceFrame : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

/-- Run from the same arguments, call and reference end with the same norm, and with their arguments unchanged. -/
theorem algebraic : Cert.algebraic_Kernel16Ideal_Reference16Ideal := by
  intro m g m' g' _ hs
  refine ⟨fun c => normed (argH m c) (argG m c), ?_, ?_⟩
  · exact (θ_run _ _ _).mono (fun r h c => ⟨(h c).1.trans (out m c), (h c).2⟩) (Cert.Kernel16Ideal.Value.run_blocks m g)
  · refine (θ_run _ _ _).mono (fun r h c => ⟨(h c).1.trans ?_, (h c).2⟩) (Cert.Reference16Ideal.Value.run (F := Ideal) m' g')
    rw [(hs c).1, (hs c).2]
    exact hostNorm_eq _ _

end Cert.PreNorm

end
-- ==== Proof.ConvAct.lean ====
/-
  The convolution over three rows with its activation, over the reals: a grid step has a block of rows and columns and the eight
  rows above it; these, or zeros above the first block, give the rows that its first two rows look back to.
-/
module

public import proofs.«01_k».proof.Defs
public import proofs.«01_k».proof.Proof.Gen.Kernel17Ideal.Value
public import proofs.«01_k».proof.Proof.Gen.Reference17Ideal.Run
public import proofs.«01_k».proof.Proof.Products
public import Idealize.ShloMosaic.Lib.Pipeline.ValueKit.Geometry

@[expose] public section

set_option maxRecDepth 16384

noncomputable section

namespace Cert.ConvAct

open Idealize.ShloMosaic Cert.Products

/-- Two matrices, of the gate's and of the up half. -/
abbrev Pair (m n : Nat) : Type := FVec Ideal ⟨3, ![2, m, n]⟩ .f32

variable (A : Pair 4224 5632) (W : Pair 3 5632) (B : Pair 1 5632)

/-- The entry `k` rows above row `t`, zero above the first row. -/
def past (h : Fin 2) (k : Nat) (t : Fin 4224) (n : Fin 5632) : EReal :=
  if k ≤ t.val then A (ix3 h ⟨t.val - k, by have := t.isLt; omega⟩ n) else (0 : EReal)

/-- The convolution. -/
def conv (h : Fin 2) (t : Fin 4224) (n : Fin 5632) : EReal :=
  W (ix3 h 0 n) * past A h 2 t n + W (ix3 h 1 n) * past A h 1 t n + W (ix3 h 2 n) * A (ix3 h t n) + B (ix3 h 0 n)

/-- The gated activation. -/
def act : Mat 4224 5632 .bf16 := fun i =>
  (conv A W B 0 (i 0) (i 1) * Ideal.logistic (conv A W B 0 (i 0) (i 1)) * conv A W B 1 (i 0) (i 1) : EReal)

/-- The row of a row of the `j`-th block. -/
def row (j : Fin 6) (r : Fin 704) : Fin 4224 := entry 704 4224 j.val r (by have := j.isLt; omega)

variable {A W B}

/-- The rotated rows of a block below eight rows `p`: a row of the block, or one of the last of the eight. -/
theorem past_eq {h : Fin 2} {j : Fin 6} {n : Fin 5632} {p : Fin 8 → EReal} {a : Fin 704 → EReal} (ha : ∀ r, a r = A (ix3 h (row j r) n))
    (hz : j.val = 0 → ∀ q, p q = 0) (hp : ∀ (hj : j.val ≠ 0) (q : Fin 8), p q = A (ix3 h ⟨704 * j.val - 8 + q.val, by have := j.isLt; have := q.isLt; omega⟩ n))
    (k : Nat) (hk : k ≤ 2) (r : Fin 704) :
    (if e : (8 + r.val + 712 - k) % 712 < 8 then p ⟨(8 + r.val + 712 - k) % 712, e⟩
      else a ⟨(8 + r.val + 712 - k) % 712 - 8, by have := r.isLt; omega⟩) = past A h k (row j r) n := by
  have hr := r.isLt
  have hj := j.isLt
  have e : (8 + r.val + 712 - k) % 712 = 8 + r.val - k := by omega
  unfold past
  by_cases hlt : r.val < k
  · rw [dif_pos (by omega)]
    by_cases h0 : j.val = 0
    · rw [hz h0, if_neg (by show ¬ k ≤ j.val * 704 + r.val; omega)]
    · rw [hp h0, if_pos (by show k ≤ j.val * 704 + r.val; omega)]
      refine congrArg (fun t => A (ix3 h t n)) (Fin.ext ?_)
      show 704 * j.val - 8 + (8 + r.val + 712 - k) % 712 = j.val * 704 + r.val - k
      omega
  · rw [dif_neg (by omega), ha, if_pos (by show k ≤ j.val * 704 + r.val; omega)]
    refine congrArg (fun t => A (ix3 h t n)) (Fin.ext ?_)
    show j.val * 704 + ((8 + r.val + 712 - k) % 712 - 8) = j.val * 704 + r.val - k
    omega

end Cert.ConvAct

namespace Cert.Kernel17Ideal.Conv

open Idealize.ShloMosaic Idealize.ShloMosaic.TcCoe Idealize.SL.Sem
open Cert.Kernel17Ideal Cert.Kernel17Ideal.Gen Cert.Products Cert.ConvAct

/-- The eight rows above the block count from the second block on. -/
theorem above : ∀ j : Fin 6, Scalar.cmpi .sgt (BitVec.ofNat 32 j.val) 0#32 = if j.val = 0 then 0#1 else 1#1 := by decide

variable {A : Pair 4224 5632} {W : Pair 3 5632} {B : Pair 1 5632} {h : Fin 2} {j : Fin 6} {J : Fin 512 → Fin 5632}
  {p : Vec Ideal S1x8x512 .f32} {a : Vec Ideal S1x704x512 .f32} {w : Vec Ideal S1x3x512 .f32} {b : Vec Ideal S1x1x512 .f32}

variable (A W B h j J p a w b) in
/-- The blocks of one half at a grid step. -/
structure Blocks : Prop where
  prev : ∀ (hj : j.val ≠ 0) (q : Fin 8) (n : Fin 512), p (ix3 0 q n) = A (ix3 h ⟨704 * j.val - 8 + q.val, by have := j.isLt; have := q.isLt; omega⟩ (J n))
  rows : ∀ (r : Fin 704) (n : Fin 512), a (ix3 0 r n) = A (ix3 h (row j r) (J n))
  taps : ∀ (k : Fin 3) (n : Fin 512), w (ix3 0 k n) = W (ix3 h k (J n))
  bias : ∀ n : Fin 512, b (ix3 0 0 n) = B (ix3 h 0 (J n))

/-- The rows above the block, as the body takes them. -/
theorem pay3_zero {i : grid0.Coords} (hi : (i 1).val = j.val) (h0 : j.val = 0) (q : Fin 8) (n : Fin 512) : k0_pay3 (F := Ideal) i p (ix2 q n) = (0 : EReal) := by
  pointwise [k0_pay3]
  rw [hi, above, if_pos h0]
  rfl
theorem pay3_prev {i : grid0.Coords} (hi : (i 1).val = j.val) (h0 : j.val ≠ 0) (q : Fin 8) (n : Fin 512) : k0_pay3 (F := Ideal) i p (ix2 q n) = p (ix3 0 q n) := by
  pointwise [k0_pay3]
  rw [hi, above, if_neg h0]
  rfl

/-- The gate's half of a step: its convolution. -/
theorem gate (H : Blocks A W B h j J p a w b) {i : grid0.Coords} (hi : (i 1).val = j.val) (r : Fin 704) (n : Fin 512) :
    k0_pay2 (F := Ideal) i p a w b (ix2 r n) = conv A W B h (row j r) (J n) := by
  have e := past_eq (p := fun q => k0_pay3 (F := Ideal) i p (ix2 q n)) (a := fun r => a (ix3 0 r n)) (fun r => H.rows r n)
    (fun h0 q => pay3_zero hi h0 q n) (fun h0 q => (pay3_prev hi h0 q n).trans (H.prev h0 q n))
  have e2 := e 2 (by omega) r
  have e1 := e 1 (by omega) r
  unfold conv
  rw [← e1, ← e2, ← H.taps, ← H.taps, ← H.taps, ← H.bias, ← H.rows]
  pointwise [k0_pay2, k0_pay3]

/-- The result of a step, from the gate's convolution and the other half's blocks. -/
theorem point (H : Blocks A W B h j J p a w b) {i : grid0.Coords} (hi : (i 1).val = j.val) (z : FVec Ideal S704x512 .f32) (r : Fin 704) (n : Fin 512) :
    k0_pay1 (F := Ideal) z (k0_pay3 i p) a w b (ix2 r n)
      = (z (ix2 r n) * Ideal.logistic (z (ix2 r n)) * conv A W B h (row j r) (J n) : EReal) := by
  have e := past_eq (p := fun q => k0_pay3 (F := Ideal) i p (ix2 q n)) (a := fun r => a (ix3 0 r n)) (fun r => H.rows r n)
    (fun h0 q => pay3_zero hi h0 q n) (fun h0 q => (pay3_prev hi h0 q n).trans (H.prev h0 q n))
  have e2 := e 2 (by omega) r
  have e1 := e 1 (by omega) r
  unfold conv
  rw [← e1, ← e2, ← H.taps, ← H.taps, ← H.taps, ← H.bias, ← H.rows]
  pointwise [k0_pay1, k0_pay3]

theorem at0 : ∀ t : Fin cfg0.N, win0_0.index t = ![0, t.val % 6, t.val / 6] := (by decide +kernel : ∀ t : Fin grid0.N, _)
theorem at1 : ∀ t : Fin cfg0.N, win0_1.index t = ![0, t.val % 6 * 88 - 1, t.val / 6] := (by decide +kernel : ∀ t : Fin grid0.N, _)
theorem at2 : ∀ t : Fin cfg0.N, win0_2.index t = ![0, 0, t.val / 6] := (by decide +kernel : ∀ t : Fin grid0.N, _)
theorem at3 : ∀ t : Fin cfg0.N, win0_3.index t = ![0, 0, t.val / 6] := (by decide +kernel : ∀ t : Fin grid0.N, _)
theorem at4 : ∀ t : Fin cfg0.N, win0_4.index t = ![t.val % 6, t.val / 6] := (by decide +kernel : ∀ t : Fin grid0.N, _)
theorem coord : ∀ t : Fin cfg0.N, ((grid0.coords t) 1).val = t.val % 6 := (by decide +kernel : ∀ t : Fin grid0.N, _)

/-- The block of rows, and the column of a column, of a step. -/
def run (t : Fin cfg0.N) : Fin 6 := ⟨t.val % 6, by omega⟩
def col (t : Fin cfg0.N) (n : Fin 512) : Fin 5632 := entry 512 5632 (t.val / 6) n (by have h := t.isLt; have e : cfg0.N = 66 := N_0; omega)

variable (m : (ℓ : Loc nD τ sig) → Buf (Elt Ideal) ℓ) (c : Dev nD)

/-- The arguments. -/
abbrev argA : Pair 4224 5632 := m ((c : Thread nD τ).loc main_arg0)
abbrev argW : Pair 3 5632 := m ((c : Thread nD τ).loc main_arg1)
abbrev argB : Pair 1 5632 := m ((c : Thread nD τ).loc main_arg2)

/-- An entry of one half of a block. -/
theorem half {R C : Nat} (h : Fin 2) (hb : ∀ a, (![h.val, 0, 0] : Fin 3 → Nat) a + (⟨3, ![1, R, C]⟩ : Shape).size a ≤ (⟨3, ![2, R, C]⟩ : Shape).size a) (q : Fin R) (n : Fin C) :
    (Rect.unit (s := ⟨3, ![2, R, C]⟩) ![h.val, 0, 0] (⟨3, ![1, R, C]⟩ : Shape).size hb).idx (ix3 0 q n) = ix3 h q n := by
  funext a
  refine Fin.ext ?_
  fin_cases a
  · show h.val + 1 * 0 = h.val; omega
  · show 0 + 1 * q.val = q.val; omega
  · show 0 + 1 * n.val = n.val; omega

/-- Where a step's blocks lie. -/
theorem above_emb (t : Fin cfg0.N) (h : Fin 2) (hj : (run t).val ≠ 0) (q : Fin 8) (n : Fin 512) :
    (win0_1.blk t).view.emb (ix3 h q n) = (ix3 h ⟨704 * (run t).val - 8 + q.val, by have := (run t).isLt; have := q.isLt; omega⟩ (col t n) : S2x4224x5632.Idx) := by
  have hj' : t.val % 6 ≠ 0 := hj
  blk_ext [at1, run, col, entry]
theorem rows_emb (t : Fin cfg0.N) (h : Fin 2) (r : Fin 704) (n : Fin 512) :
    (win0_0.blk t).view.emb (ix3 h r n) = (ix3 h (row (run t) r) (col t n) : S2x4224x5632.Idx) := by
  blk_ext [at0, run, row, col, entry]
theorem taps_emb (t : Fin cfg0.N) (h : Fin 2) (k : Fin 3) (n : Fin 512) :
    (win0_2.blk t).view.emb (ix3 h k n) = (ix3 h k (col t n) : S2x3x5632.Idx) := by
  blk_ext [at2, col, entry]
theorem bias_emb (t : Fin cfg0.N) (h : Fin 2) (n : Fin 512) :
    (win0_3.blk t).view.emb (ix3 h 0 n) = (ix3 h 0 (col t n) : S2x1x5632.Idx) := by
  blk_ext [at3, col, entry]

/-- The blocks of both halves. -/
theorem blocks0 (t : Fin cfg0.N) : Blocks (argA m c) (argW m c) (argB m c) 0 (run t) (col t)
    (View.ld (iblk m c 1 t) r0_0) (View.ld (iblk m c 0 t) r0_1) (View.ld (iblk m c 2 t) r0_2) (View.ld (iblk m c 3 t) r0_3) where
  prev hj q n := congrArg (argA m c) ((congrArg (win0_1.blk t).view.emb (half 0 _ q n)).trans (above_emb t 0 hj q n))
  rows r n := congrArg (argA m c) ((congrArg (win0_0.blk t).view.emb (half 0 _ r n)).trans (rows_emb t 0 r n))
  taps k n := congrArg (argW m c) ((congrArg (win0_2.blk t).view.emb (half 0 _ k n)).trans (taps_emb t 0 k n))
  bias n := congrArg (argB m c) ((congrArg (win0_3.blk t).view.emb (half 0 _ 0 n)).trans (bias_emb t 0 n))
theorem blocks1 (t : Fin cfg0.N) : Blocks (argA m c) (argW m c) (argB m c) 1 (run t) (col t)
    (View.ld (iblk m c 1 t) r0_4) (View.ld (iblk m c 0 t) r0_5) (View.ld (iblk m c 2 t) r0_6) (View.ld (iblk m c 3 t) r0_7) where
  prev hj q n := congrArg (argA m c) ((congrArg (win0_1.blk t).view.emb (half 1 _ q n)).trans (above_emb t 1 hj q n))
  rows r n := congrArg (argA m c) ((congrArg (win0_0.blk t).view.emb (half 1 _ r n)).trans (rows_emb t 1 r n))
  taps k n := congrArg (argW m c) ((congrArg (win0_2.blk t).view.emb (half 1 _ k n)).trans (taps_emb t 1 k n))
  bias n := congrArg (argB m c) ((congrArg (win0_3.blk t).view.emb (half 1 _ 0 n)).trans (bias_emb t 1 n))

/-- The result array after the run. -/
theorem out : (dats m 0 c).arrAt 4 cfg0.N = act (argA m c) (argW m c) (argB m c) := by
  refine (dats m 0 c).arrAt_eq_of_covers 4 (act (argA m c) (argW m c) (argB m c)) (by decide +kernel) fun t hf y => ?_
  show (dats m 0 c).after 4 t y = act _ _ _ ((win0_4.blk t).view.emb y)
  rw [after0_4]
  unfold out0_4
  rw [View.canon_unit_zero zeros2]
  obtain ⟨r, n, rfl⟩ : ∃ r n, y = (ix2 r n : S704x512.Idx) := ⟨y 0, y 1, eq_ix2 (y : S704x512.Idx)⟩
  have e : (win0_4.blk t).view.emb (ix2 r n) = (ix2 (row (run t) r) (col t n) : S4224x5632.Idx) := by
    blk_ext [at4, run, row, col, entry]
  rw [e]
  exact (point (blocks1 m c t) (coord t) _ r n).trans
    (congrArg (fun x : EReal => x * Ideal.logistic x * _) (gate (blocks0 m c t) (coord t) r n))

end Cert.Kernel17Ideal.Conv

namespace Cert.ConvAct

open Idealize.ShloMosaic Idealize.ShloMosaic.TcCoe Idealize.SL.Sem
open Cert.Reference17Ideal Cert.Reference17Ideal.Gen Cert.Products

/-- The reference's result. -/
theorem value (m : (ℓ : Loc nD τ sig) → Buf (Elt Ideal) ℓ) (c : Dev nD) :
    (Cert.Reference17Ideal.Value.res_main_v62 m c : FVec Ideal S4224x5632 .bf16)
      = act (m ((c.tc : Thread nD τ).loc main_arg0)) (m ((c.tc : Thread nD τ).loc main_arg1)) (m ((c.tc : Thread nD τ).loc main_arg2)) := by
  have e2 : ∀ (A : Pair 4224 5632) (h : Fin 2) (t : Fin 4224) (n : Fin 5632),
      (if e : t.val < 2 then (0 : EReal) else A (ix3 h ⟨t.val - 2, by have := t.isLt; omega⟩ n)) = past A h 2 t n := fun A h t n => by
    unfold past
    by_cases q : 2 ≤ t.val
    · rw [if_pos q, dif_neg (by omega)]
    · rw [if_neg q, dif_pos (by omega)]
  have e1 : ∀ (A : Pair 4224 5632) (h : Fin 2) (t : Fin 4224) (n : Fin 5632),
      (if e : 1 + t.val < 2 then (0 : EReal) else A (ix3 h ⟨1 + t.val - 2, by have := t.isLt; omega⟩ n)) = past A h 1 t n := fun A h t n => by
    unfold past
    by_cases q : 1 ≤ t.val
    · rw [if_pos q, dif_neg (by omega)]
      exact congrArg (fun t => A (ix3 h t n)) (Fin.ext (show 1 + t.val - 2 = t.val - 1 by omega))
    · rw [if_neg q, dif_pos (by omega)]
  funext i
  obtain ⟨t, n, rfl⟩ : ∃ t n, i = ix2 t n := ⟨i 0, i 1, eq_ix2 i⟩
  show _ = (conv _ _ _ 0 t n * Ideal.logistic (conv _ _ _ 0 t n) * conv _ _ _ 1 t n : EReal)
  unfold conv
  simp only [← e1, ← e2]
  pointwise [Cert.Reference17Ideal.Value.res_main_v62]
  rfl

/-- The reference ends with its arguments and its semaphores as they were. -/
theorem referenceFrame : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

/-- Run from the same arguments, call and reference end with the same activation, and with their arguments unchanged. -/
theorem algebraic : Cert.algebraic_Kernel17Ideal_Reference17Ideal := by
  intro m g m' g' _ hs
  refine ⟨fun c => act (Cert.Kernel17Ideal.Conv.argA m c) (Cert.Kernel17Ideal.Conv.argW m c) (Cert.Kernel17Ideal.Conv.argB m c), ?_, ?_⟩
  · exact (θ_run _ _ _).mono (fun r h c => ⟨(h c).1.trans (Cert.Kernel17Ideal.Conv.out m c), (h c).2⟩) (Cert.Kernel17Ideal.Value.run_blocks m g)
  · refine (θ_run _ _ _).mono (fun r h c => ⟨(h c).1.trans ?_, (h c).2⟩) (Cert.Reference17Ideal.Value.run (F := Ideal) m' g')
    refine (value m' c).trans ?_
    rw [(hs c).1, (hs c).2.1, (hs c).2.2]

end Cert.ConvAct

end
-- ==== Proof.lean ====
/-
  The claims: the attention backward runs to the end and leaves its arguments and every semaphore as they were, at the bits and
  over the reals, and so does the reference; and over the reals, at finite arguments, the two end with the same five gradients.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.UpDw
public import proofs.«01_k».proof.Proof.UpDx
public import proofs.«01_k».proof.Proof.Up
public import proofs.«01_k».proof.Proof.InDw
public import proofs.«01_k».proof.Proof.InDx
public import proofs.«01_k».proof.Proof.Qkv
public import proofs.«01_k».proof.Proof.DownDw
public import proofs.«01_k».proof.Proof.DownDx
public import proofs.«01_k».proof.Proof.Down
public import proofs.«01_k».proof.Proof.OutDw
public import proofs.«01_k».proof.Proof.OutDx
public import proofs.«01_k».proof.Proof.Out
public import proofs.«01_k».proof.Proof.GateLogits
public import proofs.«01_k».proof.Proof.ResidNorm
public import proofs.«01_k».proof.Proof.PreNorm
public import proofs.«01_k».proof.Proof.ConvAct
public import Idealize.ShloMosaic.Adequacy
public import Idealize.ShloMosaic.Init

@[expose] public section

noncomputable section

namespace Cert.Proof

open Idealize.ShloMosaic Idealize.SL.Sem

/-- The precondition's scalars broadcast to the arguments' shapes. -/
theorem facts : Cert.Pre_finite.Facts where
  bcast_S_S4224x6144 := by decide
  bcast_S_S8x128 := by decide
  bcast_S_S8x4224 := by decide
  bcast_S_S4224x1024 := by decide

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    facts,
    Cert.Frames.kernel, Cert.Frames.kernelIdeal, fun m g _ => Cert.Frames.kernelIdeal m g trivial,
    Cert.Frames.referenceIdeal, fun m g _ => Cert.Frames.referenceIdeal m g trivial,
    fun m g _ => Cert.Kernel2.Gen.frame m g, fun m g _ => Cert.Kernel2Ideal.Gen.frame m g, Cert.UpDw.referenceFrame,
    fun m g _ => Cert.Kernel3.Gen.frame m g, fun m g _ => Cert.Kernel3Ideal.Gen.frame m g, Cert.UpDx.referenceFrame,
    fun m g _ => Cert.Kernel4.Gen.frame m g, fun m g _ => Cert.Kernel4Ideal.Gen.frame m g, Cert.Up.referenceFrame,
    fun m g _ => Cert.Kernel5.Gen.frame m g, fun m g _ => Cert.Kernel5Ideal.Gen.frame m g, Cert.InDw.referenceFrame,
    fun m g _ => Cert.Kernel6.Gen.frame m g, fun m g _ => Cert.Kernel6Ideal.Gen.frame m g, Cert.InDx.referenceFrame,
    fun m g _ => Cert.Kernel7.Gen.frame m g, fun m g _ => Cert.Kernel7Ideal.Gen.frame m g, Cert.Qkv.referenceFrame,
    fun m g _ => Cert.Kernel8.Gen.frame m g, fun m g _ => Cert.Kernel8Ideal.Gen.frame m g, Cert.DownDw.referenceFrame,
    fun m g _ => Cert.Kernel9.Gen.frame m g, fun m g _ => Cert.Kernel9Ideal.Gen.frame m g, Cert.DownDx.referenceFrame,
    fun m g _ => Cert.Kernel10.Gen.frame m g, fun m g _ => Cert.Kernel10Ideal.Gen.frame m g, Cert.Down.referenceFrame,
    fun m g _ => Cert.Kernel11.Gen.frame m g, fun m g _ => Cert.Kernel11Ideal.Gen.frame m g, Cert.OutDw.referenceFrame,
    fun m g _ => Cert.Kernel12.Gen.frame m g, fun m g _ => Cert.Kernel12Ideal.Gen.frame m g, Cert.OutDx.referenceFrame,
    fun m g _ => Cert.Kernel13.Gen.frame m g, fun m g _ => Cert.Kernel13Ideal.Gen.frame m g, Cert.Out.referenceFrame,
    fun m g _ => Cert.Kernel14.Gen.frame m g, fun m g _ => Cert.Kernel14Ideal.Gen.frame m g, Cert.GateLogits.referenceFrame,
    fun m g _ => Cert.Kernel15.Gen.frame m g, fun m g _ => Cert.Kernel15Ideal.Gen.frame m g, Cert.ResidNorm.referenceFrame,
    fun m g _ => Cert.Kernel16.Gen.frame m g, fun m g _ => Cert.Kernel16Ideal.Gen.frame m g, Cert.PreNorm.referenceFrame,
    fun m g _ => Cert.Kernel17.Gen.frame m g, fun m g _ => Cert.Kernel17Ideal.Gen.frame m g, Cert.ConvAct.referenceFrame,
    trivial, Cert.Values.algebraic (hPre_finite := facts),
    trivial, Cert.UpDw.algebraic,
    trivial, Cert.UpDx.algebraic,
    trivial, Cert.Up.algebraic,
    trivial, Cert.InDw.algebraic,
    trivial, Cert.InDx.algebraic,
    trivial, Cert.Qkv.algebraic,
    trivial, Cert.DownDw.algebraic,
    trivial, Cert.DownDx.algebraic,
    trivial, Cert.Down.algebraic,
    trivial, Cert.OutDw.algebraic,
    trivial, Cert.OutDx.algebraic,
    trivial, Cert.Out.algebraic,
    trivial, Cert.GateLogits.algebraic,
    trivial, Cert.ResidNorm.algebraic,
    trivial, Cert.PreNorm.algebraic,
    trivial, Cert.ConvAct.algebraic⟩

end Cert.Proof

end
